-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 4096]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.blockN ⟨2, ![2048, 8192]⟩ ⟨2, ![4096, 8192]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x8192 : Shape := ⟨2, ![4096, 8192]⟩
abbrev S_ : Shape := ⟨0, ![]⟩
abbrev S4096x1024 : Shape := ⟨2, ![4096, 1024]⟩
abbrev S2048x8192 : Shape := ⟨2, ![2048, 8192]⟩
abbrev S4096x512 : Shape := ⟨2, ![4096, 512]⟩
abbrev S4096x256 : Shape := ⟨2, ![4096, 256]⟩
abbrev S2x4096x256 : Shape := ⟨3, ![2, 4096, 256]⟩
abbrev S4x2048x256 : Shape := ⟨3, ![4, 2048, 256]⟩
abbrev S4 : Shape := ⟨1, ![4]⟩
abbrev S16 : Shape := ⟨1, ![16]⟩
abbrev S12 : Shape := ⟨1, ![12]⟩
abbrev S512x256 : Shape := ⟨2, ![512, 256]⟩
abbrev S1x512x256 : Shape := ⟨3, ![1, 512, 256]⟩
abbrev S1 : Shape := ⟨1, ![1]⟩
abbrev S1x2048x256 : Shape := ⟨3, ![1, 2048, 256]⟩
abbrev S2048x256 : Shape := ⟨2, ![2048, 256]⟩

abbrev nBuf : Space → Nat
  | .hbm => 29
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4096x1024, .f32⟩
  | .hbm, ⟨28, _⟩ => ⟨S2048x8192, .f32⟩
  | .local _ .vmem, ⟨0, _⟩ => ⟨S4096x512, .f32⟩
  | .local _ .vmem, ⟨1, _⟩ => ⟨S4096x512, .f32⟩
  | .local _ .vmem, ⟨2, _⟩ => ⟨S4096x256, .f32⟩
  | .local _ .vmem, ⟨3, _⟩ => ⟨S4096x256, .f32⟩
  | .local _ .vmem, ⟨4, _⟩ => ⟨S2x4096x256, .f32⟩
  | .local _ .vmem, ⟨5, _⟩ => ⟨S4x2048x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 16
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32_27 : BitVec 32 := 0#32
  let v46 : BitVec 1 := Scalar.cmpi .eq arg0 c0_i32_27
  let arg1 : BitVec 32 := BitVec.ofNat 32 (i 1).val
  let c0_i32_28 : BitVec 32 := 0#32
  let v47 : BitVec 1 := Scalar.cmpi .eq arg1 c0_i32_28
  let v48 : BitVec 1 := Scalar.andi v46 v47
  let v49 : BitVec 32 := Scalar.extui v48
  let c0_i32_29 : BitVec 32 := 0#32
  let v50 : BitVec 1 := Scalar.cmpi .ne v49 c0_i32_29
  v50

def k0_dev1 (d0 : Dev nD) : Nat :=
  let c0_i32_72 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_71 : BitVec 32 := 8#32
  let v123 : BitVec 32 := Scalar.muli v45 c8_i32_71
  let v124 : BitVec 32 := Scalar.addi c0_i32_72 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v125 : BitVec 32 := Scalar.muli v5 c4_i32_73
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v127 : BitVec 32 := Scalar.muli v8 c1_i32_74
  let v128 : BitVec 32 := Scalar.addi v126 v127
  v128.toNat
def k0_dev2 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_76 : BitVec 32 := 8#32
  let v129 : BitVec 32 := Scalar.muli v2 c8_i32_76
  let v130 : BitVec 32 := Scalar.addi c0_i32_77 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_78 : BitVec 32 := 4#32
  let v131 : BitVec 32 := Scalar.muli v41 c4_i32_78
  let v132 : BitVec 32 := Scalar.addi v130 v131
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_79 : BitVec 32 := 1#32
  let v133 : BitVec 32 := Scalar.muli v44 c1_i32_79
  let v134 : BitVec 32 := Scalar.addi v132 v133
  v134.toNat
def k0_dev3 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v135 : BitVec 32 := Scalar.muli v2 c8_i32_81
  let v136 : BitVec 32 := Scalar.addi c0_i32_82 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_83 : BitVec 32 := 4#32
  let v137 : BitVec 32 := Scalar.muli v24 c4_i32_83
  let v138 : BitVec 32 := Scalar.addi v136 v137
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_84 : BitVec 32 := 1#32
  let v139 : BitVec 32 := Scalar.muli v27 c1_i32_84
  let v140 : BitVec 32 := Scalar.addi v138 v139
  v140.toNat
def k0_off1 (i : grid0.Coords) : Fin 3 → Nat :=
  let arg0 : BitVec 32 := BitVec.ofNat 32 (i 0).val
  let c2_i32_33 : BitVec 32 := 2#32
  let c0_i32_34 : BitVec 32 := 0#32
  let v56 : BitVec 1 := Scalar.cmpi .eq c2_i32_33 c0_i32_34
  let c1_i32_35 : BitVec 32 := 1#32
  let v57 : BitVec 32 := Scalar.select v56 c1_i32_35 c2_i32_33
  let v58 : BitVec 32 := Scalar.remsi arg0 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let v67 : Index := Scalar.indexCast v65
  let arg1 : BitVec 32 := BitVec.ofNat 32 (i 1).val
  let c512_i32 : BitVec 32 := 512#32
  let v66 : BitVec 32 := Scalar.muli arg1 c512_i32
  let v68 : Index := Scalar.indexCast v66
  let c0_39 : Index := 0#32
  ![v67.toNat, v68.toNat, 0]
def k0_cond2 (i : grid0.Coords) : BitVec 1 :=
  let arg0 : BitVec 32 := BitVec.ofNat 32 (i 0).val
  let c0_i32_40 : BitVec 32 := 0#32
  let v72 : BitVec 1 := Scalar.cmpi .eq arg0 c0_i32_40
  let arg1 : BitVec 32 := BitVec.ofNat 32 (i 1).val
  let c7_i32_41 : BitVec 32 := 7#32
  let v73 : BitVec 1 := Scalar.cmpi .eq arg1 c7_i32_41
  let v74 : BitVec 1 := Scalar.andi v72 v73
  let v75 : BitVec 32 := Scalar.extui v74
  let c0_i32_42 : BitVec 32 := 0#32
  let v76 : BitVec 1 := Scalar.cmpi .ne v75 c0_i32_42
  v76

def k0_off2 (d0 : Dev nD) : Fin 3 → Nat :=
  let c0_i32_70 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_80 : BitVec 32 := 0#32
  ![0, v122.toNat, 0]
def k0_dev4 (d0 : Dev nD) : Nat :=
  let c0_i32_75 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_74 : BitVec 32 := 8#32
  let v123 : BitVec 32 := Scalar.muli v45 c8_i32_74
  let v124 : BitVec 32 := Scalar.addi c0_i32_75 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v125 : BitVec 32 := Scalar.muli v5 c4_i32_76
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v127 : BitVec 32 := Scalar.muli v8 c1_i32_77
  let v128 : BitVec 32 := Scalar.addi v126 v127
  v128.toNat
def k0_cond3 (i : grid0.Coords) : BitVec 1 :=
  let arg0 : BitVec 32 := BitVec.ofNat 32 (i 0).val
  let c1_i32_43 : BitVec 32 := 1#32
  let v77 : BitVec 1 := Scalar.cmpi .eq arg0 c1_i32_43
  let arg1 : BitVec 32 := BitVec.ofNat 32 (i 1).val
  let c7_i32_44 : BitVec 32 := 7#32
  let v78 : BitVec 1 := Scalar.cmpi .eq arg1 c7_i32_44
  let v79 : BitVec 1 := Scalar.andi v77 v78
  let v80 : BitVec 32 := Scalar.extui v79
  let c0_i32_45 : BitVec 32 := 0#32
  let v81 : BitVec 1 := Scalar.cmpi .ne v80 c0_i32_45
  v81

def k0_off3 (d0 : Dev nD) : Fin 3 → Nat :=
  let c1_i32_70 : BitVec 32 := 1#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_80 : BitVec 32 := 0#32
  ![1, v122.toNat, 0]
def k0_dev5 (d0 : Dev nD) : Nat :=
  let c0_i32_75 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_74 : BitVec 32 := 8#32
  let v123 : BitVec 32 := Scalar.muli v45 c8_i32_74
  let v124 : BitVec 32 := Scalar.addi c0_i32_75 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v125 : BitVec 32 := Scalar.muli v5 c4_i32_76
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v127 : BitVec 32 := Scalar.muli v8 c1_i32_77
  let v128 : BitVec 32 := Scalar.addi v126 v127
  v128.toNat
def k0_cond4 (i : grid0.Coords) : BitVec 1 :=
  let arg0 : BitVec 32 := BitVec.ofNat 32 (i 0).val
  let c2_i32_46 : BitVec 32 := 2#32
  let v82 : BitVec 1 := Scalar.cmpi .eq arg0 c2_i32_46
  let arg1 : BitVec 32 := BitVec.ofNat 32 (i 1).val
  let c7_i32_47 : BitVec 32 := 7#32
  let v83 : BitVec 1 := Scalar.cmpi .eq arg1 c7_i32_47
  let v84 : BitVec 1 := Scalar.andi v82 v83
  let v85 : BitVec 32 := Scalar.extui v84
  let c0_i32_48 : BitVec 32 := 0#32
  let v86 : BitVec 1 := Scalar.cmpi .ne v85 c0_i32_48
  v86

def k0_off4 (d0 : Dev nD) : Fin 3 → Nat :=
  let c0_i32_70 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_80 : BitVec 32 := 0#32
  ![0, v122.toNat, 0]
def k0_dev6 (d0 : Dev nD) : Nat :=
  let c0_i32_75 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_74 : BitVec 32 := 8#32
  let v123 : BitVec 32 := Scalar.muli v45 c8_i32_74
  let v124 : BitVec 32 := Scalar.addi c0_i32_75 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v125 : BitVec 32 := Scalar.muli v5 c4_i32_76
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v127 : BitVec 32 := Scalar.muli v8 c1_i32_77
  let v128 : BitVec 32 := Scalar.addi v126 v127
  v128.toNat
def k0_cond5 (i : grid0.Coords) : BitVec 1 :=
  let arg0 : BitVec 32 := BitVec.ofNat 32 (i 0).val
  let c3_i32_49 : BitVec 32 := 3#32
  let v87 : BitVec 1 := Scalar.cmpi .eq arg0 c3_i32_49
  let arg1 : BitVec 32 := BitVec.ofNat 32 (i 1).val
  let c7_i32_50 : BitVec 32 := 7#32
  let v88 : BitVec 1 := Scalar.cmpi .eq arg1 c7_i32_50
  let v89 : BitVec 1 := Scalar.andi v87 v88
  let v90 : BitVec 32 := Scalar.extui v89
  let c0_i32_51 : BitVec 32 := 0#32
  let v91 : BitVec 1 := Scalar.cmpi .ne v90 c0_i32_51
  v91

def k0_off5 (d0 : Dev nD) : Fin 3 → Nat :=
  let c1_i32_70 : BitVec 32 := 1#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_80 : BitVec 32 := 0#32
  ![1, v122.toNat, 0]
def k0_dev7 (d0 : Dev nD) : Nat :=
  let c0_i32_75 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_74 : BitVec 32 := 8#32
  let v123 : BitVec 32 := Scalar.muli v45 c8_i32_74
  let v124 : BitVec 32 := Scalar.addi c0_i32_75 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v125 : BitVec 32 := Scalar.muli v5 c4_i32_76
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v127 : BitVec 32 := Scalar.muli v8 c1_i32_77
  let v128 : BitVec 32 := Scalar.addi v126 v127
  v128.toNat
def k0_cond6 (i : grid0.Coords) : BitVec 1 :=
  let arg0 : BitVec 32 := BitVec.ofNat 32 (i 0).val
  let c1_i32_52 : BitVec 32 := 1#32
  let v92 : BitVec 1 := Scalar.cmpi .eq arg0 c1_i32_52
  let arg1 : BitVec 32 := BitVec.ofNat 32 (i 1).val
  let c3_i32_53 : BitVec 32 := 3#32
  let v93 : BitVec 1 := Scalar.cmpi .eq arg1 c3_i32_53
  let v94 : BitVec 1 := Scalar.andi v92 v93
  let v95 : BitVec 32 := Scalar.extui v94
  let c0_i32_54 : BitVec 32 := 0#32
  let v96 : BitVec 1 := Scalar.cmpi .ne v95 c0_i32_54
  v96

def k0_off6 (d0 : Dev nD) : Fin 3 → Nat :=
  let c0_i32_71 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_75 : BitVec 32 := 0#32
  ![0, v122.toNat, 0]
def k0_off7 (d0 : Dev nD) : Fin 3 → Nat :=
  let c0_93 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_92 : BitVec 32 := 2048#32
  let v143 : BitVec 32 := Scalar.muli v2 c2048_i32_92
  let v144 : Index := Scalar.indexCast v143
  let c0_94 : Index := 0#32
  ![0, v144.toNat, 0]
def k0_off8 (d0 : Dev nD) : Fin 2 → Nat :=
  let c0_i32_101 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v151 : BitVec 32 := Scalar.muli v11 c1024_i32
  let c0_i32_98 : BitVec 32 := 0#32
  let v152 : BitVec 32 := Scalar.addi v151 c0_i32_98
  ![0, v152.toNat]
def k0_off9 (d0 : Dev nD) : Fin 2 → Nat :=
  let c0_i32_125 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_109 : BitVec 32 := 8#32
  let v163 : BitVec 32 := Scalar.addi v11 c8_i32_109
  let c0_i32_110 : BitVec 32 := 0#32
  let v164 : BitVec 32 := Scalar.subi v163 c0_i32_110
  let c8_i32_111 : BitVec 32 := 8#32
  let c0_i32_112 : BitVec 32 := 0#32
  let v165 : BitVec 1 := Scalar.cmpi .eq c8_i32_111 c0_i32_112
  let c1_i32_113 : BitVec 32 := 1#32
  let v166 : BitVec 32 := Scalar.select v165 c1_i32_113 c8_i32_111
  let v167 : BitVec 32 := Scalar.remsi v164 v166
  let c0_i32_115 : BitVec 32 := 0#32
  let v169 : BitVec 1 := Scalar.cmpi .slt v167 c0_i32_115
  let c0_i32_116 : BitVec 32 := 0#32
  let v170 : BitVec 1 := Scalar.cmpi .slt v166 c0_i32_116
  let v171 : BitVec 1 := Scalar.xori v169 v170
  let c0_i32_114 : BitVec 32 := 0#32
  let v168 : BitVec 1 := Scalar.cmpi .ne v167 c0_i32_114
  let v172 : BitVec 1 := Scalar.andi v171 v168
  let v173 : BitVec 32 := Scalar.addi v167 v166
  let v174 : BitVec 32 := Scalar.select v172 v173 v167
  let c1024_i32_117 : BitVec 32 := 1024#32
  let v175 : BitVec 32 := Scalar.muli v174 c1024_i32_117
  let c0_i32_118 : BitVec 32 := 0#32
  let v176 : BitVec 32 := Scalar.addi v175 c0_i32_118
  ![0, v176.toNat]
def k0_dev8 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v177 : BitVec 32 := Scalar.muli v2 c8_i32_121
  let v178 : BitVec 32 := Scalar.addi c0_i32_122 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_123 : BitVec 32 := 4#32
  let v179 : BitVec 32 := Scalar.muli v24 c4_i32_123
  let v180 : BitVec 32 := Scalar.addi v178 v179
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_124 : BitVec 32 := 1#32
  let v181 : BitVec 32 := Scalar.muli v27 c1_i32_124
  let v182 : BitVec 32 := Scalar.addi v180 v181
  v182.toNat
def k0_off10 (d0 : Dev nD) : Fin 2 → Nat :=
  let c0_i32_142 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c0_i32_127 : BitVec 32 := 0#32
  let v189 : BitVec 32 := Scalar.addi v11 c0_i32_127
  let c8_i32_128 : BitVec 32 := 8#32
  let c0_i32_129 : BitVec 32 := 0#32
  let v190 : BitVec 1 := Scalar.cmpi .eq c8_i32_128 c0_i32_129
  let c1_i32_130 : BitVec 32 := 1#32
  let v191 : BitVec 32 := Scalar.select v190 c1_i32_130 c8_i32_128
  let v192 : BitVec 32 := Scalar.remsi v189 v191
  let c0_i32_132 : BitVec 32 := 0#32
  let v194 : BitVec 1 := Scalar.cmpi .slt v192 c0_i32_132
  let c0_i32_133 : BitVec 32 := 0#32
  let v195 : BitVec 1 := Scalar.cmpi .slt v191 c0_i32_133
  let v196 : BitVec 1 := Scalar.xori v194 v195
  let c0_i32_131 : BitVec 32 := 0#32
  let v193 : BitVec 1 := Scalar.cmpi .ne v192 c0_i32_131
  let v197 : BitVec 1 := Scalar.andi v196 v193
  let v198 : BitVec 32 := Scalar.addi v192 v191
  let v199 : BitVec 32 := Scalar.select v197 v198 v192
  let c1024_i32_134 : BitVec 32 := 1024#32
  let v200 : BitVec 32 := Scalar.muli v199 c1024_i32_134
  let c0_i32_135 : BitVec 32 := 0#32
  let v201 : BitVec 32 := Scalar.addi v200 c0_i32_135
  ![0, v201.toNat]
def k0_dev9 (d0 : Dev nD) : Nat :=
  let c0_i32_139 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_138 : BitVec 32 := 8#32
  let v202 : BitVec 32 := Scalar.muli v2 c8_i32_138
  let v203 : BitVec 32 := Scalar.addi c0_i32_139 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_140 : BitVec 32 := 4#32
  let v204 : BitVec 32 := Scalar.muli v41 c4_i32_140
  let v205 : BitVec 32 := Scalar.addi v203 v204
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_141 : BitVec 32 := 1#32
  let v206 : BitVec 32 := Scalar.muli v44 c1_i32_141
  let v207 : BitVec 32 := Scalar.addi v205 v206
  v207.toNat
def k0_cond7 (i : grid0.Coords) : BitVec 1 :=
  let arg0 : BitVec 32 := BitVec.ofNat 32 (i 0).val
  let c1_i32_55 : BitVec 32 := 1#32
  let v97 : BitVec 1 := Scalar.cmpi .eq arg0 c1_i32_55
  let arg1 : BitVec 32 := BitVec.ofNat 32 (i 1).val
  let c7_i32_56 : BitVec 32 := 7#32
  let v98 : BitVec 1 := Scalar.cmpi .eq arg1 c7_i32_56
  let v99 : BitVec 1 := Scalar.andi v97 v98
  let v100 : BitVec 32 := Scalar.extui v99
  let c0_i32_57 : BitVec 32 := 0#32
  let v101 : BitVec 1 := Scalar.cmpi .ne v100 c0_i32_57
  v101

def k0_off11 (d0 : Dev nD) (c0_i32_71 : BitVec 32) : Fin 2 → Nat :=
  let c0_i32_82 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_70 : BitVec 32 := 8#32
  let v122 : BitVec 32 := Scalar.addi v11 c8_i32_70
  let v123 : BitVec 32 := Scalar.subi v122 c0_i32_71
  let c8_i32_72 : BitVec 32 := 8#32
  let c0_i32_73 : BitVec 32 := 0#32
  let v124 : BitVec 1 := Scalar.cmpi .eq c8_i32_72 c0_i32_73
  let c1_i32_74 : BitVec 32 := 1#32
  let v125 : BitVec 32 := Scalar.select v124 c1_i32_74 c8_i32_72
  let v126 : BitVec 32 := Scalar.remsi v123 v125
  let c0_i32_76 : BitVec 32 := 0#32
  let v128 : BitVec 1 := Scalar.cmpi .slt v126 c0_i32_76
  let c0_i32_77 : BitVec 32 := 0#32
  let v129 : BitVec 1 := Scalar.cmpi .slt v125 c0_i32_77
  let v130 : BitVec 1 := Scalar.xori v128 v129
  let c0_i32_75 : BitVec 32 := 0#32
  let v127 : BitVec 1 := Scalar.cmpi .ne v126 c0_i32_75
  let v131 : BitVec 1 := Scalar.andi v130 v127
  let v132 : BitVec 32 := Scalar.addi v126 v125
  let v133 : BitVec 32 := Scalar.select v131 v132 v126
  let c1024_i32 : BitVec 32 := 1024#32
  let v134 : BitVec 32 := Scalar.muli v133 c1024_i32
  let c0_i32_78 : BitVec 32 := 0#32
  let v135 : BitVec 32 := Scalar.addi v134 c0_i32_78
  ![0, v135.toNat]
def k0_dev10 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v164 : BitVec 32 := Scalar.muli v2 c8_i32_104
  let v165 : BitVec 32 := Scalar.addi c0_i32_105 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_106 : BitVec 32 := 4#32
  let v166 : BitVec 32 := Scalar.muli v24 c4_i32_106
  let v167 : BitVec 32 := Scalar.addi v165 v166
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_107 : BitVec 32 := 1#32
  let v168 : BitVec 32 := Scalar.muli v27 c1_i32_107
  let v169 : BitVec 32 := Scalar.addi v167 v168
  v169.toNat
def k0_off12 (d0 : Dev nD) (c0_i32_110 : BitVec 32) : Fin 2 → Nat :=
  let c0_i32_122 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v176 : BitVec 32 := Scalar.addi v11 c0_i32_110
  let c8_i32_111 : BitVec 32 := 8#32
  let c0_i32_112 : BitVec 32 := 0#32
  let v177 : BitVec 1 := Scalar.cmpi .eq c8_i32_111 c0_i32_112
  let c1_i32_113 : BitVec 32 := 1#32
  let v178 : BitVec 32 := Scalar.select v177 c1_i32_113 c8_i32_111
  let v179 : BitVec 32 := Scalar.remsi v176 v178
  let c0_i32_115 : BitVec 32 := 0#32
  let v181 : BitVec 1 := Scalar.cmpi .slt v179 c0_i32_115
  let c0_i32_116 : BitVec 32 := 0#32
  let v182 : BitVec 1 := Scalar.cmpi .slt v178 c0_i32_116
  let v183 : BitVec 1 := Scalar.xori v181 v182
  let c0_i32_114 : BitVec 32 := 0#32
  let v180 : BitVec 1 := Scalar.cmpi .ne v179 c0_i32_114
  let v184 : BitVec 1 := Scalar.andi v183 v180
  let v185 : BitVec 32 := Scalar.addi v179 v178
  let v186 : BitVec 32 := Scalar.select v184 v185 v179
  let c1024_i32_117 : BitVec 32 := 1024#32
  let v187 : BitVec 32 := Scalar.muli v186 c1024_i32_117
  let c0_i32_118 : BitVec 32 := 0#32
  let v188 : BitVec 32 := Scalar.addi v187 c0_i32_118
  ![0, v188.toNat]
def k0_dev11 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v216 : BitVec 32 := Scalar.muli v2 c8_i32_143
  let v217 : BitVec 32 := Scalar.addi c0_i32_144 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_145 : BitVec 32 := 4#32
  let v218 : BitVec 32 := Scalar.muli v41 c4_i32_145
  let v219 : BitVec 32 := Scalar.addi v217 v218
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_146 : BitVec 32 := 1#32
  let v220 : BitVec 32 := Scalar.muli v44 c1_i32_146
  let v221 : BitVec 32 := Scalar.addi v219 v220
  v221.toNat
def k0_cond8 (i : grid0.Coords) : BitVec 1 :=
  let arg0 : BitVec 32 := BitVec.ofNat 32 (i 0).val
  let c2_i32_58 : BitVec 32 := 2#32
  let v102 : BitVec 1 := Scalar.cmpi .eq arg0 c2_i32_58
  let arg1 : BitVec 32 := BitVec.ofNat 32 (i 1).val
  let c3_i32_59 : BitVec 32 := 3#32
  let v103 : BitVec 1 := Scalar.cmpi .eq arg1 c3_i32_59
  let v104 : BitVec 1 := Scalar.andi v102 v103
  let v105 : BitVec 32 := Scalar.extui v104
  let c0_i32_60 : BitVec 32 := 0#32
  let v106 : BitVec 1 := Scalar.cmpi .ne v105 c0_i32_60
  v106

def k0_off13 (d0 : Dev nD) : Fin 3 → Nat :=
  let c1_i32_71 : BitVec 32 := 1#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_75 : BitVec 32 := 0#32
  ![1, v122.toNat, 0]
def k0_off14 (d0 : Dev nD) : Fin 3 → Nat :=
  let c1_92 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_91 : BitVec 32 := 2048#32
  let v143 : BitVec 32 := Scalar.muli v2 c2048_i32_91
  let v144 : Index := Scalar.indexCast v143
  let c0_93 : Index := 0#32
  ![1, v144.toNat, 0]
def k0_off15 (d0 : Dev nD) : Fin 2 → Nat :=
  let c0_i32_99 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v151 : BitVec 32 := Scalar.muli v11 c1024_i32
  let c256_i32 : BitVec 32 := 256#32
  let v152 : BitVec 32 := Scalar.addi v151 c256_i32
  ![0, v152.toNat]
def k0_off16 (d0 : Dev nD) (c0_i32_108 : BitVec 32) (c256_i32_116 : BitVec 32) : Fin 2 → Nat :=
  let c0_i32_123 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_107 : BitVec 32 := 8#32
  let v163 : BitVec 32 := Scalar.addi v11 c8_i32_107
  let v164 : BitVec 32 := Scalar.subi v163 c0_i32_108
  let c8_i32_109 : BitVec 32 := 8#32
  let c0_i32_110 : BitVec 32 := 0#32
  let v165 : BitVec 1 := Scalar.cmpi .eq c8_i32_109 c0_i32_110
  let c1_i32_111 : BitVec 32 := 1#32
  let v166 : BitVec 32 := Scalar.select v165 c1_i32_111 c8_i32_109
  let v167 : BitVec 32 := Scalar.remsi v164 v166
  let c0_i32_113 : BitVec 32 := 0#32
  let v169 : BitVec 1 := Scalar.cmpi .slt v167 c0_i32_113
  let c0_i32_114 : BitVec 32 := 0#32
  let v170 : BitVec 1 := Scalar.cmpi .slt v166 c0_i32_114
  let v171 : BitVec 1 := Scalar.xori v169 v170
  let c0_i32_112 : BitVec 32 := 0#32
  let v168 : BitVec 1 := Scalar.cmpi .ne v167 c0_i32_112
  let v172 : BitVec 1 := Scalar.andi v171 v168
  let v173 : BitVec 32 := Scalar.addi v167 v166
  let v174 : BitVec 32 := Scalar.select v172 v173 v167
  let c1024_i32_115 : BitVec 32 := 1024#32
  let v175 : BitVec 32 := Scalar.muli v174 c1024_i32_115
  let v176 : BitVec 32 := Scalar.addi v175 c256_i32_116
  ![0, v176.toNat]
def k0_off16_at (r : Fin 3) : BitVec 32 × BitVec 32 :=
  if r.val < 1 then
    (0#32, 256#32)
  else
    if r.val < 2 then
      (1#32, 0#32)
    else
      (2#32, 0#32)
def k0_dev12 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v177 : BitVec 32 := Scalar.muli v2 c8_i32_119
  let v178 : BitVec 32 := Scalar.addi c0_i32_120 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_121 : BitVec 32 := 4#32
  let v179 : BitVec 32 := Scalar.muli v24 c4_i32_121
  let v180 : BitVec 32 := Scalar.addi v178 v179
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_122 : BitVec 32 := 1#32
  let v181 : BitVec 32 := Scalar.muli v27 c1_i32_122
  let v182 : BitVec 32 := Scalar.addi v180 v181
  v182.toNat
def k0_off17 (d0 : Dev nD) (c0_i32_125 : BitVec 32) (c256_i32_133 : BitVec 32) : Fin 2 → Nat :=
  let c0_i32_140 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v189 : BitVec 32 := Scalar.addi v11 c0_i32_125
  let c8_i32_126 : BitVec 32 := 8#32
  let c0_i32_127 : BitVec 32 := 0#32
  let v190 : BitVec 1 := Scalar.cmpi .eq c8_i32_126 c0_i32_127
  let c1_i32_128 : BitVec 32 := 1#32
  let v191 : BitVec 32 := Scalar.select v190 c1_i32_128 c8_i32_126
  let v192 : BitVec 32 := Scalar.remsi v189 v191
  let c0_i32_130 : BitVec 32 := 0#32
  let v194 : BitVec 1 := Scalar.cmpi .slt v192 c0_i32_130
  let c0_i32_131 : BitVec 32 := 0#32
  let v195 : BitVec 1 := Scalar.cmpi .slt v191 c0_i32_131
  let v196 : BitVec 1 := Scalar.xori v194 v195
  let c0_i32_129 : BitVec 32 := 0#32
  let v193 : BitVec 1 := Scalar.cmpi .ne v192 c0_i32_129
  let v197 : BitVec 1 := Scalar.andi v196 v193
  let v198 : BitVec 32 := Scalar.addi v192 v191
  let v199 : BitVec 32 := Scalar.select v197 v198 v192
  let c1024_i32_132 : BitVec 32 := 1024#32
  let v200 : BitVec 32 := Scalar.muli v199 c1024_i32_132
  let v201 : BitVec 32 := Scalar.addi v200 c256_i32_133
  ![0, v201.toNat]
def k0_off17_at (r : Fin 3) : BitVec 32 × BitVec 32 :=
  if r.val < 1 then
    (0#32, 256#32)
  else
    if r.val < 2 then
      (1#32, 0#32)
    else
      (2#32, 0#32)
def k0_dev13 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v202 : BitVec 32 := Scalar.muli v2 c8_i32_136
  let v203 : BitVec 32 := Scalar.addi c0_i32_137 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_138 : BitVec 32 := 4#32
  let v204 : BitVec 32 := Scalar.muli v41 c4_i32_138
  let v205 : BitVec 32 := Scalar.addi v203 v204
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_139 : BitVec 32 := 1#32
  let v206 : BitVec 32 := Scalar.muli v44 c1_i32_139
  let v207 : BitVec 32 := Scalar.addi v205 v206
  v207.toNat
def k0_dev14 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v256 : BitVec 32 := Scalar.muli v2 c8_i32_177
  let v257 : BitVec 32 := Scalar.addi c0_i32_178 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_179 : BitVec 32 := 4#32
  let v258 : BitVec 32 := Scalar.muli v24 c4_i32_179
  let v259 : BitVec 32 := Scalar.addi v257 v258
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_180 : BitVec 32 := 1#32
  let v260 : BitVec 32 := Scalar.muli v27 c1_i32_180
  let v261 : BitVec 32 := Scalar.addi v259 v260
  v261.toNat
def k0_dev15 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v308 : BitVec 32 := Scalar.muli v2 c8_i32_216
  let v309 : BitVec 32 := Scalar.addi c0_i32_217 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_218 : BitVec 32 := 4#32
  let v310 : BitVec 32 := Scalar.muli v41 c4_i32_218
  let v311 : BitVec 32 := Scalar.addi v309 v310
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_219 : BitVec 32 := 1#32
  let v312 : BitVec 32 := Scalar.muli v44 c1_i32_219
  let v313 : BitVec 32 := Scalar.addi v311 v312
  v313.toNat
def k0_cond9 (i : grid0.Coords) : BitVec 1 :=
  let arg0 : BitVec 32 := BitVec.ofNat 32 (i 0).val
  let c2_i32_61 : BitVec 32 := 2#32
  let v107 : BitVec 1 := Scalar.cmpi .eq arg0 c2_i32_61
  let arg1 : BitVec 32 := BitVec.ofNat 32 (i 1).val
  let c7_i32_62 : BitVec 32 := 7#32
  let v108 : BitVec 1 := Scalar.cmpi .eq arg1 c7_i32_62
  let v109 : BitVec 1 := Scalar.andi v107 v108
  let v110 : BitVec 32 := Scalar.extui v109
  let c0_i32_63 : BitVec 32 := 0#32
  let v111 : BitVec 1 := Scalar.cmpi .ne v110 c0_i32_63
  v111

def k0_off18 (d0 : Dev nD) (c0_i32_71 : BitVec 32) (c256_i32 : BitVec 32) : Fin 2 → Nat :=
  let c0_i32_81 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_70 : BitVec 32 := 8#32
  let v122 : BitVec 32 := Scalar.addi v11 c8_i32_70
  let v123 : BitVec 32 := Scalar.subi v122 c0_i32_71
  let c8_i32_72 : BitVec 32 := 8#32
  let c0_i32_73 : BitVec 32 := 0#32
  let v124 : BitVec 1 := Scalar.cmpi .eq c8_i32_72 c0_i32_73
  let c1_i32_74 : BitVec 32 := 1#32
  let v125 : BitVec 32 := Scalar.select v124 c1_i32_74 c8_i32_72
  let v126 : BitVec 32 := Scalar.remsi v123 v125
  let c0_i32_76 : BitVec 32 := 0#32
  let v128 : BitVec 1 := Scalar.cmpi .slt v126 c0_i32_76
  let c0_i32_77 : BitVec 32 := 0#32
  let v129 : BitVec 1 := Scalar.cmpi .slt v125 c0_i32_77
  let v130 : BitVec 1 := Scalar.xori v128 v129
  let c0_i32_75 : BitVec 32 := 0#32
  let v127 : BitVec 1 := Scalar.cmpi .ne v126 c0_i32_75
  let v131 : BitVec 1 := Scalar.andi v130 v127
  let v132 : BitVec 32 := Scalar.addi v126 v125
  let v133 : BitVec 32 := Scalar.select v131 v132 v126
  let c1024_i32 : BitVec 32 := 1024#32
  let v134 : BitVec 32 := Scalar.muli v133 c1024_i32
  let v135 : BitVec 32 := Scalar.addi v134 c256_i32
  ![0, v135.toNat]
def k0_off18_at (r : Fin 4) : BitVec 32 × BitVec 32 :=
  if r.val < 2 then
    if r.val < 1 then
      (0#32, 256#32)
    else
      (1#32, 256#32)
  else
    if r.val < 3 then
      (2#32, 0#32)
    else
      (3#32, 0#32)
def k0_dev16 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_102 : BitVec 32 := 8#32
  let v164 : BitVec 32 := Scalar.muli v2 c8_i32_102
  let v165 : BitVec 32 := Scalar.addi c0_i32_103 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_104 : BitVec 32 := 4#32
  let v166 : BitVec 32 := Scalar.muli v24 c4_i32_104
  let v167 : BitVec 32 := Scalar.addi v165 v166
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_105 : BitVec 32 := 1#32
  let v168 : BitVec 32 := Scalar.muli v27 c1_i32_105
  let v169 : BitVec 32 := Scalar.addi v167 v168
  v169.toNat
def k0_off19 (d0 : Dev nD) (c0_i32_108 : BitVec 32) (c256_i32_116 : BitVec 32) : Fin 2 → Nat :=
  let c0_i32_120 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v176 : BitVec 32 := Scalar.addi v11 c0_i32_108
  let c8_i32_109 : BitVec 32 := 8#32
  let c0_i32_110 : BitVec 32 := 0#32
  let v177 : BitVec 1 := Scalar.cmpi .eq c8_i32_109 c0_i32_110
  let c1_i32_111 : BitVec 32 := 1#32
  let v178 : BitVec 32 := Scalar.select v177 c1_i32_111 c8_i32_109
  let v179 : BitVec 32 := Scalar.remsi v176 v178
  let c0_i32_113 : BitVec 32 := 0#32
  let v181 : BitVec 1 := Scalar.cmpi .slt v179 c0_i32_113
  let c0_i32_114 : BitVec 32 := 0#32
  let v182 : BitVec 1 := Scalar.cmpi .slt v178 c0_i32_114
  let v183 : BitVec 1 := Scalar.xori v181 v182
  let c0_i32_112 : BitVec 32 := 0#32
  let v180 : BitVec 1 := Scalar.cmpi .ne v179 c0_i32_112
  let v184 : BitVec 1 := Scalar.andi v183 v180
  let v185 : BitVec 32 := Scalar.addi v179 v178
  let v186 : BitVec 32 := Scalar.select v184 v185 v179
  let c1024_i32_115 : BitVec 32 := 1024#32
  let v187 : BitVec 32 := Scalar.muli v186 c1024_i32_115
  let v188 : BitVec 32 := Scalar.addi v187 c256_i32_116
  ![0, v188.toNat]
def k0_off19_at (r : Fin 3) : BitVec 32 × BitVec 32 :=
  if r.val < 1 then
    (0#32, 256#32)
  else
    if r.val < 2 then
      (1#32, 256#32)
    else
      (2#32, 0#32)
def k0_dev17 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v216 : BitVec 32 := Scalar.muli v2 c8_i32_141
  let v217 : BitVec 32 := Scalar.addi c0_i32_142 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_143 : BitVec 32 := 4#32
  let v218 : BitVec 32 := Scalar.muli v41 c4_i32_143
  let v219 : BitVec 32 := Scalar.addi v217 v218
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_144 : BitVec 32 := 1#32
  let v220 : BitVec 32 := Scalar.muli v44 c1_i32_144
  let v221 : BitVec 32 := Scalar.addi v219 v220
  v221.toNat
def k0_dev18 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v270 : BitVec 32 := Scalar.muli v2 c8_i32_182
  let v271 : BitVec 32 := Scalar.addi c0_i32_183 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_184 : BitVec 32 := 4#32
  let v272 : BitVec 32 := Scalar.muli v24 c4_i32_184
  let v273 : BitVec 32 := Scalar.addi v271 v272
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_185 : BitVec 32 := 1#32
  let v274 : BitVec 32 := Scalar.muli v27 c1_i32_185
  let v275 : BitVec 32 := Scalar.addi v273 v274
  v275.toNat
def k0_cond10 (i : grid0.Coords) : BitVec 1 :=
  let arg0 : BitVec 32 := BitVec.ofNat 32 (i 0).val
  let c3_i32_64 : BitVec 32 := 3#32
  let v112 : BitVec 1 := Scalar.cmpi .eq arg0 c3_i32_64
  let arg1 : BitVec 32 := BitVec.ofNat 32 (i 1).val
  let c3_i32_65 : BitVec 32 := 3#32
  let v113 : BitVec 1 := Scalar.cmpi .eq arg1 c3_i32_65
  let v114 : BitVec 1 := Scalar.andi v112 v113
  let v115 : BitVec 32 := Scalar.extui v114
  let c0_i32_66 : BitVec 32 := 0#32
  let v116 : BitVec 1 := Scalar.cmpi .ne v115 c0_i32_66
  v116

def k0_off20 (d0 : Dev nD) : Fin 3 → Nat :=
  let c0_i32_71 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v122 : BitVec 32 := Scalar.muli v45 c2048_i32
  let c0_i32_75 : BitVec 32 := 0#32
  ![0, v122.toNat, 0]
def k0_off21 (d0 : Dev nD) : Fin 3 → Nat :=
  let c0_92 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_91 : BitVec 32 := 2048#32
  let v143 : BitVec 32 := Scalar.muli v2 c2048_i32_91
  let v144 : Index := Scalar.indexCast v143
  let c0_93 : Index := 0#32
  ![0, v144.toNat, 0]
def k0_off22 (d0 : Dev nD) : Fin 2 → Nat :=
  let c0_i32_100 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32 : BitVec 32 := 1024#32
  let v151 : BitVec 32 := Scalar.muli v11 c1024_i32
  let c512_i32_97 : BitVec 32 := 512#32
  let v152 : BitVec 32 := Scalar.addi v151 c512_i32_97
  ![0, v152.toNat]
def k0_off23 (d0 : Dev nD) (c0_i32_109 : BitVec 32) (c512_i32_117 : BitVec 32) : Fin 2 → Nat :=
  let c0_i32_124 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_108 : BitVec 32 := 8#32
  let v163 : BitVec 32 := Scalar.addi v11 c8_i32_108
  let v164 : BitVec 32 := Scalar.subi v163 c0_i32_109
  let c8_i32_110 : BitVec 32 := 8#32
  let c0_i32_111 : BitVec 32 := 0#32
  let v165 : BitVec 1 := Scalar.cmpi .eq c8_i32_110 c0_i32_111
  let c1_i32_112 : BitVec 32 := 1#32
  let v166 : BitVec 32 := Scalar.select v165 c1_i32_112 c8_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1024_i32_116 : BitVec 32 := 1024#32
  let v175 : BitVec 32 := Scalar.muli v174 c1024_i32_116
  let v176 : BitVec 32 := Scalar.addi v175 c512_i32_117
  ![0, v176.toNat]
def k0_off23_at (r : Fin 4) : BitVec 32 × BitVec 32 :=
  if r.val < 2 then
    if r.val < 1 then
      (0#32, 512#32)
    else
      (1#32, 256#32)
  else
    if r.val < 3 then
      (2#32, 256#32)
    else
      (3#32, 0#32)
def k0_dev19 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v177 : BitVec 32 := Scalar.muli v2 c8_i32_120
  let v178 : BitVec 32 := Scalar.addi c0_i32_121 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_122 : BitVec 32 := 4#32
  let v179 : BitVec 32 := Scalar.muli v24 c4_i32_122
  let v180 : BitVec 32 := Scalar.addi v178 v179
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_123 : BitVec 32 := 1#32
  let v181 : BitVec 32 := Scalar.muli v27 c1_i32_123
  let v182 : BitVec 32 := Scalar.addi v180 v181
  v182.toNat
def k0_off24 (d0 : Dev nD) (c0_i32_126 : BitVec 32) (c512_i32_134 : BitVec 32) : Fin 2 → Nat :=
  let c0_i32_140 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v189 : BitVec 32 := Scalar.addi v11 c0_i32_126
  let c8_i32_127 : BitVec 32 := 8#32
  let c0_i32_128 : BitVec 32 := 0#32
  let v190 : BitVec 1 := Scalar.cmpi .eq c8_i32_127 c0_i32_128
  let c1_i32_129 : BitVec 32 := 1#32
  let v191 : BitVec 32 := Scalar.select v190 c1_i32_129 c8_i32_127
  let v192 : BitVec 32 := Scalar.remsi v189 v191
  let c0_i32_131 : BitVec 32 := 0#32
  let v194 : BitVec 1 := Scalar.cmpi .slt v192 c0_i32_131
  let c0_i32_132 : BitVec 32 := 0#32
  let v195 : BitVec 1 := Scalar.cmpi .slt v191 c0_i32_132
  let v196 : BitVec 1 := Scalar.xori v194 v195
  let c0_i32_130 : BitVec 32 := 0#32
  let v193 : BitVec 1 := Scalar.cmpi .ne v192 c0_i32_130
  let v197 : BitVec 1 := Scalar.andi v196 v193
  let v198 : BitVec 32 := Scalar.addi v192 v191
  let v199 : BitVec 32 := Scalar.select v197 v198 v192
  let c1024_i32_133 : BitVec 32 := 1024#32
  let v200 : BitVec 32 := Scalar.muli v199 c1024_i32_133
  let v201 : BitVec 32 := Scalar.addi v200 c512_i32_134
  ![0, v201.toNat]
def k0_off24_at (r : Fin 3) : BitVec 32 × BitVec 32 :=
  if r.val < 1 then
    (0#32, 512#32)
  else
    if r.val < 2 then
      (1#32, 256#32)
    else
      (2#32, 256#32)
def k0_dev20 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v202 : BitVec 32 := Scalar.muli v2 c8_i32_136
  let v203 : BitVec 32 := Scalar.addi c0_i32_137 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_138 : BitVec 32 := 4#32
  let v204 : BitVec 32 := Scalar.muli v41 c4_i32_138
  let v205 : BitVec 32 := Scalar.addi v203 v204
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_139 : BitVec 32 := 1#32
  let v206 : BitVec 32 := Scalar.muli v44 c1_i32_139
  let v207 : BitVec 32 := Scalar.addi v205 v206
  v207.toNat
def k0_dev21 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v256 : BitVec 32 := Scalar.muli v2 c8_i32_175
  let v257 : BitVec 32 := Scalar.addi c0_i32_176 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_177 : BitVec 32 := 4#32
  let v258 : BitVec 32 := Scalar.muli v24 c4_i32_177
  let v259 : BitVec 32 := Scalar.addi v257 v258
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_178 : BitVec 32 := 1#32
  let v260 : BitVec 32 := Scalar.muli v27 c1_i32_178
  let v261 : BitVec 32 := Scalar.addi v259 v260
  v261.toNat
def k0_dev22 (d0 : Dev nD) : Nat :=
  let c0_i32_215 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_214 : BitVec 32 := 8#32
  let v308 : BitVec 32 := Scalar.muli v2 c8_i32_214
  let v309 : BitVec 32 := Scalar.addi c0_i32_215 v308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_216 : BitVec 32 := 4#32
  let v310 : BitVec 32 := Scalar.muli v41 c4_i32_216
  let v311 : BitVec 32 := Scalar.addi v309 v310
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_217 : BitVec 32 := 1#32
  let v312 : BitVec 32 := Scalar.muli v44 c1_i32_217
  let v313 : BitVec 32 := Scalar.addi v311 v312
  v313.toNat
def k0_cond11 (i : grid0.Coords) : BitVec 1 :=
  let arg0 : BitVec 32 := BitVec.ofNat 32 (i 0).val
  let c3_i32_67 : BitVec 32 := 3#32
  let v117 : BitVec 1 := Scalar.cmpi .eq arg0 c3_i32_67
  let arg1 : BitVec 32 := BitVec.ofNat 32 (i 1).val
  let c7_i32_68 : BitVec 32 := 7#32
  let v118 : BitVec 1 := Scalar.cmpi .eq arg1 c7_i32_68
  let v119 : BitVec 1 := Scalar.andi v117 v118
  let v120 : BitVec 32 := Scalar.extui v119
  let c0_i32_69 : BitVec 32 := 0#32
  let v121 : BitVec 1 := Scalar.cmpi .ne v120 c0_i32_69
  v121

def k0_off25 (d0 : Dev nD) (c0_i32_71 : BitVec 32) (c512_i32_78 : BitVec 32) : Fin 2 → Nat :=
  let c0_i32_82 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_70 : BitVec 32 := 8#32
  let v122 : BitVec 32 := Scalar.addi v11 c8_i32_70
  let v123 : BitVec 32 := Scalar.subi v122 c0_i32_71
  let c8_i32_72 : BitVec 32 := 8#32
  let c0_i32_73 : BitVec 32 := 0#32
  let v124 : BitVec 1 := Scalar.cmpi .eq c8_i32_72 c0_i32_73
  let c1_i32_74 : BitVec 32 := 1#32
  let v125 : BitVec 32 := Scalar.select v124 c1_i32_74 c8_i32_72
  let v126 : BitVec 32 := Scalar.remsi v123 v125
  let c0_i32_76 : BitVec 32 := 0#32
  let v128 : BitVec 1 := Scalar.cmpi .slt v126 c0_i32_76
  let c0_i32_77 : BitVec 32 := 0#32
  let v129 : BitVec 1 := Scalar.cmpi .slt v125 c0_i32_77
  let v130 : BitVec 1 := Scalar.xori v128 v129
  let c0_i32_75 : BitVec 32 := 0#32
  let v127 : BitVec 1 := Scalar.cmpi .ne v126 c0_i32_75
  let v131 : BitVec 1 := Scalar.andi v130 v127
  let v132 : BitVec 32 := Scalar.addi v126 v125
  let v133 : BitVec 32 := Scalar.select v131 v132 v126
  let c1024_i32 : BitVec 32 := 1024#32
  let v134 : BitVec 32 := Scalar.muli v133 c1024_i32
  let v135 : BitVec 32 := Scalar.addi v134 c512_i32_78
  ![0, v135.toNat]
def k0_off25_at (r : Fin 10) : BitVec 32 × BitVec 32 :=
  if r.val < 5 then
    if r.val < 2 then
      if r.val < 1 then
        (0#32, 512#32)
      else
        (1#32, 512#32)
    else
      if r.val < 3 then
        (2#32, 256#32)
      else
        if r.val < 4 then
          (3#32, 256#32)
        else
          (0#32, 768#32)
  else
    if r.val < 7 then
      if r.val < 6 then
        (2#32, 512#32)
      else
        (1#32, 768#32)
    else
      if r.val < 8 then
        (3#32, 512#32)
      else
        if r.val < 9 then
          (2#32, 768#32)
        else
          (3#32, 768#32)
def k0_dev23 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v164 : BitVec 32 := Scalar.muli v2 c8_i32_103
  let v165 : BitVec 32 := Scalar.addi c0_i32_104 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_105 : BitVec 32 := 4#32
  let v166 : BitVec 32 := Scalar.muli v24 c4_i32_105
  let v167 : BitVec 32 := Scalar.addi v165 v166
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_106 : BitVec 32 := 1#32
  let v168 : BitVec 32 := Scalar.muli v27 c1_i32_106
  let v169 : BitVec 32 := Scalar.addi v167 v168
  v169.toNat
def k0_off26 (d0 : Dev nD) (c0_i32_109 : BitVec 32) (c512_i32_117 : BitVec 32) : Fin 2 → Nat :=
  let c0_i32_120 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v176 : BitVec 32 := Scalar.addi v11 c0_i32_109
  let c8_i32_110 : BitVec 32 := 8#32
  let c0_i32_111 : BitVec 32 := 0#32
  let v177 : BitVec 1 := Scalar.cmpi .eq c8_i32_110 c0_i32_111
  let c1_i32_112 : BitVec 32 := 1#32
  let v178 : BitVec 32 := Scalar.select v177 c1_i32_112 c8_i32_110
  let v179 : BitVec 32 := Scalar.remsi v176 v178
  let c0_i32_114 : BitVec 32 := 0#32
  let v181 : BitVec 1 := Scalar.cmpi .slt v179 c0_i32_114
  let c0_i32_115 : BitVec 32 := 0#32
  let v182 : BitVec 1 := Scalar.cmpi .slt v178 c0_i32_115
  let v183 : BitVec 1 := Scalar.xori v181 v182
  let c0_i32_113 : BitVec 32 := 0#32
  let v180 : BitVec 1 := Scalar.cmpi .ne v179 c0_i32_113
  let v184 : BitVec 1 := Scalar.andi v183 v180
  let v185 : BitVec 32 := Scalar.addi v179 v178
  let v186 : BitVec 32 := Scalar.select v184 v185 v179
  let c1024_i32_116 : BitVec 32 := 1024#32
  let v187 : BitVec 32 := Scalar.muli v186 c1024_i32_116
  let v188 : BitVec 32 := Scalar.addi v187 c512_i32_117
  ![0, v188.toNat]
def k0_off26_at (r : Fin 7) : BitVec 32 × BitVec 32 :=
  if r.val < 3 then
    if r.val < 1 then
      (0#32, 512#32)
    else
      if r.val < 2 then
        (1#32, 512#32)
      else
        (2#32, 256#32)
  else
    if r.val < 5 then
      if r.val < 4 then
        (0#32, 768#32)
      else
        (2#32, 512#32)
    else
      if r.val < 6 then
        (1#32, 768#32)
      else
        (2#32, 768#32)
def k0_dev24 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v216 : BitVec 32 := Scalar.muli v2 c8_i32_141
  let v217 : BitVec 32 := Scalar.addi c0_i32_142 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_143 : BitVec 32 := 4#32
  let v218 : BitVec 32 := Scalar.muli v41 c4_i32_143
  let v219 : BitVec 32 := Scalar.addi v217 v218
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_144 : BitVec 32 := 1#32
  let v220 : BitVec 32 := Scalar.muli v44 c1_i32_144
  let v221 : BitVec 32 := Scalar.addi v219 v220
  v221.toNat
def k0_dev25 (d0 : Dev nD) : Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_181 : BitVec 32 := 8#32
  let v270 : BitVec 32 := Scalar.muli v2 c8_i32_181
  let v271 : BitVec 32 := Scalar.addi c0_i32_182 v270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_183 : BitVec 32 := 4#32
  let v272 : BitVec 32 := Scalar.muli v24 c4_i32_183
  let v273 : BitVec 32 := Scalar.addi v271 v272
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_184 : BitVec 32 := 1#32
  let v274 : BitVec 32 := Scalar.muli v27 c1_i32_184
  let v275 : BitVec 32 := Scalar.addi v273 v274
  v275.toNat
def k0_off27 (d0 : Dev nD) : Fin 3 → Nat :=
  let c1_i32_209 : BitVec 32 := 1#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c2048_i32 : BitVec 32 := 2048#32
  let v309 : BitVec 32 := Scalar.muli v45 c2048_i32
  let c0_i32_213 : BitVec 32 := 0#32
  ![1, v309.toNat, 0]
def k0_off28 (d0 : Dev nD) : Fin 3 → Nat :=
  let c1 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_229 : BitVec 32 := 2048#32
  let v330 : BitVec 32 := Scalar.muli v2 c2048_i32_229
  let v331 : Index := Scalar.indexCast v330
  let c0_230 : Index := 0#32
  ![1, v331.toNat, 0]
def k0_off29 (d0 : Dev nD) : Fin 2 → Nat :=
  let c0_i32_237 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_234 : BitVec 32 := 1024#32
  let v338 : BitVec 32 := Scalar.muli v11 c1024_i32_234
  let c768_i32 : BitVec 32 := 768#32
  let v339 : BitVec 32 := Scalar.addi v338 c768_i32
  ![0, v339.toNat]
def k0_dev26 (d0 : Dev nD) : Nat :=
  let c0_i32_257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_256 : BitVec 32 := 8#32
  let v364 : BitVec 32 := Scalar.muli v2 c8_i32_256
  let v365 : BitVec 32 := Scalar.addi c0_i32_257 v364
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_258 : BitVec 32 := 4#32
  let v366 : BitVec 32 := Scalar.muli v24 c4_i32_258
  let v367 : BitVec 32 := Scalar.addi v365 v366
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_259 : BitVec 32 := 1#32
  let v368 : BitVec 32 := Scalar.muli v27 c1_i32_259
  let v369 : BitVec 32 := Scalar.addi v367 v368
  v369.toNat
def k0_dev27 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_273 : BitVec 32 := 8#32
  let v389 : BitVec 32 := Scalar.muli v2 c8_i32_273
  let v390 : BitVec 32 := Scalar.addi c0_i32_274 v389
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_275 : BitVec 32 := 4#32
  let v391 : BitVec 32 := Scalar.muli v41 c4_i32_275
  let v392 : BitVec 32 := Scalar.addi v390 v391
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_276 : BitVec 32 := 1#32
  let v393 : BitVec 32 := Scalar.muli v44 c1_i32_276
  let v394 : BitVec 32 := Scalar.addi v392 v393
  v394.toNat
def k0_dev28 (d0 : Dev nD) : Nat :=
  let c0_i32_314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_313 : BitVec 32 := 8#32
  let v443 : BitVec 32 := Scalar.muli v2 c8_i32_313
  let v444 : BitVec 32 := Scalar.addi c0_i32_314 v443
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_315 : BitVec 32 := 4#32
  let v445 : BitVec 32 := Scalar.muli v24 c4_i32_315
  let v446 : BitVec 32 := Scalar.addi v444 v445
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_316 : BitVec 32 := 1#32
  let v447 : BitVec 32 := Scalar.muli v27 c1_i32_316
  let v448 : BitVec 32 := Scalar.addi v446 v447
  v448.toNat
def k0_dev29 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_352 : BitVec 32 := 8#32
  let v495 : BitVec 32 := Scalar.muli v2 c8_i32_352
  let v496 : BitVec 32 := Scalar.addi c0_i32_353 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_354 : BitVec 32 := 4#32
  let v497 : BitVec 32 := Scalar.muli v41 c4_i32_354
  let v498 : BitVec 32 := Scalar.addi v496 v497
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_355 : BitVec 32 := 1#32
  let v499 : BitVec 32 := Scalar.muli v44 c1_i32_355
  let v500 : BitVec 32 := Scalar.addi v498 v499
  v500.toNat
def k0_dev30 (d0 : Dev nD) : Nat :=
  let c0_i32_416 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_415 : BitVec 32 := 8#32
  let v577 : BitVec 32 := Scalar.muli v2 c8_i32_415
  let v578 : BitVec 32 := Scalar.addi c0_i32_416 v577
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_417 : BitVec 32 := 4#32
  let v579 : BitVec 32 := Scalar.muli v24 c4_i32_417
  let v580 : BitVec 32 := Scalar.addi v578 v579
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_418 : BitVec 32 := 1#32
  let v581 : BitVec 32 := Scalar.muli v27 c1_i32_418
  let v582 : BitVec 32 := Scalar.addi v580 v581
  v582.toNat
def k0_dev31 (d0 : Dev nD) : Nat :=
  let c0_i32_455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_454 : BitVec 32 := 8#32
  let v629 : BitVec 32 := Scalar.muli v2 c8_i32_454
  let v630 : BitVec 32 := Scalar.addi c0_i32_455 v629
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_456 : BitVec 32 := 4#32
  let v631 : BitVec 32 := Scalar.muli v41 c4_i32_456
  let v632 : BitVec 32 := Scalar.addi v630 v631
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_457 : BitVec 32 := 1#32
  let v633 : BitVec 32 := Scalar.muli v44 c1_i32_457
  let v634 : BitVec 32 := Scalar.addi v632 v633
  v634.toNat
def k0_dev32 (d0 : Dev nD) : Nat :=
  let c0_i32_495 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_494 : BitVec 32 := 8#32
  let v683 : BitVec 32 := Scalar.muli v2 c8_i32_494
  let v684 : BitVec 32 := Scalar.addi c0_i32_495 v683
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_496 : BitVec 32 := 4#32
  let v685 : BitVec 32 := Scalar.muli v24 c4_i32_496
  let v686 : BitVec 32 := Scalar.addi v684 v685
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_497 : BitVec 32 := 1#32
  let v687 : BitVec 32 := Scalar.muli v27 c1_i32_497
  let v688 : BitVec 32 := Scalar.addi v686 v687
  v688.toNat
def k0_dev33 (d0 : Dev nD) : Nat :=
  let c0_i32_557 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_556 : BitVec 32 := 8#32
  let v764 : BitVec 32 := Scalar.muli v2 c8_i32_556
  let v765 : BitVec 32 := Scalar.addi c0_i32_557 v764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_558 : BitVec 32 := 4#32
  let v766 : BitVec 32 := Scalar.muli v24 c4_i32_558
  let v767 : BitVec 32 := Scalar.addi v765 v766
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_559 : BitVec 32 := 1#32
  let v768 : BitVec 32 := Scalar.muli v27 c1_i32_559
  let v769 : BitVec 32 := Scalar.addi v767 v768
  v769.toNat
def k0_dev34 (d0 : Dev nD) : Nat :=
  let c0_i32_596 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_595 : BitVec 32 := 8#32
  let v816 : BitVec 32 := Scalar.muli v2 c8_i32_595
  let v817 : BitVec 32 := Scalar.addi c0_i32_596 v816
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c8_i32_13 : BitVec 32 := 8#32
  let v28 : BitVec 32 := Scalar.addi v11 c8_i32_13
  let c1_i32_14 : BitVec 32 := 1#32
  let v29 : BitVec 32 := Scalar.subi v28 c1_i32_14
  let c8_i32_15 : BitVec 32 := 8#32
  let c0_i32_16 : BitVec 32 := 0#32
  let v30 : BitVec 1 := Scalar.cmpi .eq c8_i32_15 c0_i32_16
  let c1_i32_17 : BitVec 32 := 1#32
  let v31 : BitVec 32 := Scalar.select v30 c1_i32_17 c8_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c3_i32_21 : BitVec 32 := 3#32
  let v40 : BitVec 1 := Scalar.cmpi .sle v39 c3_i32_21
  let c0_i32_22 : BitVec 32 := 0#32
  let c1_i32_23 : BitVec 32 := 1#32
  let v41 : BitVec 32 := Scalar.select v40 c0_i32_22 c1_i32_23
  let c4_i32_597 : BitVec 32 := 4#32
  let v818 : BitVec 32 := Scalar.muli v41 c4_i32_597
  let v819 : BitVec 32 := Scalar.addi v817 v818
  let c3_i32_24 : BitVec 32 := 3#32
  let v42 : BitVec 1 := Scalar.cmpi .sle v39 c3_i32_24
  let c7_i32_25 : BitVec 32 := 7#32
  let v43 : BitVec 32 := Scalar.subi c7_i32_25 v39
  let v44 : BitVec 32 := Scalar.select v42 v39 v43
  let c1_i32_598 : BitVec 32 := 1#32
  let v820 : BitVec 32 := Scalar.muli v44 c1_i32_598
  let v821 : BitVec 32 := Scalar.addi v819 v820
  v821.toNat
def k0_dev35 (d0 : Dev nD) : Nat :=
  let c0_i32_659 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_658 : BitVec 32 := 8#32
  let v898 : BitVec 32 := Scalar.muli v2 c8_i32_658
  let v899 : BitVec 32 := Scalar.addi c0_i32_659 v898
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c3_i32 : BitVec 32 := 3#32
  let v23 : BitVec 1 := Scalar.cmpi .sle v22 c3_i32
  let c0_i32_9 : BitVec 32 := 0#32
  let c1_i32_10 : BitVec 32 := 1#32
  let v24 : BitVec 32 := Scalar.select v23 c0_i32_9 c1_i32_10
  let c4_i32_660 : BitVec 32 := 4#32
  let v900 : BitVec 32 := Scalar.muli v24 c4_i32_660
  let v901 : BitVec 32 := Scalar.addi v899 v900
  let c3_i32_11 : BitVec 32 := 3#32
  let v25 : BitVec 1 := Scalar.cmpi .sle v22 c3_i32_11
  let c7_i32_12 : BitVec 32 := 7#32
  let v26 : BitVec 32 := Scalar.subi c7_i32_12 v22
  let v27 : BitVec 32 := Scalar.select v25 v22 v26
  let c1_i32_661 : BitVec 32 := 1#32
  let v902 : BitVec 32 := Scalar.muli v27 c1_i32_661
  let v903 : BitVec 32 := Scalar.addi v901 v902
  v903.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S8192x4096 : Shape := ⟨2, ![8192, 4096]⟩
abbrev S8192x8192 : Shape := ⟨2, ![8192, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .hbm, ⟨2, _⟩ => ⟨S4096x8192, .f32⟩
  | .hbm, ⟨3, _⟩ => ⟨S4096x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Mesh.lean ====
/-
  The mesh, the remote copies and their semaphores.

  The sixteen devices are numbered `8 x + 4 y + z`. The eight devices of one `x` form a ring, in which a device's
  position is `z` in the row `y = 0` and `7 - z` in the row `y = 1`. Each device issues 32 remote copies: four to its
  partner (the other `x`), sixteen to its successor on the ring and twelve to its predecessor.
-/
module

public import proofs.«01_k».proof.Proof.Gen.KernelIdeal.Skeleton

@[expose] public section

noncomputable section

namespace Cert.KernelIdeal.Ring

open Idealize.ShloMosaic Idealize.SL.Sem

/-! ## Devices -/

/-- The device at `x` and ring position `q`. -/
def dev (x : Fin 2) (q : Fin 8) : Dev nD := ⟨x.val * 8 + (if q.val ≤ 3 then q.val else 11 - q.val), by show _ < 16; split <;> omega⟩

/-- A device's `x`. -/
def xOf (c : Dev nD) : Fin 2 := ⟨c.val / 8, by have : c.val < 16 := c.isLt; omega⟩

/-- A device's ring position. -/
def posOf (c : Dev nD) : Fin 8 := ⟨if c.val / 4 % 2 = 0 then c.val % 4 else 7 - c.val % 4, by split <;> omega⟩

/-- The partner: the device of the other `x` at the same ring position. -/
def par (c : Dev nD) : Dev nD := dev (1 - xOf c) (posOf c)
/-- The successor on the ring. -/
def nxt (c : Dev nD) : Dev nD := dev (xOf c) (posOf c + 1)
/-- The predecessor on the ring. -/
def prv (c : Dev nD) : Dev nD := dev (xOf c) (posOf c - 1)

theorem par_par (c : Dev nD) : par (par c) = c := by revert c; decide
theorem nxt_prv (c : Dev nD) : nxt (prv c) = c := by revert c; decide
theorem prv_nxt (c : Dev nD) : prv (nxt c) = c := by revert c; decide
theorem dev_self (c : Dev nD) : dev (xOf c) (posOf c) = c := by revert c; decide
theorem xOf_dev (x : Fin 2) (q : Fin 8) : xOf (dev x q) = x := by revert x q; decide
theorem posOf_dev (x : Fin 2) (q : Fin 8) : posOf (dev x q) = q := by revert x q; decide
theorem xOf_par (c : Dev nD) : xOf (par c) = 1 - xOf c := xOf_dev _ _
theorem posOf_par (c : Dev nD) : posOf (par c) = posOf c := posOf_dev _ _
theorem xOf_nxt (c : Dev nD) : xOf (nxt c) = xOf c := xOf_dev _ _
theorem xOf_prv (c : Dev nD) : xOf (prv c) = xOf c := xOf_dev _ _
theorem posOf_nxt (c : Dev nD) : posOf (nxt c) = posOf c + 1 := posOf_dev _ _
theorem posOf_prv (c : Dev nD) : posOf (prv c) = posOf c - 1 := posOf_dev _ _

/-! ## Copies -/

/-- The remote copies one device issues: `x cc` sends half of partial product `cc` to the partner; `w cc h` and
    `v cc h` send a quarter chunk of the result along the ring, forwards and backwards, at the `h`-th hop. -/
inductive Cp where
  | x (cc : Fin 4)
  | w (cc : Fin 4) (h : Fin 4)
  | v (cc : Fin 4) (h : Fin 3)
  deriving DecidableEq

/-- The copies as a sum of index types. -/
def cpEquiv : Cp ≃ Fin 4 ⊕ (Fin 4 × Fin 4) ⊕ (Fin 4 × Fin 3) where
  toFun | .x a => .inl a | .w a b => .inr (.inl (a, b)) | .v a b => .inr (.inr (a, b))
  invFun | .inl a => .x a | .inr (.inl (a, b)) => .w a b | .inr (.inr (a, b)) => .v a b
  left_inv k := by cases k <;> rfl
  right_inv k := by rcases k with a | ⟨a, b⟩ | ⟨a, b⟩ <;> rfl

instance : Fintype Cp := Fintype.ofEquiv _ cpEquiv.symm

/-- The device a copy goes to. -/
def tgt : Cp → Dev nD → Dev nD
  | .x _, c => par c
  | .w _ _, c => nxt c
  | .v _ _, c => prv c

/-- The device a copy comes from. -/
def src : Cp → Dev nD → Dev nD
  | .x _, c => par c
  | .w _ _, c => prv c
  | .v _ _, c => nxt c

theorem tgt_src (k : Cp) (c : Dev nD) : tgt k (src k c) = c := by
  cases k
  · exact par_par c
  · exact nxt_prv c
  · exact prv_nxt c
theorem src_tgt (k : Cp) (c : Dev nD) : src k (tgt k c) = c := by
  cases k
  · exact par_par c
  · exact prv_nxt c
  · exact nxt_prv c

/-- A copy's source semaphore, on the device that issues it. -/
def sndS : Cp → DmaSem sig
  | .x cc => ⟨8 + cc.val, by show _ < 72; omega⟩
  | .w cc h => ⟨16 + (cc.val * 4 + h.val), by show _ < 72; omega⟩
  | .v cc h => ⟨48 + (cc.val * 3 + h.val), by show _ < 72; omega⟩
/-- A copy's target semaphore, on the device it goes to. -/
def rcvS : Cp → DmaSem sig
  | .x cc => ⟨12 + cc.val, by show _ < 72; omega⟩
  | .w cc h => ⟨32 + (cc.val * 4 + h.val), by show _ < 72; omega⟩
  | .v cc h => ⟨60 + (cc.val * 3 + h.val), by show _ < 72; omega⟩
/-- The semaphore of the local copy of quarter chunk `cc` into the result. -/
def stoS (cc : Fin 4) : DmaSem sig := ⟨4 + cc.val, by show _ < 72; omega⟩

/-- The position of a copy's start in the program order every device follows. -/
def ord : Cp → ℕ
  | .x 0 => 0 | .x 1 => 3 | .x 2 => 10 | .x 3 => 18
  | .w 0 0 => 1 | .w 0 1 => 4 | .w 0 2 => 8 | .w 0 3 => 13
  | .v 0 0 => 2 | .v 0 1 => 5 | .v 0 2 => 9
  | .w 1 0 => 6 | .w 1 1 => 11 | .w 1 2 => 16 | .w 1 3 => 21
  | .v 1 0 => 7 | .v 1 1 => 12 | .v 1 2 => 17
  | .w 2 0 => 14 | .w 2 1 => 19 | .w 2 2 => 24 | .w 2 3 => 28
  | .v 2 0 => 15 | .v 2 1 => 20 | .v 2 2 => 25
  | .w 3 0 => 22 | .w 3 1 => 26 | .w 3 2 => 29 | .w 3 3 => 31
  | .v 3 0 => 23 | .v 3 1 => 27 | .v 3 2 => 30

/-! ## What a semaphore is for -/

/-- What a semaphore of a device serves: the barrier, a copy's source, a copy's target, or a local copy. -/
inductive Kd where
  | bar
  | snd (k : Cp)
  | rcv (k : Cp)
  | sto (cc : Fin 4)
  deriving DecidableEq

/-- The kinds as a sum of index types. -/
def kdEquiv : Kd ≃ Unit ⊕ Cp ⊕ Cp ⊕ Fin 4 where
  toFun | .bar => .inl () | .snd k => .inr (.inl k) | .rcv k => .inr (.inr (.inl k)) | .sto cc => .inr (.inr (.inr cc))
  invFun | .inl _ => .bar | .inr (.inl k) => .snd k | .inr (.inr (.inl k)) => .rcv k | .inr (.inr (.inr cc)) => .sto cc
  left_inv k := by cases k <;> rfl
  right_inv k := by rcases k with a | k | k | a <;> rfl

instance : Fintype Kd := Fintype.ofEquiv _ kdEquiv.symm

/-- The semaphore that serves a kind. -/
def sem : Kd → SemLoc sig
  | .bar => .reg barrier0
  | .snd k => .dma (sndS k)
  | .rcv k => .dma (rcvS k)
  | .sto cc => .dma (stoS cc)

/-- A number that tells the kinds apart. -/
def num : Kd → ℕ
  | .bar => 0
  | .snd k => (sndS k).val + 1
  | .rcv k => (rcvS k).val + 1
  | .sto cc => (stoS cc).val + 1

theorem num_inj {a b : Kd} (h : num a = num b) : a = b := by
  rcases a with _ | (k | ⟨k, l⟩ | ⟨k, l⟩) | (k | ⟨k, l⟩ | ⟨k, l⟩) | k <;>
    rcases b with _ | (k' | ⟨k', l'⟩ | ⟨k', l'⟩) | (k' | ⟨k', l'⟩ | ⟨k', l'⟩) | k' <;>
    simp only [num, sndS, rcvS, stoS, Kd.snd.injEq, Kd.rcv.injEq, Kd.sto.injEq, Cp.x.injEq, Cp.w.injEq, Cp.v.injEq,
      Fin.ext_iff, reduceCtorEq] at h ⊢ <;> omega

/-- Different kinds have different semaphores. -/
theorem sem_inj : Function.Injective sem := by
  intro a b h
  apply num_inj
  have e : ∀ k, num k = (match sem k with | .reg _ => 0 | .dma s => s.val + 1) := by rintro (_ | _ | _ | _) <;> rfl
  rw [e, e, h]

/-- The kind a semaphore serves, if any. -/
def kd (s : SemLoc sig) : Option Kd := if h : ∃ k, sem k = s then some h.choose else none

theorem kd_sem (k : Kd) : kd (sem k) = some k := by
  have h : ∃ k', sem k' = sem k := ⟨k, rfl⟩
  unfold kd
  rw [dif_pos h, sem_inj h.choose_spec]

/-- The cell of kind `k` on device `c`. -/
abbrev cell (c : Dev nD) (k : Kd) : GSem nD τ sig := ((c.tc : Thread nD τ), sem k)

theorem cell_inj {c c' : Dev nD} {k k' : Kd} (h : cell c k = cell c' k') : c = c' ∧ k = k' :=
  ⟨congrArg (fun g : GSem nD τ sig => g.1.1) h, sem_inj (congrArg (fun g : GSem nD τ sig => g.2) h)⟩

end Cert.KernelIdeal.Ring

end
-- ==== Proof.Ideal.Values.lean ====
/-
  The contents of the kernel's buffers, as functions of the partial products.

  `pb c cc` is device `c`'s partial product number `cc`: 4096 rows, 256 columns. Its rows are split between the two
  values of `x`. A device sends the partner's half of the rows, receives its own half, and adds the two: `sumV`. The
  result holds at column `1024 q + 256 cc + j` the sum number `cc` of the ring's device at position `q`.
-/
module

public import proofs.«01_k».proof.Proof.Ideal.Mesh
public import Idealize.ShloMosaic.Lib.ValueIdxCore

@[expose] public section

noncomputable section

namespace Cert.KernelIdeal.Ring

open Idealize.ShloMosaic Idealize.SL.Sem

variable {F : FTy → Type} [FloatOps F]

/-- The partial products of every device. -/
abbrev Parts (F : FTy → Type) : Type := Dev nD → Fin 4 → Fin 4096 → Fin 256 → F .f32

variable (pb : Parts F)

/-- Row `r` of the half of the rows that belongs to `x`. -/
def row (x : Fin 2) (r : Fin 2048) : Fin 4096 := ⟨x.val * 2048 + r.val, by omega⟩

/-- A slot of the partial-product buffer while it holds product `cc`. -/
def slotV (c : Dev nD) (cc : Fin 4) : S2x4096x256.Idx → F .f32 := fun i => pb c cc (i 1) (i 2)

/-- The receive buffer as the partner's copies leave it. -/
def rxV (c : Dev nD) : S4x2048x256.Idx → F .f32 := fun i => pb (par c) (i 0) (row (xOf c) (i 1)) (i 2)

/-- The receive buffer after the device's own half is added. -/
def sumV (c : Dev nD) : S4x2048x256.Idx → F .f32 :=
  fun i => FloatOps.addf (rxV pb c i) (pb c (i 0) (row (xOf c) (i 1)) (i 2))

/-- The result of every device of ring `x`. -/
def ringV (x : Fin 2) : S2048x8192.Idx → F .f32 := fun i =>
  sumV pb (dev x ⟨(i 1).val / 1024, by have : (i 1).val < 8192 := (i 1).isLt; omega⟩)
    (ValueIdx.ix3 ⟨(i 1).val % 1024 / 256, by omega⟩ (i 0) ⟨(i 1).val % 256, by omega⟩)

/-- The result of device `c`. -/
def outV (c : Dev nD) : S2048x8192.Idx → F .f32 := ringV pb (xOf c)

theorem outV_nxt (c : Dev nD) : outV pb (nxt c) = outV pb c := by unfold outV; rw [xOf_nxt]
theorem outV_prv (c : Dev nD) : outV pb (prv c) = outV pb c := by unfold outV; rw [xOf_prv]

end Cert.KernelIdeal.Ring

end
-- ==== Proof.Ideal.Sched.lean ====
/-
  The resources, the memory each copy reads and writes, and the schedule of payments.

  Every semaphore serves one round. A copy's source cell pays the source memory back; its target cell pays the memory it
  wrote, with its contents. The barrier cell of a device is paid by three others, each with the memory the device's copies
  to it will overwrite.
-/
module

public import proofs.«01_k».proof.Proof.Ideal.Values
public import proofs.«01_k».proof.Proof.Gen.KernelIdeal.Regions
public import Idealize.ShloMosaic.Lib.Rounds
public import Idealize.ShloMosaic.Lib.Tactic
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

/-! ## The resource algebra: the pipeline's copy and the protocol's -/

/-- The rounds' ghost state, once for the pipeline and once for the protocol (whose duties are numbered 0, 1, 2). -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The memory the copies read and write -/

theorem inb_pb (s b : Fin 2) : ∀ a, (![s.val, b.val * 2048, 0] : Fin 3 → ℕ) a + S1x2048x256.size a ≤ S2x4096x256.size a := by
  revert s b; decide
theorem inb_rx (cc : Fin 4) : ∀ a, (![cc.val, 0, 0] : Fin 3 → ℕ) a + S1x2048x256.size a ≤ S4x2048x256.size a := by
  revert cc; decide
theorem inb_out (q : Fin 8) (cc : Fin 4) :
    ∀ a, (![0, q.val * 1024 + cc.val * 256] : Fin 2 → ℕ) a + S2048x256.size a ≤ S2048x8192.size a := by
  revert q cc; decide

/-- Half `b` of the rows of slot `s` of the partial-product buffer. -/
def pbM (s b : Fin 2) : Memref sig .tc .vmem S2048x256 .f32 :=
  ((Memref.whole cc0_scratch0).slice (Rect.unit (s := S2x4096x256) ![s.val, b.val * 2048, 0] S1x2048x256.size (inb_pb s b))
    (fun _ => rfl)).squeeze S2048x256 squeezes_S1x2048x256_S2048x256

/-- Slot `cc` of the receive buffer. -/
def rxM (cc : Fin 4) : Memref sig .tc .vmem S2048x256 .f32 :=
  ((Memref.whole cc0_scratch1).slice (Rect.unit (s := S4x2048x256) ![cc.val, 0, 0] S1x2048x256.size (inb_rx cc))
    (fun _ => rfl)).squeeze S2048x256 squeezes_S1x2048x256_S2048x256

/-- Quarter `cc` of chunk `q` of the result. -/
def outM (q : Fin 8) (cc : Fin 4) : Memref sig .tc .hbm S2048x256 .f32 :=
  (Memref.whole main_v17).slice (Rect.unit (s := S2048x8192) ![0, q.val * 1024 + cc.val * 256] S2048x256.size (inb_out q cc))
    (fun _ => rfl)

/-- The half-slot of the partial-product buffer, held on device `c` with contents `f`. -/
def pbPt (c : Dev nD) (s b : Fin 2) (f : S2x4096x256.Idx → F .f32) : sProp 𝕄 :=
  (pbM s b).view.loc (c : Thread nD τ) ↦[(pbM s b).view.set]{fullShare} f
/-- A slot of the receive buffer, held on device `c` at share `q` with contents `f`. -/
def rxPt (c : Dev nD) (q : PosShare TreeShare) (cc : Fin 4) (f : S4x2048x256.Idx → F .f32) : sProp 𝕄 :=
  (rxM cc).view.loc (c : Thread nD τ) ↦[(rxM cc).view.set]{q} f
/-- A quarter chunk of the result, held on device `c` with contents `f`. -/
def outPt (c : Dev nD) (q : Fin 8) (cc : Fin 4) (f : S2048x8192.Idx → F .f32) : sProp 𝕄 :=
  (outM q cc).view.loc (c : Thread nD τ) ↦[(outM q cc).view.set]{fullShare} f

/-- A quarter chunk of the result, held on device `c` at share `s` with contents `f`. -/
def outSh (c : Dev nD) (s : PosShare TreeShare) (q : Fin 8) (cc : Fin 4) (f : S2048x8192.Idx → F .f32) : sProp 𝕄 :=
  (outM q cc).view.loc (c : Thread nD τ) ↦[(outM q cc).view.set]{s} f

theorem pbPt_storable₀ (c : Dev nD) (s b : Fin 2) (f : Buf (Elt F) ((pbM s b).view.loc (c : Thread nD τ))) :
    BI.Storable (upEmb : UEmb _ 𝕄) (pbPt c s b f) := by
  unfold pbPt; infer_instance
theorem rxPt_storable₀ (c : Dev nD) (q : PosShare TreeShare) (cc : Fin 4) (f : Buf (Elt F) ((rxM cc).view.loc (c : Thread nD τ))) :
    BI.Storable (upEmb : UEmb _ 𝕄) (rxPt c q cc f) := by
  unfold rxPt; infer_instance
theorem outPt_storable₀ (c : Dev nD) (q : Fin 8) (cc : Fin 4) (f : Buf (Elt F) ((outM q cc).view.loc (c : Thread nD τ))) :
    BI.Storable (upEmb : UEmb _ 𝕄) (outPt c q cc f) := by
  unfold outPt; infer_instance
theorem outSh_storable₀ (c : Dev nD) (s : PosShare TreeShare) (q : Fin 8) (cc : Fin 4) (f : Buf (Elt F) ((outM q cc).view.loc (c : Thread nD τ))) :
    BI.Storable (upEmb : UEmb _ 𝕄) (outSh c s q cc f) := by
  unfold outSh; infer_instance
instance outSh_storable (c : Dev nD) (s : PosShare TreeShare) (q : Fin 8) (cc : Fin 4) (f : S2048x8192.Idx → F .f32) :
    BI.Storable (upEmb : UEmb _ 𝕄) (outSh c s q cc f) := outSh_storable₀ c s q cc f
instance pbPt_storable (c : Dev nD) (s b : Fin 2) (f : S2x4096x256.Idx → F .f32) :
    BI.Storable (upEmb : UEmb _ 𝕄) (pbPt c s b f) := pbPt_storable₀ c s b f
instance rxPt_storable (c : Dev nD) (q : PosShare TreeShare) (cc : Fin 4) (f : S4x2048x256.Idx → F .f32) :
    BI.Storable (upEmb : UEmb _ 𝕄) (rxPt c q cc f) := rxPt_storable₀ c q cc f
instance outPt_storable (c : Dev nD) (q : Fin 8) (cc : Fin 4) (f : S2048x8192.Idx → F .f32) :
    BI.Storable (upEmb : UEmb _ 𝕄) (outPt c q cc f) := outPt_storable₀ c q cc f

variable (pb : Parts F)

/-- What a copy of device `c` reads: the partner's half of a partial product; the device's own
    quarter chunk, at one half of the share; or the quarter chunk that came with the hop before. -/
def srcP (c : Dev nD) : Cp → sProp 𝕄
  | .x cc => pbPt c ⟨cc.val % 2, by omega⟩ (1 - xOf c) (slotV pb c cc)
  | .w cc 0 => outSh c fullShare.left (posOf c) cc (outV pb c)
  | .w cc 1 => outPt c (posOf c - 1) cc (outV pb c)
  | .w cc 2 => outPt c (posOf c - 2) cc (outV pb c)
  | .w cc 3 => outPt c (posOf c - 3) cc (outV pb c)
  | .v cc 0 => outSh c fullShare.right (posOf c) cc (outV pb c)
  | .v cc 1 => outPt c (posOf c + 1) cc (outV pb c)
  | .v cc 2 => outPt c (posOf c + 2) cc (outV pb c)

/-- The quarter chunk of device `c` that the ring copies to it write. -/
def ringPos (c : Dev nD) : Cp → Fin 8
  | .x _ => 0
  | .w _ 0 => posOf c - 1 | .w _ 1 => posOf c - 2 | .w _ 2 => posOf c - 3 | .w _ 3 => posOf c - 4
  | .v _ 0 => posOf c + 1 | .v _ 1 => posOf c + 2 | .v _ 2 => posOf c + 3

/-- What a copy to device `c` leaves there. -/
def landP (c : Dev nD) : Cp → sProp 𝕄
  | .x cc => rxPt c fullShare cc (rxV pb c)
  | .w cc h => outPt c (ringPos c (.w cc h)) cc (outV pb c)
  | .v cc h => outPt c (ringPos c (.v cc h)) cc (outV pb c)

/-- What a copy to device `c` overwrites. -/
def dstP (c : Dev nD) : Cp → sProp 𝕄
  | .x cc => iprop(∃ f, rxPt c fullShare cc f)
  | .w cc h => iprop(∃ f, outPt c (ringPos c (.w cc h)) cc f)
  | .v cc h => iprop(∃ f, outPt c (ringPos c (.v cc h)) cc f)

/-- The family of a copy, which is the number of the barrier duty that hands over its target. -/
def fam : Cp → Fin 3
  | .x _ => 0
  | .w _ _ => 1
  | .v _ _ => 2

/-- The units a copy puts on a semaphore. -/
def N : ℕ := (outM 0 0).view.dmaCredit
theorem N_pos : 0 < N := View.dmaCredit_pos _ (by decide)

/-- What device `c`'s barrier duty `d` hands it: the targets of the copies of family `d`, and that their target cells are
    in round 0. -/
def barP (c : Dev nD) (d : Fin 3) : sProp 𝕄 :=
  bigSep (Finset.univ.filter fun k => fam k = d) fun k => iprop(dstP (F := F) (tgt k c) k ∗ reached ER (cell (tgt k c) (.rcv k)) 0)

/-- What the local copy of quarter `cc` hands back: its source, and its target at the result. -/
def stoP (c : Dev nD) (cc : Fin 4) : sProp 𝕄 :=
  iprop(outPt c (posOf c) cc (outV pb c) ∗ rxPt c fullShare cc (sumV pb c))

/-- The payload of duty `d` of the cell of a kind. -/
def payP (c : Dev nD) (d : Fin 3) : Kd → sProp 𝕄
  | .bar => barP c d
  | .snd k => srcP pb c k
  | .rcv k => landP pb c k
  | .sto cc => stoP pb c cc

/-- The duties of a kind: three for the barrier, one else. -/
def dutiesOf : Kd → Finset (Fin 3)
  | .bar => Finset.univ
  | _ => {0}

/-- The schedule: one round. -/
def Rd : Rounds.Schedule (GSem nD τ sig) (Fin 3) 𝕄 where
  duties g r := if r = 0 ∧ g.1.2 = .tc then (match kd g.2 with | some k => dutiesOf k | none => ∅) else ∅
  unitless _ := False
  amount g _ _ := if g.2 = .reg barrier0 then 1 else N
  payload g _ d := match kd g.2 with | some k => payP pb g.1.1 d k | none => iprop(emp)
  amount_pos g _ _ _ := by
    by_cases h : g.2 = .reg barrier0
    · rw [if_pos h]; exact Nat.one_pos
    · rw [if_neg h]; exact N_pos

instance barP_storable (c : Dev nD) (d : Fin 3) : BI.Storable (upEmb : UEmb _ 𝕄) (barP (F := F) c d) := by
  unfold barP
  have (k : Cp) : BI.Storable (upEmb : UEmb _ 𝕄) (dstP (F := F) (tgt k c) k) := by
    cases k <;> dsimp only [dstP] <;> infer_instance
  infer_instance

theorem srcP_storable (c : Dev nD) (k : Cp) : BI.Storable (upEmb : UEmb _ 𝕄) (srcP pb c k) := by
  unfold srcP; split <;> infer_instance
theorem landP_storable (c : Dev nD) (k : Cp) : BI.Storable (upEmb : UEmb _ 𝕄) (landP pb c k) := by
  unfold landP; split <;> infer_instance
theorem stoP_storable (c : Dev nD) (cc : Fin 4) : BI.Storable (upEmb : UEmb _ 𝕄) (stoP pb c cc) := by
  unfold stoP; infer_instance

instance payP_storable (c : Dev nD) (d : Fin 3) (k : Kd) : BI.Storable (upEmb : UEmb _ 𝕄) (payP pb c d k) := by
  cases k with
  | bar => exact barP_storable c d
  | snd k => exact srcP_storable pb c k
  | rcv k => exact landP_storable pb c k
  | sto cc => exact stoP_storable pb c cc

instance Rd_storable (g : GSem nD τ sig) (r : ℕ) (d : Fin 3) : BI.Storable (upEmb : UEmb _ 𝕄) ((Rd pb).payload g r d) := by
  show BI.Storable upEmb (match kd g.2 with | some k => payP pb g.1.1 d k | none => iprop(emp))
  split <;> infer_instance

/-! ## The schedule's tables at a cell -/

theorem duties_cell (c : Dev nD) (k : Kd) : (Rd pb).duties (cell c k) 0 = dutiesOf k := by
  show (if (0 = 0 ∧ (Proc.tc : Proc τ) = .tc) then (match kd (sem k) with | some k => dutiesOf k | none => ∅) else ∅) = _
  rw [if_pos ⟨rfl, rfl⟩, kd_sem]

theorem duties_later (g : GSem nD τ sig) : ∀ r, 0 + 1 ≤ r → (Rd pb).duties g r = ∅ :=
  fun r hr => by dsimp only [Rd]; rw [if_neg (fun h => by omega)]

theorem payload_cell (c : Dev nD) (k : Kd) (d : Fin 3) : (Rd pb).payload (cell c k) 0 d = payP pb c d k := by
  show (match kd (sem k) with | some k => payP pb c d k | none => iprop(emp)) = _
  rw [kd_sem]

/-- The units of one duty of a kind. -/
def amt : Kd → ℕ
  | .bar => 1
  | _ => N

theorem amount_cell (c : Dev nD) (k : Kd) (d : Fin 3) : (Rd pb).amount (cell c k) 0 d = amt k := by
  show (if sem k = .reg barrier0 then 1 else N) = _
  cases k <;> first | exact if_pos rfl | exact if_neg (fun h => by cases h)

/-- A kind with one duty: every kind but the barrier. -/
theorem expect_cell (c : Dev nD) (k : Kd) (h : dutiesOf k = {0}) : (Rd pb).expect (cell c k) 0 = amt k := by
  unfold Schedule.expect Schedule.amountOf; rw [duties_cell, h, Finset.sum_singleton, amount_cell]

theorem rest_cell (c : Dev nD) (k : Kd) (h : dutiesOf k = {0}) :
    bigSep ((Rd pb).duties (cell c k) 0 \ ∅) (fun d => (Rd pb).payload (cell c k) 0 d) = payP pb c 0 k := by
  rw [Finset.sdiff_empty, duties_cell, h, bigSep_singleton, payload_cell]

theorem expect_bar (c : Dev nD) : (Rd pb).expect (cell c .bar) 0 = 3 := by
  unfold Schedule.expect Schedule.amountOf; rw [duties_cell]
  exact (Finset.sum_congr rfl fun d _ => amount_cell pb c .bar d).trans rfl

theorem rest_bar (c : Dev nD) :
    bigSep ((Rd pb).duties (cell c .bar) 0 \ ∅) (fun d => (Rd pb).payload (cell c .bar) 0 d)
      = bigSep Finset.univ fun d => barP (F := F) c d := by
  rw [Finset.sdiff_empty, duties_cell]
  exact bigSep_congr fun d _ => payload_cell pb c .bar d

/-! ## Levels: what may be owed across a wait -/

/-- The cells that have a level: those of the TensorCores. -/
def L (g : GSem nD τ sig) : Finset Unit := if g.1.2 = .tc then {()} else ∅

/-- The level of a cell: 0 for a copy's source, a local copy and the pipeline's cells; 1 for the barrier; a copy's target at
    2 plus its place in the program order. -/
def lv (g : GSem nD τ sig) (_ : Unit) : ℕ :=
  match kd g.2 with | some .bar => 1 | some (.rcv k) => 2 + ord k | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (k : Cp) : lv (cell c (.rcv k)) () = 2 + ord k := by
  show (match kd (sem (.rcv k)) with | some .bar => 1 | some (.rcv k) => 2 + ord k | _ => 0) = _
  rw [kd_sem]
theorem lv_bar (c : Dev nD) : lv (cell c .bar) () = 1 := by
  show (match kd (sem .bar) with | some .bar => 1 | some (.rcv k) => 2 + ord k | _ => 0) = _
  rw [kd_sem]
theorem lv_snd (c : Dev nD) (k : Cp) : lv (cell c (.snd k)) () = 0 := by
  show (match kd (sem (.snd k)) with | some .bar => 1 | some (.rcv k) => 2 + ord k | _ => 0) = _
  rw [kd_sem]
theorem lv_sto (c : Dev nD) (cc : Fin 4) : lv (cell c (.sto cc)) () = 0 := by
  show (match kd (sem (.sto cc)) with | some .bar => 1 | some (.rcv k) => 2 + ord k | _ => 0) = _
  rw [kd_sem]

end Cert.KernelIdeal.Ring

end
-- ==== Proof.Ideal.Geometry.lean ====
/-
  Where the copies' memory lies, and what a copy leaves at its target.
-/
module

public import proofs.«01_k».proof.Proof.Ideal.Sched
public import Idealize.ShloMosaic.Lib.ValueLayout
public import Idealize.ShloMosaic.Lib.Pipeline.Value

@[expose] public section

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

/-! ## Where an element of a view lies -/

theorem pbM_emb (s b : Fin 2) (r : Fin 2048) (j : Fin 256) :
    (pbM s b).view.emb (ix2 r j) = (ix3 s (row b r) j : S2x4096x256.Idx) := by
  show Rect.emb _ (Shape.reshapeEquiv _ (ix2 r j)) = _
  erw [reshapeEquiv_ix2_1ab]
  funext a; apply Fin.ext; rw [Rect.emb_apply]
  fin_cases a
  · show s.val + 1 * 0 = s.val; omega
  · show b.val * 2048 + 1 * r.val = b.val * 2048 + r.val; omega
  · show 0 + 1 * j.val = j.val; omega

theorem rxM_emb (cc : Fin 4) (r : Fin 2048) (j : Fin 256) :
    (rxM cc).view.emb (ix2 r j) = (ix3 cc r j : S4x2048x256.Idx) := by
  show Rect.emb _ (Shape.reshapeEquiv _ (ix2 r j)) = _
  erw [reshapeEquiv_ix2_1ab]
  funext a; apply Fin.ext; rw [Rect.emb_apply]
  fin_cases a
  · show cc.val + 1 * 0 = cc.val; omega
  · show 0 + 1 * r.val = r.val; omega
  · show 0 + 1 * j.val = j.val; omega

/-- Column `j` of quarter `cc` of chunk `q` of the result. -/
def col (q : Fin 8) (cc : Fin 4) (j : Fin 256) : Fin 8192 := ⟨q.val * 1024 + cc.val * 256 + j.val, by omega⟩

theorem outM_emb (q : Fin 8) (cc : Fin 4) (r : Fin 2048) (j : Fin 256) :
    (outM q cc).view.emb (ix2 r j) = (ix2 r (col q cc j) : S2048x8192.Idx) := by
  funext a; apply Fin.ext
  fin_cases a
  · show 0 + 1 * r.val = r.val; omega
  · show q.val * 1024 + cc.val * 256 + 1 * j.val = q.val * 1024 + cc.val * 256 + j.val; omega

/-- The result at a column of a quarter chunk is the sum of the device at that position. -/
theorem ringV_col (pb : Parts F) (x : Fin 2) (q : Fin 8) (cc : Fin 4) (r : Fin 2048) (j : Fin 256) :
    ringV pb x (ix2 r (col q cc j)) = sumV pb (dev x q) (ix3 cc r j) := by
  unfold ringV
  have h1 : (⟨(col q cc j).val / 1024, by have := (col q cc j).isLt; omega⟩ : Fin 8) = q :=
    Fin.ext (by show (q.val * 1024 + cc.val * 256 + j.val) / 1024 = q.val; omega)
  have h2 : (⟨(col q cc j).val % 1024 / 256, by omega⟩ : Fin 4) = cc :=
    Fin.ext (by show (q.val * 1024 + cc.val * 256 + j.val) % 1024 / 256 = cc.val; omega)
  have h3 : (⟨(col q cc j).val % 256, by omega⟩ : Fin 256) = j :=
    Fin.ext (by show (q.val * 1024 + cc.val * 256 + j.val) % 256 = j.val; omega)
  show sumV pb (dev x ⟨(col q cc j).val / 1024, _⟩) (ix3 ⟨(col q cc j).val % 1024 / 256, _⟩ r ⟨(col q cc j).val % 256, _⟩) = _
  rw [h1, h2, h3]

/-! ## What a copy leaves at its target -/

/-- Contents that agree, place by place, with what is read are what the copy leaves. -/
theorem landed {spv spw : Space} (v : View sig .tc spv S2048x256 .f32) (w : View sig .tc spw S2048x256 .f32)
    (fd g : v.ty.Contents (Elt F)) (f : w.ty.Contents (Elt F))
    (h : ∀ r j, v.read (Elt F) g (ix2 r j) = w.read (Elt F) f (ix2 r j)) :
    ∀ i ∈ v.set, v.write (Elt F) fd (w.read (Elt F) f) Finset.univ i = g i := by
  intro i hi
  obtain ⟨y, rfl⟩ := View.exists_emb_of_mem_set v hi
  rw [View.write_emb_of_mem _ _ (Finset.mem_univ y)]
  obtain ⟨r, j, rfl⟩ : ∃ r j, y = ix2 r j := ⟨y 0, y 1, by funext a; fin_cases a <;> rfl⟩
  rw [← h, View.read_apply, cast_cast, cast_eq]

variable (pb : Parts F)

theorem landed_x (c : Dev nD) (cc : Fin 4) (s : Fin 2) (fd : (rxM cc).view.ty.Contents (Elt F)) :
    ∀ i ∈ (rxM cc).view.set, (rxM cc).view.write (Elt F) fd
      ((pbM s (1 - xOf c)).view.read (Elt F) (slotV pb c cc)) Finset.univ i = rxV pb (par c) i :=
  landed _ _ fd _ _ fun r j => by
    show rxV pb (par c) ((rxM cc).view.emb (ix2 r j)) = slotV pb c cc ((pbM s (1 - xOf c)).view.emb (ix2 r j))
    rw [rxM_emb, pbM_emb]
    show pb (par (par c)) cc (row (xOf (par c)) r) j = pb c cc (row (1 - xOf c) r) j
    rw [par_par, xOf_par]

theorem landed_st (c : Dev nD) (cc : Fin 4) (fd : (outM (posOf c) cc).view.ty.Contents (Elt F)) :
    ∀ i ∈ (outM (posOf c) cc).view.set, (outM (posOf c) cc).view.write (Elt F) fd
      ((rxM cc).view.read (Elt F) (sumV pb c)) Finset.univ i = outV pb c i :=
  landed _ _ fd _ _ fun r j => by
    show outV pb c ((outM (posOf c) cc).view.emb (ix2 r j)) = sumV pb c ((rxM cc).view.emb (ix2 r j))
    rw [rxM_emb, outM_emb]
    show ringV pb (xOf c) _ = _
    rw [ringV_col, dev_self]

/-- A hop: the same place of two devices of one ring. -/
theorem landed_hop (c c' : Dev nD) (hc : xOf c' = xOf c) (q : Fin 8) (cc : Fin 4) (fd : (outM q cc).view.ty.Contents (Elt F)) :
    ∀ i ∈ (outM q cc).view.set, (outM q cc).view.write (Elt F) fd
      ((outM q cc).view.read (Elt F) (outV pb c)) Finset.univ i = outV pb c' i := by
  have h : outV pb c' = outV pb c := by unfold outV; rw [hc]
  rw [h]; exact landed _ _ fd _ _ fun r j => rfl

/-! ## Membership, and how the pieces cover their buffers -/

theorem mem_pbM (s b : Fin 2) (i : S2x4096x256.Idx) :
    i ∈ (pbM s b).view.set ↔ (i 0).val = s.val ∧ b.val * 2048 ≤ (i 1).val ∧ (i 1).val < b.val * 2048 + 2048 := by
  constructor
  · intro hi
    obtain ⟨y, rfl⟩ := View.exists_emb_of_mem_set _ hi
    obtain ⟨r, j, rfl⟩ : ∃ r j, y = ix2 r j := ⟨y 0, y 1, by funext a; fin_cases a <;> rfl⟩
    rw [pbM_emb]
    exact ⟨rfl, Nat.le_add_right _ _, Nat.add_lt_add_left r.isLt _⟩
  · rintro ⟨h0, h1, h2⟩
    refine Finset.mem_map.mpr ⟨ix2 ⟨(i 1).val - b.val * 2048, by omega⟩ (i 2), Finset.mem_univ _, (pbM_emb _ _ _ _).trans ?_⟩
    funext a; apply Fin.ext
    fin_cases a
    · exact h0.symm
    · show b.val * 2048 + ((i 1).val - b.val * 2048) = (i 1).val; omega
    · rfl

theorem mem_rxM (cc : Fin 4) (i : S4x2048x256.Idx) : i ∈ (rxM cc).view.set ↔ (i 0).val = cc.val := by
  constructor
  · intro hi
    obtain ⟨y, rfl⟩ := View.exists_emb_of_mem_set _ hi
    obtain ⟨r, j, rfl⟩ : ∃ r j, y = ix2 r j := ⟨y 0, y 1, by funext a; fin_cases a <;> rfl⟩
    rw [rxM_emb]
  · intro h0
    refine Finset.mem_map.mpr ⟨ix2 (i 1) (i 2), Finset.mem_univ _, (rxM_emb _ _ _).trans ?_⟩
    funext a; apply Fin.ext
    fin_cases a
    · exact h0.symm
    · rfl
    · rfl

theorem mem_outM (q : Fin 8) (cc : Fin 4) (i : S2048x8192.Idx) :
    i ∈ (outM q cc).view.set ↔ (i 1).val / 1024 = q.val ∧ (i 1).val % 1024 / 256 = cc.val := by
  have h8 : (i 1).val < 8192 := (i 1).isLt
  constructor
  · intro hi
    obtain ⟨y, e⟩ := View.exists_emb_of_mem_set _ hi
    obtain ⟨r, j, rfl⟩ : ∃ r j, y = ix2 r j := ⟨y 0, y 1, by funext a; fin_cases a <;> rfl⟩
    rw [outM_emb] at e
    have h : q.val * 1024 + cc.val * 256 + j.val = (i 1).val :=
      congrArg (fun (i : S2048x8192.Idx) => (i 1).val) e
    omega
  · rintro ⟨h0, h1⟩
    refine Finset.mem_map.mpr ⟨ix2 (i 0) ⟨(i 1).val % 256, by omega⟩, Finset.mem_univ _, (outM_emb _ _ _ _).trans ?_⟩
    funext a; apply Fin.ext
    fin_cases a
    · rfl
    · show q.val * 1024 + cc.val * 256 + (i 1).val % 256 = (i 1).val; omega

end Cert.KernelIdeal.Ring

end
-- ==== Proof.Ideal.State.lean ====
/-
  What a device holds between two steps.

  Each remote copy and each local copy is at a stage. The state of a device is what it holds for every copy at its
  stage, what it still owes (the arrivals of the copies it has not started), and the memory of the partial products.
-/
module

public import proofs.«01_k».proof.Proof.Ideal.Geometry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-- The copies of a device: the remote ones and the four local ones. -/
inductive It where
  | cp (k : Cp)
  | st (cc : Fin 4)
  deriving DecidableEq

/-- The copies as a sum of index types. -/
def itEquiv : It ≃ Cp ⊕ Fin 4 where
  toFun | .cp k => .inl k | .st cc => .inr cc
  invFun | .inl k => .cp k | .inr cc => .st cc
  left_inv k := by cases k <;> rfl
  right_inv k := by rcases k with k | k <;> rfl

instance : Fintype It := Fintype.ofEquiv _ itEquiv.symm

/-- The stages of a copy: not started; in flight; source back; arrived; its target handed on; its
    source handed on too. -/
inductive St where
  | pre | sent | half | done | passed | ended
  deriving DecidableEq

variable (pb : Parts F)

/-- What a device holds for a remote copy at a stage. -/
def cpP (c : Dev nD) (k : Cp) : St → sProp 𝕄
  | .pre => iprop(dutyTok ER (cell c (.snd k)) 0 0 ∗ reached ER (cell c (.snd k)) 0
      ∗ dutyTok ER (cell (tgt k c) (.rcv k)) 0 0 ∗ reached ER (cell (tgt k c) (.rcv k)) 0 ∗ dstP (F := F) (tgt k c) k
      ∗ atPos ER (cell c (.snd k)) 0 ∅ 0 ∗ atPos ER (cell c (.rcv k)) 0 ∅ 0 ∗ cred (tallyAt (cell c (.rcv k)) () N))
  | .sent => iprop(cred (tallyAt (cell c (.snd k)) () N) ∗ cred (tallyAt (cell c (.rcv k)) () N)
      ∗ atPos ER (cell c (.snd k)) 0 ∅ 0 ∗ atPos ER (cell c (.rcv k)) 0 ∅ 0)
  | .half => iprop(cred (tallyAt (cell c (.rcv k)) () N)
      ∗ atPos ER (cell c (.snd k)) (0 + 1) ∅ 0 ∗ atPos ER (cell c (.rcv k)) 0 ∅ 0 ∗ srcP pb c k)
  | .done => iprop(atPos ER (cell c (.snd k)) (0 + 1) ∅ 0 ∗ atPos ER (cell c (.rcv k)) (0 + 1) ∅ 0 ∗ srcP pb c k ∗ landP pb c k)
  | .passed => iprop(atPos ER (cell c (.snd k)) (0 + 1) ∅ 0 ∗ atPos ER (cell c (.rcv k)) (0 + 1) ∅ 0 ∗ srcP pb c k)
  | .ended => iprop(atPos ER (cell c (.snd k)) (0 + 1) ∅ 0 ∗ atPos ER (cell c (.rcv k)) (0 + 1) ∅ 0)

/-- What a device holds for a local copy at a stage: when it has arrived, its source, and the result's quarter
    chunk until it is handed on. -/
def stP (c : Dev nD) (cc : Fin 4) : St → sProp 𝕄
  | .pre => iprop((∃ f, outPt c (posOf c) cc f) ∗ atPos ER (cell c (.sto cc)) 0 ∅ 0 ∗ dutyTok ER (cell c (.sto cc)) 0 0
      ∗ reached ER (cell c (.sto cc)) 0)
  | .sent => iprop(cred (tallyAt (cell c (.sto cc)) () N) ∗ atPos ER (cell c (.sto cc)) 0 ∅ 0)
  | .half => iprop(atPos ER (cell c (.sto cc)) (0 + 1) ∅ 0 ∗ outPt c (posOf c) cc (outV pb c) ∗ rxPt c fullShare cc (sumV pb c))
  | _ => iprop(atPos ER (cell c (.sto cc)) (0 + 1) ∅ 0 ∗ rxPt c fullShare cc (sumV pb c))

/-- What a device holds for a copy at a stage. -/
def itP (c : Dev nD) : It → St → sProp 𝕄
  | .cp k => cpP pb c k
  | .st cc => stP pb c cc

/-- What a device holds for all copies. -/
def items (c : Dev nD) (σ : It → St) : sProp 𝕄 := bigSep Finset.univ fun it => itP pb c it (σ it)

/-- What a device owes: the arrivals of the copies it has not started. -/
def Ow (c : Dev nD) (σ : It → St) : CellTallies nD τ sig Unit :=
  ∑ k ∈ Finset.univ.filter (fun k => σ (.cp k) = .pre), tallyAt (cell (tgt k c) (.rcv k)) () N

/-- The invariants of all cells. -/
def Recs (K : GSem nD τ sig → ℕ) : sProp 𝕄 :=
  bigSep Finset.univ fun p : Dev nD × Kd => cellInv ER (Rd pb) (K (cell p.1 p.2)) (cell p.1 p.2)

instance (K : GSem nD τ sig → ℕ) : BI.Persistent (Recs pb K) := by unfold Recs; infer_instance

theorem Recs_get (K : GSem nD τ sig → ℕ) (c : Dev nD) (k : Kd) : Recs pb K ⊢ cellInv ER (Rd pb) (K (cell c k)) (cell c k) :=
  BI.bigSep_elim (Finset.mem_univ (c, k))

/-- A device's state. -/
def Sta (K : GSem nD τ sig → ℕ) (c : Dev nD) (σ : It → St) (X : sProp 𝕄) : sProp 𝕄 :=
  iprop(Recs pb K ∗ levAts L lv ∗ items pb c σ ∗ (∃ W, owes (c : Thread nD τ) (Ow c σ) W) ∗ X)

/-- One copy taken out of the state, to be put back at another stage. -/
theorem items_take (c : Dev nD) (σ : It → St) (it : It) (s : St) :
    items pb c σ ⊢ iprop(itP pb c it (σ it) ∗ (itP pb c it s -∗ items pb c (Function.update σ it s))) := by
  have e : bigSep (Finset.univ.erase it) (fun i => itP pb c i (Function.update σ it s i))
      = bigSep (Finset.univ.erase it) (fun i => itP pb c i (σ i)) :=
    BI.bigSep_congr fun i hi => by rw [Function.update_of_ne (Finset.ne_of_mem_erase hi)]
  have h1 : items pb c σ = iprop(itP pb c it (σ it) ∗ bigSep (Finset.univ.erase it) fun i => itP pb c i (σ i)) :=
    BI.bigSep_univ_split it
  have h2 : items pb c (Function.update σ it s) = iprop(itP pb c it s ∗ bigSep (Finset.univ.erase it) fun i => itP pb c i (σ i)) := by
    unfold items
    rw [BI.bigSep_univ_split it, Function.update_self, e]
    rfl
  rw [h1, h2]
  iintro ⟨H1, H2⟩
  isplitl [H1]; · iexact H1
  iintro H3
  isplitl [H3]; · iexact H3
  iexact H2

/-- Starting a copy pays its part of what is owed. -/
theorem Ow_start (c : Dev nD) (σ : It → St) (k : Cp) (h : σ (.cp k) = .pre) {s : St} (hs : s ≠ .pre) :
    Ow c σ = Ow c (Function.update σ (.cp k) s) + tallyAt (cell (tgt k c) (.rcv k)) () N := by
  unfold Ow
  rw [show (Finset.univ.filter fun k' => Function.update σ (It.cp k) s (.cp k') = .pre)
      = (Finset.univ.filter fun k' => σ (.cp k') = .pre).erase k from ?_]
  · rw [add_comm]
    exact (Finset.add_sum_erase _ (fun k => (tallyAt (cell (tgt k c) (.rcv k)) () N : CellTallies nD τ sig Unit))
      (Finset.mem_filter.mpr ⟨Finset.mem_univ k, h⟩)).symm
  · ext k'
    rw [Finset.mem_filter, Finset.mem_erase, Finset.mem_filter]
    by_cases e : k' = k
    · subst e; rw [Function.update_self]; exact ⟨fun h' => absurd h'.2 hs, fun h' => absurd rfl h'.1⟩
    · rw [Function.update_of_ne (fun h' => e (It.cp.inj h'))]
      exact ⟨fun h' => ⟨e, h'⟩, fun h' => h'.2⟩

/-- A copy past its start can change stage without touching what is owed. -/
theorem Ow_keep (c : Dev nD) (σ : It → St) (it : It) (h : σ it ≠ .pre) {s : St} (hs : s ≠ .pre) :
    Ow c (Function.update σ it s) = Ow c σ := by
  unfold Ow
  congr 1
  ext k'
  rw [Finset.mem_filter, Finset.mem_filter]
  by_cases e : It.cp k' = it
  · subst e; rw [Function.update_self]; exact ⟨fun h' => absurd h'.2 hs, fun h' => absurd h'.2 h⟩
  · rw [Function.update_of_ne e]

/-- The local copies owe nothing. -/
theorem Ow_st (c : Dev nD) (σ : It → St) (cc : Fin 4) (s : St) : Ow c (Function.update σ (.st cc) s) = Ow c σ := by
  unfold Ow
  congr 1

/-- With every copy started nothing is owed. -/
theorem Ow_zero (c : Dev nD) (σ : It → St) (h : ∀ k, σ (.cp k) ≠ .pre) : Ow c σ = 0 := by
  unfold Ow
  rw [Finset.filter_false_of_mem fun k _ => h k, Finset.sum_empty]

theorem Ow_pos (c : Dev nD) (σ : It → St) (g : GSem nD τ sig) (u : Unit) (h : 0 < Ow c σ g u) :
    ∃ k, σ (.cp k) = .pre ∧ g = cell (tgt k c) (.rcv k) := by
  unfold Ow at h
  rw [Finset.sum_apply, Finsupp.finsetSum_apply] at h
  obtain ⟨k, hk, hp⟩ := Finset.exists_ne_zero_of_sum_ne_zero (Nat.pos_iff_ne_zero.mp h)
  refine ⟨k, (Finset.mem_filter.mp hk).2, ?_⟩
  rw [tallyAt_apply] at hp
  by_contra e
  exact hp (if_neg fun h' => e h'.1)

/-- A wait whose cell lies below every arrival still owed may be made. -/
theorem mayWait (c : Dev nD) (σ : It → St) (k : Kd) (h : ∀ k', σ (.cp k') = .pre → lv (cell c k) () < 2 + ord k') :
    (levAts L lv : sProp 𝕄) ⊢ MayWait (c : Thread nD τ) (sem k) () (Ow c σ) :=
  MayOwe.of_cut (L := L) (lev := lv) (lv (cell c k) ())
    (fun p hp => by rw [Finset.mem_singleton.mp hp, L_tc]; exact Finset.mem_singleton_self _)
    (fun g u hg => by obtain ⟨k', -, rfl⟩ := Ow_pos c σ g u hg; rw [L_tc]; exact Finset.mem_singleton_self _)
    (fun p hp => by rw [Finset.mem_singleton.mp hp])
    (fun g u hg => by obtain ⟨k', hk, rfl⟩ := Ow_pos c σ g u hg; rw [lv_rcv]; exact h k' hk)

end Cert.KernelIdeal.Ring

end
-- ==== Proof.Ideal.Steps.lean ====
/-
  The steps of the protocol, each as a change of a device's state.
-/
module

public import proofs.«01_k».proof.Proof.Ideal.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

abbrev 𝒱₀ : Variants := Variants.none

/-- The weakest precondition of the kernel's operations on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (pb : Parts F)

/-- Every copy of the protocol moves as many units, whatever memory it writes. -/
theorem credit_N {sp : Space} (m : Memref sig .tc sp S2048x256 .f32) : m.view.dmaCredit = N := by
  have h : N = RefSig.tileCredit S2048x256 .f32 := by unfold N View.dmaCredit; with_reducible rfl
  rw [h]

/-! ## Changes of state between steps -/

theorem Sta_mono (K : GSem nD τ sig → ℕ) (c : Dev nD) (σ : It → St) {X Y : sProp 𝕄} (h : X ⊢ Y) :
    Sta pb K c σ X ⊢ Sta pb K c σ Y := by
  unfold Sta
  iintro ⟨#HR, #HL, HI, HO, HX⟩
  isplitr; · iexact HR
  isplitr; · iexact HL
  isplitl [HI]; · iexact HI
  isplitl [HO]; · iexact HO
  iapply h; iexact HX

/-- One copy taken past its start changes stage, exchanging resources with the rest. -/
theorem Sta_exchange (K : GSem nD τ sig → ℕ) (c : Dev nD) (σ : It → St) (it : It) (s : St) (hσ : σ it ≠ .pre) (hs : s ≠ .pre)
    {X Y : sProp 𝕄} (h : iprop(itP pb c it (σ it) ∗ X) ⊢ iprop(itP pb c it s ∗ Y)) :
    Sta pb K c σ X ⊢ Sta pb K c (Function.update σ it s) Y := by
  unfold Sta
  rw [Ow_keep c σ it hσ hs]
  iintro ⟨#HR, #HL, HI, HO, HX⟩
  ihave HI' := (items_take pb c σ it s) $$ HI
  icases HI' with ⟨Hit, Hback⟩
  ihave HE := h $$ [Hit HX]
  · isplitl [Hit] <;> iassumption
  icases HE with ⟨Hit, HY⟩
  isplitr; · iexact HR
  isplitr; · iexact HL
  isplitl [Hit Hback]; · iapply Hback; iexact Hit
  isplitl [HO]; · iexact HO
  iexact HY

/-- A copy that has arrived hands its target on. -/
theorem Sta_pass (K : GSem nD τ sig → ℕ) (c : Dev nD) (σ : It → St) (k : Cp) (hσ : σ (.cp k) = .done) (X : sProp 𝕄) :
    Sta pb K c σ X ⊢ Sta pb K c (Function.update σ (.cp k) .passed) iprop(landP pb c k ∗ X) :=
  Sta_exchange pb K c σ (.cp k) .passed (by rw [hσ]; decide) (by decide) (by
    rw [hσ]
    show iprop(cpP pb c k .done ∗ X) ⊢ iprop(cpP pb c k .passed ∗ landP pb c k ∗ X)
    unfold cpP
    iintro ⟨⟨H1, H2, H3, H4⟩, HX⟩
    isplitl [H1 H2 H3]
    · isplitl [H1]; · iexact H1
      isplitl [H2]; · iexact H2
      iexact H3
    isplitl [H4]; · iexact H4
    iexact HX)

/-- A copy between partners hands its source back. -/
theorem Sta_end (K : GSem nD τ sig → ℕ) (c : Dev nD) (σ : It → St) (k : Cp) (hσ : σ (.cp k) = .passed) (X : sProp 𝕄) :
    Sta pb K c σ X ⊢ Sta pb K c (Function.update σ (.cp k) .ended) iprop(srcP pb c k ∗ X) :=
  Sta_exchange pb K c σ (.cp k) .ended (by rw [hσ]; decide) (by decide) (by
    rw [hσ]
    show iprop(cpP pb c k .passed ∗ X) ⊢ iprop(cpP pb c k .ended ∗ srcP pb c k ∗ X)
    unfold cpP
    iintro ⟨⟨H1, H2, H3⟩, HX⟩
    isplitl [H1 H2]
    · isplitl [H1]; · iexact H1
      iexact H2
    isplitl [H3]; · iexact H3
    iexact HX)

/-- The local copy hands its target on, one half of the share to each direction of the ring. -/
theorem Sta_split (K : GSem nD τ sig → ℕ) (c : Dev nD) (σ : It → St) (cc : Fin 4) (hσ : σ (.st cc) = .half) (X : sProp 𝕄) :
    Sta pb K c σ X ⊢ Sta pb K c (Function.update σ (.st cc) .passed) iprop(srcP pb c (.w cc 0) ∗ srcP pb c (.v cc 0) ∗ X) :=
  Sta_exchange pb K c σ (.st cc) .passed (by rw [hσ]; decide) (by decide) (by
    rw [hσ]
    show iprop(stP pb c cc .half ∗ X) ⊢ iprop(stP pb c cc .passed ∗ srcP pb c (.w cc 0) ∗ srcP pb c (.v cc 0) ∗ X)
    have hs : outPt c (posOf c) cc (outV pb c) ⊢ iprop(srcP pb c (.w cc 0) ∗ srcP pb c (.v cc 0)) :=
      (pointsTo_share (PosShare.mem_left_op_right fullShare)).1
    unfold stP
    iintro ⟨⟨H1, H2, H3⟩, HX⟩
    ihave H := hs $$ H2
    icases H with ⟨H2, H4⟩
    isplitl [H1 H3]
    · isplitl [H1]; · iexact H1
      iexact H3
    isplitl [H2]; · iexact H2
    isplitl [H4]; · iexact H4
    iexact HX)

/-! ## Waits -/

theorem rest_one (c : Dev nD) (k : Kd) (h : dutiesOf k = {0}) :
    bigSep ((Rd pb).duties (cell c k) 0 \ ∅) (fun d => (Rd pb).payload (cell c k) 0 d) ⊢ payP pb c 0 k :=
  Entails.of_eq (rest_cell pb c k h)

/-- A wait on a copy's cell of kind `kk` moves the copy from one stage to the next. -/
theorem wait_step (K : GSem nD τ sig → ℕ) (c : Dev nD) (σ : It → St) (it : It) (s : St) (kk : Kd)
    (hd : dutiesOf kk = {0}) (ha : amt kk = N) (hσ : σ it ≠ .pre) (hs : s ≠ .pre)
    (hlv : ∀ k', σ (.cp k') = .pre → lv (cell c kk) () < 2 + ord k') {X R : sProp 𝕄}
    (hin : itP pb c it (σ it) ⊢ iprop(cred (tallyAt (cell c kk) () N) ∗ atPos ER (cell c kk) 0 ∅ 0 ∗ R))
    (hout : iprop(atPos ER (cell c kk) (0 + 1) ∅ 0 ∗ payP pb c 0 kk ∗ R) ⊢ itP pb c it s)
    {sp sp' : Space} {s₁ : Shape} {e₁ : EltTy} (sm : DmaSem sig) (hsm : SemLoc.dma sm = sem kk)
    (m₁ : Memref sig .tc sp s₁ e₁) (m₂ : Memref sig .tc sp' S2048x256 .f32)
    (h₁ : m₁.view.WordExact) (h₂ : m₂.view.WordExact)
    {Q : PUnit → sProp 𝕄} (hQ : Sta pb K c (Function.update σ it s) X ⊢ Q ⟨⟩) :
    Sta pb K c σ X ⊢ WP c (Prog.lift (.waitDma2 sm m₁ m₂ h₁ h₂)) Q := by
  have hN := credit_N m₂
  have rule (W : Waits sig Unit) := Rounds.wp_wait_rest_token (defs := defs₀ (F := F)) 𝒱₀ ER (Rd pb) (c : Thread nD τ) none (κ := K (cell c kk)) (Q := Q)
    (k := fun a => .ret a) (wpE_waitDma2_eq (src := m₁) (dst := m₂) (hsrc := h₁) (hdst := h₂) (sem := sm) 𝒱₀ (c : Thread nD τ) none Set.univ)
    (Set.mem_univ _) () (O := Ow c σ) (W := W) (R := 0) (m := 0) (T := ∅)
    (by rw [hN, hsm, Nat.zero_add]; exact ((expect_cell pb c kk hd).trans ha).symm)
  simp only [hN, hsm] at rule
  unfold Sta
  iintro ⟨#HR, #HL, HI, ⟨%W, HO⟩, HX⟩
  ihave HI' := (items_take pb c σ it s) $$ HI
  icases HI' with ⟨Hit, Hback⟩
  ihave HE := hin $$ Hit
  icases HE with ⟨Hc, Ha, HRest⟩
  iapply (rule W) $$ [Hc Ha HO]
  · isplitr; · iapply (Recs_get pb K c kk); iexact HR
    isplitl [Hc]; · iexact Hc
    isplitl [HO]; · iexact HO
    isplitr; · iapply (mayWait c σ kk hlv); iexact HL
    iexact Ha
  iintro ⟨HO, Ha, -, Hpay⟩
  ihave Hp := (rest_one pb c kk hd) $$ Hpay
  rw [wp_ret]
  imodintro
  iapply hQ
  unfold Sta
  rw [Ow_keep c σ it hσ hs]
  isplitr; · iexact HR
  isplitr; · iexact HL
  isplitl [Hback Ha Hp HRest]
  · iapply Hback; iapply hout
    isplitl [Ha]; · iexact Ha
    isplitl [Hp]; · iexact Hp
    iexact HRest
  isplitl [HO]; · iexists _; iexact HO
  iexact HX

/-- The wait for a copy's source. -/
theorem wait_snd (K : GSem nD τ sig → ℕ) (c : Dev nD) (σ : It → St) (k : Cp) (hσ : σ (.cp k) = .sent) {X : sProp 𝕄}
    {sp sp' : Space} {s₁ : Shape} {e₁ : EltTy} (sm : DmaSem sig) (hsm : sm = sndS k)
    (m₁ : Memref sig .tc sp s₁ e₁) (m₂ : Memref sig .tc sp' S2048x256 .f32)
    (h₁ : m₁.view.WordExact) (h₂ : m₂.view.WordExact)
    {Q : PUnit → sProp 𝕄} (hQ : Sta pb K c (Function.update σ (.cp k) .half) X ⊢ Q ⟨⟩) :
    Sta pb K c σ X ⊢ WP c (Prog.lift (.waitDma2 sm m₁ m₂ h₁ h₂)) Q :=
  wait_step pb K c σ (.cp k) .half (.snd k) rfl rfl (by rw [hσ]; decide) (by decide)
    (fun k' _ => by rw [lv_snd]; omega)
    (R := iprop(cred (tallyAt (cell c (.rcv k)) () N) ∗ atPos ER (cell c (.rcv k)) 0 ∅ 0))
    (by
      rw [hσ]
      show cpP pb c k .sent ⊢ _
      unfold cpP
      iintro ⟨H1, H2, H3, H4⟩
      isplitl [H1]; · iexact H1
      isplitl [H3]; · iexact H3
      isplitl [H2] <;> iassumption)
    (by
      show iprop(_ ∗ srcP pb c k ∗ _) ⊢ cpP pb c k .half
      unfold cpP
      iintro ⟨H1, H2, H3, H4⟩
      isplitl [H3]; · iexact H3
      isplitl [H1]; · iexact H1
      isplitl [H4] <;> iassumption)
    sm (by rw [hsm]; rfl) m₁ m₂ h₁ h₂ hQ

/-- The wait for a copy's arrival. -/
theorem wait_rcv (K : GSem nD τ sig → ℕ) (c : Dev nD) (σ : It → St) (k : Cp) (hσ : σ (.cp k) = .half)
    (hlv : ∀ k', σ (.cp k') = .pre → ord k < ord k') {X : sProp 𝕄}
    {sp sp' : Space} {s₁ : Shape} {e₁ : EltTy} (sm : DmaSem sig) (hsm : sm = rcvS k)
    (m₁ : Memref sig .tc sp s₁ e₁) (m₂ : Memref sig .tc sp' S2048x256 .f32)
    (h₁ : m₁.view.WordExact) (h₂ : m₂.view.WordExact)
    {Q : PUnit → sProp 𝕄} (hQ : Sta pb K c (Function.update σ (.cp k) .done) X ⊢ Q ⟨⟩) :
    Sta pb K c σ X ⊢ WP c (Prog.lift (.waitDma2 sm m₁ m₂ h₁ h₂)) Q :=
  wait_step pb K c σ (.cp k) .done (.rcv k) rfl rfl (by rw [hσ]; decide) (by decide)
    (fun k' h => by have := hlv k' h; rw [lv_rcv]; omega)
    (R := iprop(atPos ER (cell c (.snd k)) (0 + 1) ∅ 0 ∗ srcP pb c k))
    (by
      rw [hσ]
      show cpP pb c k .half ⊢ _
      unfold cpP
      iintro ⟨H1, H2, H3, H4⟩
      isplitl [H1]; · iexact H1
      isplitl [H3]; · iexact H3
      isplitl [H2] <;> iassumption)
    (by
      show iprop(_ ∗ landP pb c k ∗ _) ⊢ cpP pb c k .done
      unfold cpP
      iintro ⟨H1, H2, H3, H4⟩
      isplitl [H3]; · iexact H3
      isplitl [H1]; · iexact H1
      isplitl [H4] <;> iassumption)
    sm (by rw [hsm]; rfl) m₁ m₂ h₁ h₂ hQ

/-- The wait for a local copy. -/
theorem wait_sto (K : GSem nD τ sig → ℕ) (c : Dev nD) (σ : It → St) (cc : Fin 4) (hσ : σ (.st cc) = .sent) {X : sProp 𝕄}
    {sp sp' : Space} {s₁ : Shape} {e₁ : EltTy} (sm : DmaSem sig) (hsm : sm = stoS cc)
    (m₁ : Memref sig .tc sp s₁ e₁) (m₂ : Memref sig .tc sp' S2048x256 .f32)
    (h₁ : m₁.view.WordExact) (h₂ : m₂.view.WordExact)
    {Q : PUnit → sProp 𝕄} (hQ : Sta pb K c (Function.update σ (.st cc) .half) X ⊢ Q ⟨⟩) :
    Sta pb K c σ X ⊢ WP c (Prog.lift (.waitDma2 sm m₁ m₂ h₁ h₂)) Q :=
  wait_step pb K c σ (.st cc) .half (.sto cc) rfl rfl (by rw [hσ]; decide) (by decide)
    (fun k' _ => by rw [lv_sto]; omega) (R := iprop(emp))
    (by
      rw [hσ]
      show stP pb c cc .sent ⊢ _
      unfold stP
      iintro ⟨H1, H2⟩
      isplitl [H1]; · iexact H1
      isplitl [H2]; · iexact H2
      iempintro)
    (by
      show iprop(_ ∗ stoP pb c cc ∗ _) ⊢ stP pb c cc .half
      unfold stP stoP
      iintro ⟨H1, ⟨H2, H3⟩, -⟩
      isplitl [H1]; · iexact H1
      isplitl [H2] <;> iassumption)
    sm (by rw [hsm]; rfl) m₁ m₂ h₁ h₂ hQ

/-! ## Starts -/

/-- Starting remote copy `k`: its source is given up, its target and its duties are paid. -/
theorem start_step (K : GSem nD τ sig → ℕ) (c : Dev nD) (σ : It → St) (k : Cp) (hσ : σ (.cp k) = .pre) {X : sProp 𝕄}
    {sp sp' : Space} (ms : Memref sig .tc sp S2048x256 .f32) (md : Memref sig .tc sp' S2048x256 .f32)
    {q : PosShare TreeShare} (fs : Buf (Elt F) (ms.view.loc (c : Thread nD τ)))
    (hsrc : srcP pb c k ⊢ (ms.view.loc (c : Thread nD τ) ↦[ms.view.set]{q} fs))
    (hsrc' : (ms.view.loc (c : Thread nD τ) ↦[ms.view.set]{q} fs) ⊢ srcP pb c k)
    (hdst : dstP (F := F) (tgt k c) k ⊢ iprop(∃ f : Buf (Elt F) (md.view.loc (tgt k c : Thread nD τ)),
      md.view.loc (tgt k c : Thread nD τ) ↦[md.view.set]{fullShare} f))
    (hland : ∀ fd : Buf (Elt F) (md.view.loc (tgt k c : Thread nD τ)),
      (md.view.loc (tgt k c : Thread nD τ) ↦[md.view.set]{fullShare} (md.view.write (Elt F) fd (ms.view.read (Elt F) fs) Finset.univ))
        ⊢ landP pb (tgt k c) k)
    (d : Dev nD) (hd : d = tgt k c) (ss rs : DmaSem sig) (hss : ss = sndS k) (hrs : rs = rcvS k)
    {hsc : md.view.ref.isScScratch = false} {h₁ : ms.view.WordExact} {h₂ : md.view.WordExact}
    {h₃ : DmaTarget.Typed sp (.dma rs) (.remote (Dev.tc d) md (.dma ss) hsc)}
    {Q : PUnit → sProp 𝕄} (hQ : Sta pb K c (Function.update σ (.cp k) .sent) X ⊢ Q ⟨⟩) :
    Sta pb K c σ iprop(srcP pb c k ∗ X)
      ⊢ WP c (Prog.lift (.enqueueDma ms (.remote (Dev.tc d) md (.dma ss) hsc) (.dma rs) h₁ h₂ h₃)) Q := by
  subst hd hss hrs
  unfold Sta
  iintro ⟨#HR, #HL, HI, ⟨%W, HO⟩, Hs, HX⟩
  ihave HI' := (items_take pb c σ (.cp k) .sent) $$ HI
  icases HI' with ⟨Hit, Hback⟩
  rw [hσ]
  ihave HE := (Entails.of_eq (show itP pb c (.cp k) .pre = cpP pb c k .pre from rfl)) $$ Hit
  unfold cpP
  icases HE with ⟨Ht1, #Hr1, Ht2, #Hr2, Hd, Ha1, Ha2, Hc⟩
  ihave Hd' := hdst $$ Hd
  icases Hd' with ⟨%fd, Hd⟩
  ihave Hs' := hsrc $$ Hs
  iapply (Rounds.wp_send_pointsTo (defs := defs₀ (F := F)) 𝒱₀ ER (Rd pb) (c : Thread nD τ) none (c' := (tgt k c : Thread nD τ)) (src := ms) (dst := md)
      (sS := .dma (sndS k)) (sem := .dma (rcvS k)) (q := q) (fs := fs) (κ₁ := K (cell c (.snd k))) (κ₂ := K (cell (tgt k c) (.rcv k)))
      (r₁ := 0) (r₂ := 0) (d₁ := 0) (d₂ := 0) (fd := fd)
      ((duties_cell pb c (.snd k)).symm ▸ Finset.mem_singleton_self _) ((duties_cell pb (tgt k c) (.rcv k)).symm ▸ Finset.mem_singleton_self _)
      () () N (credit_N md) (amount_cell pb c (.snd k) 0) (amount_cell pb (tgt k c) (.rcv k) 0) (Ow c (Function.update σ (.cp k) .sent))
      (Ow_start c σ k hσ (by decide)) (W := W)
      (hsrc'.trans (Entails.of_eq (payload_cell pb c (.snd k) 0).symm))
      ((hland fd).trans (Entails.of_eq (payload_cell pb (tgt k c) (.rcv k) 0).symm))) $$ [Hs' Hd HO Ht1 Ht2]
  · isplitr; · iapply (Recs_get pb K c (.snd k)); iexact HR
    isplitr; · iapply (Recs_get pb K (tgt k c) (.rcv k)); iexact HR
    isplitl [Hs']; · iexact Hs'
    isplitl [Hd]; · iexact Hd
    isplitl [HO]; · iexact HO
    isplitl [Ht1]; · iexact Ht1
    isplitr; · iexact Hr1
    isplitl [Ht2]; · iexact Ht2
    iexact Hr2
  iintro ⟨Hcs, HO⟩
  rw [wp_ret]
  imodintro
  iapply hQ
  unfold Sta
  isplitr; · iexact HR
  isplitr; · iexact HL
  isplitl [Hback Hcs Hc Ha1 Ha2]
  · iapply Hback
    iapply (Entails.of_eq (show cpP pb c k .sent = itP pb c (.cp k) .sent from rfl))
    unfold cpP
    isplitl [Hcs]; · iexact Hcs
    isplitl [Hc]; · iexact Hc
    isplitl [Ha1] <;> iassumption
  isplitl [HO]; · iexists _; iexact HO
  iexact HX

/-- The copy to the partner. -/
theorem start_x (K : GSem nD τ sig → ℕ) (c : Dev nD) (σ : It → St) (cc : Fin 4) (hσ : σ (.cp (.x cc)) = .pre) {X : sProp 𝕄}
    (ms : Memref sig .tc .vmem S2048x256 .f32) (hms : ms = pbM ⟨cc.val % 2, by omega⟩ (1 - xOf c))
    (md : Memref sig .tc .vmem S2048x256 .f32) (hmd : md = rxM cc)
    (d : Dev nD) (hd : d = par c) (ss rs : DmaSem sig) (hss : ss = sndS (.x cc)) (hrs : rs = rcvS (.x cc))
    {hsc : md.view.ref.isScScratch = false} {h₁ : ms.view.WordExact} {h₂ : md.view.WordExact}
    {h₃ : DmaTarget.Typed .vmem (.dma rs) (.remote (Dev.tc d) md (.dma ss) hsc)}
    {Q : PUnit → sProp 𝕄} (hQ : Sta pb K c (Function.update σ (.cp (.x cc)) .sent) X ⊢ Q ⟨⟩) :
    Sta pb K c σ iprop(srcP pb c (.x cc) ∗ X)
      ⊢ WP c (Prog.lift (.enqueueDma ms (.remote (Dev.tc d) md (.dma ss) hsc) (.dma rs) h₁ h₂ h₃)) Q := by
  subst hms hmd
  refine start_step pb K c σ (.x cc) hσ (pbM ⟨cc.val % 2, by omega⟩ (1 - xOf c)) (rxM cc) (q := fullShare) (slotV pb c cc) ?_ ?_ ?_ ?_ d hd ss rs hss hrs hQ
  · exact Entails.refl _
  · exact Entails.refl _
  · exact Entails.refl _
  · intro fd
    show _ ⊢ rxPt (par c) fullShare cc (rxV pb (par c))
    unfold rxPt
    exact Entails.of_eq (pointsTo_congr (landed_x pb c cc _ fd))

/-- The quarter chunk a ring copy carries, numbered as its target: the place is the same on both devices. -/
theorem ringPos_tgt (c : Dev nD) (k : Cp) : ringPos (tgt k c) k = match k with
    | .x _ => 0
    | .w _ h => posOf c - ⟨h.val, by omega⟩
    | .v _ h => posOf c + ⟨h.val, by omega⟩ := by
  revert c k; decide +kernel

/-- The place a hop of a ring copy reads and writes: `h` steps behind the device forwards, `h` steps ahead backwards. -/
def hopPos (c : Dev nD) : Cp → Fin 8
  | .x _ => 0
  | .w _ h => posOf c - ⟨h.val, by omega⟩
  | .v _ h => posOf c + ⟨h.val, by omega⟩

/-- The quarter of a chunk a copy is about. -/
def quarter : Cp → Fin 4
  | .x cc => cc
  | .w cc _ => cc
  | .v cc _ => cc

/-- The copy goes along the ring. -/
def ring : Cp → Bool
  | .x _ => false
  | _ => true

/-- The share at which a copy holds its source. -/
def share : Cp → PosShare TreeShare
  | .w _ 0 => fullShare.left
  | .v _ 0 => fullShare.right
  | _ => fullShare

theorem srcP_ring (c : Dev nD) (k : Cp) (h : ring k = true) :
    srcP pb c k = outSh c (share k) (hopPos c k) (quarter k) (outV pb c) := by
  have h0 : posOf c - ⟨(0 : Fin 4).val, by omega⟩ = posOf c := by show posOf c - 0 = posOf c; omega
  have h1 : posOf c + ⟨(0 : Fin 3).val, by omega⟩ = posOf c := by show posOf c + 0 = posOf c; omega
  rcases k with cc | ⟨cc, i⟩ | ⟨cc, i⟩
  · exact Bool.noConfusion h
  · fin_cases i
    · show _ = outSh c fullShare.left (posOf c - ⟨(0 : Fin 4).val, _⟩) cc (outV pb c)
      rw [h0]; rfl
    all_goals rfl
  · fin_cases i
    · show _ = outSh c fullShare.right (posOf c + ⟨(0 : Fin 3).val, _⟩) cc (outV pb c)
      rw [h1]; rfl
    all_goals rfl

theorem ringPos_hop (c : Dev nD) (k : Cp) (h : ring k = true) : ringPos (tgt k c) k = hopPos c k := by
  rw [ringPos_tgt]; cases k <;> rfl

/-- A hop of a ring copy. -/
theorem start_hop (K : GSem nD τ sig → ℕ) (c : Dev nD) (σ : It → St) (k : Cp) (hk : ring k = true)
    (hσ : σ (.cp k) = .pre) {X : sProp 𝕄}
    (ms : Memref sig .tc .hbm S2048x256 .f32) (hms : ms = outM (hopPos c k) (quarter k))
    (md : Memref sig .tc .hbm S2048x256 .f32) (hmd : md = outM (hopPos c k) (quarter k))
    (d : Dev nD) (hd : d = tgt k c) (ss rs : DmaSem sig) (hss : ss = sndS k) (hrs : rs = rcvS k)
    {hsc : md.view.ref.isScScratch = false} {h₁ : ms.view.WordExact} {h₂ : md.view.WordExact}
    {h₃ : DmaTarget.Typed .hbm (.dma rs) (.remote (Dev.tc d) md (.dma ss) hsc)}
    {Q : PUnit → sProp 𝕄} (hQ : Sta pb K c (Function.update σ (.cp k) .sent) X ⊢ Q ⟨⟩) :
    Sta pb K c σ iprop(srcP pb c k ∗ X)
      ⊢ WP c (Prog.lift (.enqueueDma ms (.remote (Dev.tc d) md (.dma ss) hsc) (.dma rs) h₁ h₂ h₃)) Q := by
  subst hms hmd
  have hx : xOf (tgt k c) = xOf c := by
    rcases k with cc | ⟨cc, i⟩ | ⟨cc, i⟩
    · exact Bool.noConfusion hk
    · exact xOf_nxt c
    · exact xOf_prv c
  have hdst : dstP (F := F) (tgt k c) k = iprop(∃ f, outPt (tgt k c) (hopPos c k) (quarter k) f) := by
    rw [← ringPos_hop c k hk]
    rcases k with cc | ⟨cc, i⟩ | ⟨cc, i⟩
    · exact Bool.noConfusion hk
    all_goals rfl
  have hland : landP pb (tgt k c) k = outPt (tgt k c) (hopPos c k) (quarter k) (outV pb (tgt k c)) := by
    rw [← ringPos_hop c k hk]
    rcases k with cc | ⟨cc, i⟩ | ⟨cc, i⟩
    · exact Bool.noConfusion hk
    all_goals rfl
  refine start_step pb K c σ k hσ (outM (hopPos c k) (quarter k)) (outM (hopPos c k) (quarter k)) (q := share k) (outV pb c) ?_ ?_ ?_ ?_
    d hd ss rs hss hrs hQ
  · rw [srcP_ring pb c k hk]; exact Entails.refl _
  · rw [srcP_ring pb c k hk]; exact Entails.refl _
  · rw [hdst]; exact Entails.refl _
  · intro fd
    rw [hland]
    unfold outPt
    exact Entails.of_eq (pointsTo_congr (landed_hop pb c (tgt k c) hx (hopPos c k) (quarter k) fd))

theorem sto_lands (c : Dev nD) (cc : Fin 4) (fd : Buf (Elt F) ((outM (posOf c) cc).view.loc (c : Thread nD τ))) :
    iprop(((outM (posOf c) cc).view.loc (c : Thread nD τ) ↦[(outM (posOf c) cc).view.set]{fullShare}
        ((outM (posOf c) cc).view.write (Elt F) fd ((rxM cc).view.read (Elt F) (sumV pb c)) Finset.univ))
      ∗ ((rxM cc).view.loc (c : Thread nD τ) ↦[(rxM cc).view.set]{fullShare} sumV pb c)) ⊢ stoP pb c cc := by
  rw [pointsTo_congr (landed_st pb c cc fd)]
  exact Entails.refl _

/-- Starting the local copy of a finished sum to the result. -/
theorem start_sto (K : GSem nD τ sig → ℕ) (c : Dev nD) (σ : It → St) (cc : Fin 4)
    (hσ : σ (.st cc) = .pre) {X : sProp 𝕄}
    (ms : Memref sig .tc .vmem S2048x256 .f32) (hms : ms = rxM cc)
    (md : Memref sig .tc .hbm S2048x256 .f32) (hmd : md = outM (posOf c) cc) (ss : DmaSem sig) (hss : ss = stoS cc)
    {h₁ : ms.view.WordExact} {h₂ : md.view.WordExact} {h₃ : DmaTarget.Typed (nD := nD) (τ := τ) (p := Proc.tc) .vmem (.dma ss) (.here md)}
    {Q : PUnit → sProp 𝕄} (hQ : Sta pb K c (Function.update σ (.st cc) .sent) X ⊢ Q ⟨⟩) :
    Sta pb K c σ iprop(rxPt c fullShare cc (sumV pb c) ∗ X)
      ⊢ WP c (Prog.lift (.enqueueDma ms (.here md) (.dma ss) h₁ h₂ h₃)) Q := by
  subst hms hmd hss
  unfold Sta
  iintro ⟨#HR, #HL, HI, HO, Hs, HX⟩
  ihave HI' := (items_take pb c σ (.st cc) .sent) $$ HI
  icases HI' with ⟨Hit, Hback⟩
  rw [hσ]
  ihave HE := (Entails.of_eq (show itP pb c (.st cc) .pre = stP pb c cc .pre from rfl)) $$ Hit
  unfold stP
  icases HE with ⟨⟨%fd, Hd⟩, Ha, Ht, #Hr⟩
  ihave Hs' := (Entails.of_eq (show rxPt c fullShare cc (sumV pb c)
    = ((rxM cc).view.loc (c : Thread nD τ) ↦[(rxM cc).view.set]{fullShare} sumV pb c) from rfl)) $$ Hs
  ihave Hd' := (Entails.of_eq (show outPt c (posOf c) cc fd
    = ((outM (posOf c) cc).view.loc (c : Thread nD τ) ↦[(outM (posOf c) cc).view.set]{fullShare} fd) from rfl)) $$ Hd
  iapply (Rounds.wp_copy_pointsTo (defs := defs₀ (F := F)) 𝒱₀ ER (Rd pb) (c : Thread nD τ) none (src := rxM cc) (dst := outM (posOf c) cc)
    (sem := .dma (stoS cc)) (q := fullShare) (fs := sumV pb c) (fd := fd) (r := 0) (d := 0) (κ := K (cell c (.sto cc)))
    ((duties_cell pb c (.sto cc)).symm ▸ Finset.mem_singleton_self _) () N (credit_N (outM (posOf c) cc)) (amount_cell pb c (.sto cc) 0)
    ((sto_lands pb c cc fd).trans (Entails.of_eq (payload_cell pb c (.sto cc) 0).symm))) $$ [Hs' Hd' Ht]
  · isplitr; · iapply (Recs_get pb K c (.sto cc)); iexact HR
    isplitl [Hs']; · iexact Hs'
    isplitl [Hd']; · iexact Hd'
    isplitl [Ht]; · iexact Ht
    iexact Hr
  iintro Hc
  rw [wp_ret]
  imodintro
  iapply hQ
  unfold Sta
  rw [Ow_st]
  isplitr; · iexact HR
  isplitr; · iexact HL
  isplitl [Hback Hc Ha]
  · iapply Hback
    iapply (Entails.of_eq (show stP pb c cc .sent = itP pb c (.st cc) .sent from rfl))
    unfold stP
    isplitl [Hc]; · iexact Hc
    iexact Ha
  isplitl [HO]; · iexact HO
  iexact HX

/-! ## Loads and stores -/

/-- A load from memory held beside the state, which stays as it is. -/
theorem load_step (K : GSem nD τ sig → ℕ) (c : Dev nD) (σ : It → St) {X : sProp 𝕄}
    {s : Shape} {e : EltTy} {cs : CoreSpace} (m : Memref sig .tc cs s e) (r : LoadRect s) (hl : m.view.LoadsAt r)
    {S : Finset (Idx (m.view.loc (c : Thread nD τ)))} {q : PosShare TreeShare} {f : Buf (Elt F) (m.view.loc (c : Thread nD τ))}
    (hS : m.view.setOn r.set ⊆ S)
    (hin : X ⊢ iprop((m.view.loc (c : Thread nD τ) ↦[S]{q} f) ∗ ((m.view.loc (c : Thread nD τ) ↦[S]{q} f) -∗ X)))
    {Q : (r.shape.Idx → Elt F e) → sProp 𝕄} (hQ : Sta pb K c σ X ⊢ Q (m.view.readAt (Elt F) r f)) :
    Sta pb K c σ X ⊢ WP c (Prog.lift (.load m r hl)) Q := by
  unfold Sta
  iintro ⟨#HR, #HL, HI, HO, HX⟩
  ihave HX' := hin $$ HX
  icases HX' with ⟨Hm, Hback⟩
  iapply (wp_load (defs := defs₀ (F := F)) 𝒱₀ (c : Thread nD τ) none Set.univ (k := fun a => .ret a) (m := m) (hl := hl) hS) $$ Hm
  iintro Hm
  rw [wp_ret]
  imodintro
  iapply hQ
  unfold Sta
  isplitr; · iexact HR
  isplitr; · iexact HL
  isplitl [HI]; · iexact HI
  isplitl [HO]; · iexact HO
  iapply Hback; iexact Hm

/-- A store to memory held beside the state. -/
theorem store_step (K : GSem nD τ sig → ℕ) (c : Dev nD) (σ : It → St) {X Y : sProp 𝕄}
    {s : Shape} {e : EltTy} {cs : CoreSpace} (m : Memref sig .tc cs s e) (r : Rect s) (w : r.shape.Idx → Elt F e)
    {Mk : Finset r.shape.Idx} (hx : (m.access r).Stores Mk) (hm : Mk = Finset.univ ∨ ∀ a, r.stride a = 1)
    {S : Finset (Idx ((m.access r).loc (c : Thread nD τ)))}
    (hS : (m.access r).setOn Mk ⊆ S)
    (hin : X ⊢ iprop(∃ f : Buf (Elt F) ((m.access r).loc (c : Thread nD τ)), ((m.access r).loc (c : Thread nD τ) ↦[S]{fullShare} f)
      ∗ (((m.access r).loc (c : Thread nD τ) ↦[S]{fullShare} ((m.access r).write (Elt F) f w Mk)) -∗ Y)))
    {Q : PUnit → sProp 𝕄} (hQ : Sta pb K c σ Y ⊢ Q ⟨⟩) :
    Sta pb K c σ X ⊢ WP c (Prog.lift (.store m r w Mk hx hm)) Q := by
  unfold Sta
  iintro ⟨#HR, #HL, HI, HO, HX⟩
  ihave HX' := hin $$ HX
  icases HX' with ⟨%f, Hm, Hback⟩
  iapply (wp_store (defs := defs₀ (F := F)) 𝒱₀ (c : Thread nD τ) none Set.univ (k := fun a => .ret a) (m := m) (hx := hx) (hm := hm) hS) $$ Hm
  iintro Hm
  rw [wp_ret]
  imodintro
  iapply hQ
  unfold Sta
  isplitr; · iexact HR
  isplitr; · iexact HL
  isplitl [HI]; · iexact HI
  isplitl [HO]; · iexact HO
  iapply Hback; iexact Hm

end Cert.KernelIdeal.Ring

end
-- ==== Proof.Ideal.Plan.lean ====
/-
  The changes of stage of a device's copies over the whole kernel, in program order, and the steps
  of the protocol as moves along that sequence.
-/
module

public import proofs.«01_k».proof.Proof.Ideal.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## The sequence -/

/-- A copy is waited for, its source first. -/
def arrive (k : Cp) : List (It × St) := [(.cp k, .half), (.cp k, .done)]
/-- A ring copy is waited for and what came is sent on with the next copy. -/
def forward (k k' : Cp) : List (It × St) := arrive k ++ [(.cp k, .passed), (.cp k', .sent)]
/-- The partner's half is waited for, the sum is stored in the result and sent both ways. -/
def reduce (cc : Fin 4) : List (It × St) :=
  arrive (.x cc) ++ [(.cp (.x cc), .passed), (.cp (.x cc), .ended), (.st cc, .sent), (.st cc, .half), (.st cc, .passed),
    (.cp (.w cc 0), .sent), (.cp (.v cc 0), .sent)]

/-- All changes of stage, in program order. -/
def evs : List (It × St) :=
  [(.cp (.x 0), .sent)]
  ++ reduce 0
  ++ ((.cp (.x 1), .sent) :: (forward (.w 0 0) (.w 0 1) ++ forward (.v 0 0) (.v 0 1)))
  ++ (reduce 1 ++ forward (.w 0 1) (.w 0 2) ++ forward (.v 0 1) (.v 0 2))
  ++ ((.cp (.x 2), .sent) :: (forward (.w 1 0) (.w 1 1) ++ forward (.v 1 0) (.v 1 1) ++ forward (.w 0 2) (.w 0 3) ++ arrive (.v 0 2)))
  ++ (reduce 2 ++ forward (.w 1 1) (.w 1 2) ++ forward (.v 1 1) (.v 1 2) ++ arrive (.w 0 3))
  ++ ((.cp (.x 3), .sent) :: (forward (.w 2 0) (.w 2 1) ++ forward (.v 2 0) (.v 2 1) ++ forward (.w 1 2) (.w 1 3) ++ arrive (.v 1 2)
    ++ reduce 3 ++ forward (.w 2 1) (.w 2 2) ++ forward (.v 2 1) (.v 2 2) ++ arrive (.w 1 3)
    ++ forward (.w 3 0) (.w 3 1) ++ forward (.v 3 0) (.v 3 1) ++ forward (.w 2 2) (.w 2 3) ++ arrive (.v 2 2)
    ++ forward (.w 3 1) (.w 3 2) ++ forward (.v 3 1) (.v 3 2) ++ arrive (.w 2 3)
    ++ forward (.w 3 2) (.w 3 3) ++ arrive (.v 3 2) ++ arrive (.w 3 3)))

/-- The stages after the first `n` changes. -/
def stg (n : ℕ) (it : It) : St := (evs.take n).foldl (fun s e => if e.1 = it then e.2 else s) .pre

theorem stg_succ {n : ℕ} {it : It} {s : St} (h : evs[n]? = some (it, s)) : stg (n + 1) = Function.update (stg n) it s := by
  funext j
  unfold stg
  rw [List.take_add_one, h, Option.toList_some, List.foldl_append, List.foldl_cons, List.foldl_nil]
  by_cases e : j = it
  · subst e; rw [Function.update_self, if_pos rfl]
  · rw [Function.update_of_ne e, if_neg fun h' => e h'.symm]

variable (pb : Parts F)

/-- A device's state after the first `n` changes, beside whatever else it holds. -/
abbrev At (K : GSem nD τ sig → ℕ) (c : Dev nD) (n : ℕ) (X : sProp 𝕄) : sProp 𝕄 := Sta pb K c (stg n) X

variable {pb}
variable {K : GSem nD τ sig → ℕ} {c : Dev nD}

/-! ## Programs -/

theorem then_ {α β : Type} {p : Prog (TpuEff nD τ sig (Elt F) Λ₀ .tc) α} {k : α → Prog (TpuEff nD τ sig (Elt F) Λ₀ .tc) β}
    {P : sProp 𝕄} {Q : β → sProp 𝕄} (h : P ⊢ WP c p (fun a => WP c (k a) Q)) : P ⊢ WP c (p >>= k) Q := by
  unfold WP; erw [wp_bind]; exact h

theorem done_ {α : Type} {r : α} {P : sProp 𝕄} {Q : α → sProp 𝕄} (h : P ⊢ Q r) :
    P ⊢ WP c (pure r : Prog (TpuEff nD τ sig (Elt F) Λ₀ .tc) α) Q := by
  unfold WP
  show P ⊢ wp frame _ Set.univ (.ret r) Q
  rw [wp_ret]
  exact h.trans (by iintro H; imodintro; iexact H)

/-! ## The steps -/

/-- Wait for the source of a copy. -/
theorem snd_ {X : sProp 𝕄} (n : ℕ) (k : Cp) (h : evs[n]? = some (.cp k, .half) ∧ stg n (.cp k) = .sent)
    {sp sp' : Space} {s₁ : Shape} {e₁ : EltTy} {sm : DmaSem sig} (hsm : sm = sndS k)
    {m₁ : Memref sig .tc sp s₁ e₁} {m₂ : Memref sig .tc sp' S2048x256 .f32}
    {h₁ : m₁.view.WordExact} {h₂ : m₂.view.WordExact}
    {Q : PUnit → sProp 𝕄} (hQ : At pb K c (n + 1) X ⊢ Q ⟨⟩) :
    At pb K c n X ⊢ WP c (Prog.lift (.waitDma2 sm m₁ m₂ h₁ h₂)) Q :=
  wait_snd pb K c (stg n) k h.2 sm hsm m₁ m₂ h₁ h₂ (stg_succ h.1 ▸ hQ)

/-- Wait for the arrival of a copy. -/
theorem rcv_ {X : sProp 𝕄} (n : ℕ) (k : Cp)
    (h : evs[n]? = some (.cp k, .done) ∧ stg n (.cp k) = .half ∧ ∀ k', stg n (.cp k') = .pre → ord k < ord k')
    {sp sp' : Space} {s₁ : Shape} {e₁ : EltTy} {sm : DmaSem sig} (hsm : sm = rcvS k)
    {m₁ : Memref sig .tc sp s₁ e₁} {m₂ : Memref sig .tc sp' S2048x256 .f32}
    {h₁ : m₁.view.WordExact} {h₂ : m₂.view.WordExact}
    {Q : PUnit → sProp 𝕄} (hQ : At pb K c (n + 1) X ⊢ Q ⟨⟩) :
    At pb K c n X ⊢ WP c (Prog.lift (.waitDma2 sm m₁ m₂ h₁ h₂)) Q :=
  wait_rcv pb K c (stg n) k h.2.1 h.2.2 sm hsm m₁ m₂ h₁ h₂ (stg_succ h.1 ▸ hQ)

/-- Wait for the arrival of the partner's half: both it and the half sent there come back. -/
theorem rcvX_ {X : sProp 𝕄} (n : ℕ) (cc : Fin 4)
    (h : evs[n]? = some (.cp (.x cc), .done) ∧ stg n (.cp (.x cc)) = .half ∧ ∀ k', stg n (.cp k') = .pre → ord (.x cc) < ord k')
    (h' : evs[n + 1]? = some (.cp (.x cc), .passed) ∧ evs[n + 2]? = some (.cp (.x cc), .ended))
    {sp sp' : Space} {s₁ : Shape} {e₁ : EltTy} {sm : DmaSem sig} (hsm : sm = rcvS (.x cc))
    {m₁ : Memref sig .tc sp s₁ e₁} {m₂ : Memref sig .tc sp' S2048x256 .f32}
    {h₁ : m₁.view.WordExact} {h₂ : m₂.view.WordExact}
    {Q : PUnit → sProp 𝕄} (hQ : At pb K c (n + 3) iprop(srcP pb c (.x cc) ∗ landP pb c (.x cc) ∗ X) ⊢ Q ⟨⟩) :
    At pb K c n X ⊢ WP c (Prog.lift (.waitDma2 sm m₁ m₂ h₁ h₂)) Q := by
  refine rcv_ n (.x cc) h hsm ?_
  have e1 : stg (n + 1) (.cp (.x cc)) = .done := by rw [stg_succ h.1, Function.update_self]
  have e2 : stg (n + 2) (.cp (.x cc)) = .passed := by rw [stg_succ h'.1, Function.update_self]
  have s1 := Sta_pass pb K c (stg (n + 1)) (.x cc) e1 X
  rw [← stg_succ h'.1] at s1
  have s2 := Sta_end pb K c (stg (n + 1 + 1)) (.x cc) e2 iprop(landP pb c (.x cc) ∗ X)
  rw [← stg_succ h'.2] at s2
  exact s1.trans (s2.trans hQ)

/-- Start the exchange of a half. -/
theorem startX_ {X : sProp 𝕄} (n : ℕ) (cc : Fin 4) (h : evs[n]? = some (.cp (.x cc), .sent) ∧ stg n (.cp (.x cc)) = .pre)
    {ms : Memref sig .tc .vmem S2048x256 .f32} (hms : ms = pbM ⟨cc.val % 2, by omega⟩ (1 - xOf c))
    {md : Memref sig .tc .vmem S2048x256 .f32} (hmd : md = rxM cc)
    {d : Dev nD} (hd : d = par c) {ss rs : DmaSem sig} (hss : ss = sndS (.x cc)) (hrs : rs = rcvS (.x cc))
    {hsc : md.view.ref.isScScratch = false} {h₁ : ms.view.WordExact} {h₂ : md.view.WordExact}
    {h₃ : DmaTarget.Typed .vmem (.dma rs) (.remote (Dev.tc d) md (.dma ss) hsc)}
    {Q : PUnit → sProp 𝕄} (hQ : At pb K c (n + 1) X ⊢ Q ⟨⟩) :
    At pb K c n iprop(srcP pb c (.x cc) ∗ X)
      ⊢ WP c (Prog.lift (.enqueueDma ms (.remote (Dev.tc d) md (.dma ss) hsc) (.dma rs) h₁ h₂ h₃)) Q :=
  start_x pb K c (stg n) cc h.2 ms hms md hmd d hd ss rs hss hrs (stg_succ h.1 ▸ hQ)

/-- A quarter chunk of the result, by its offsets. -/
theorem outM_of {off : Fin 2 → ℕ} {q : Fin 8} {cc : Fin 4} (h : off = ![0, q.val * 1024 + cc.val * 256])
    (inb : ∀ a, off a + S2048x256.size a ≤ S2048x8192.size a) :
    (Memref.whole main_v17).slice (Rect.unit (s := S2048x8192) off S2048x256.size inb) (fun _ => rfl) = outM q cc := by
  subst h; rfl

/-- Start a ring copy whose source is in hand. -/
theorem startR_ {X : sProp 𝕄} (n : ℕ) (k : Cp) (h : evs[n]? = some (.cp k, .sent) ∧ stg n (.cp k) = .pre ∧ ring k = true)
    {off : Fin 2 → ℕ} (hoff : off = ![0, (hopPos c k).val * 1024 + (quarter k).val * 256])
    {inb : ∀ a, off a + S2048x256.size a ≤ S2048x8192.size a}
    {d : Dev nD} (hd : d.val = (tgt k c).val) {ss rs : DmaSem sig} (hss : ss = sndS k) (hrs : rs = rcvS k)
    {hsc : ((Memref.whole main_v17).slice (Rect.unit (s := S2048x8192) off S2048x256.size inb) (fun _ => rfl)).view.ref.isScScratch = false}
    {h₁ : ((Memref.whole main_v17).slice (Rect.unit (s := S2048x8192) off S2048x256.size inb) (fun _ => rfl)).view.WordExact}
    {h₂ : ((Memref.whole main_v17).slice (Rect.unit (s := S2048x8192) off S2048x256.size inb) (fun _ => rfl)).view.WordExact}
    {h₃ : DmaTarget.Typed .hbm (.dma rs) (.remote (Dev.tc d)
      ((Memref.whole main_v17).slice (Rect.unit (s := S2048x8192) off S2048x256.size inb) (fun _ => rfl)) (.dma ss) hsc)}
    {Q : PUnit → sProp 𝕄} (hQ : At pb K c (n + 1) X ⊢ Q ⟨⟩) :
    At pb K c n iprop(srcP pb c k ∗ X)
      ⊢ WP c (Prog.lift (.enqueueDma ((Memref.whole main_v17).slice (Rect.unit (s := S2048x8192) off S2048x256.size inb) (fun _ => rfl))
        (.remote (Dev.tc d) ((Memref.whole main_v17).slice (Rect.unit (s := S2048x8192) off S2048x256.size inb) (fun _ => rfl)) (.dma ss) hsc)
        (.dma rs) h₁ h₂ h₃)) Q :=
  start_hop pb K c (stg n) k h.2.2 h.2.1 _ (outM_of hoff inb) _ (outM_of hoff inb) d (Fin.ext hd) ss rs hss hrs (stg_succ h.1 ▸ hQ)

/-- Start a ring copy that sends on what came with the copy `k` before. -/
theorem next_ {X : sProp 𝕄} (n : ℕ) (k k' : Cp)
    (h : evs[n]? = some (.cp k, .passed) ∧ stg n (.cp k) = .done ∧ evs[n + 1]? = some (.cp k', .sent)
      ∧ stg (n + 1) (.cp k') = .pre ∧ ring k' = true)
    (hl : landP pb c k = srcP pb c k')
    {off : Fin 2 → ℕ} (hoff : off = ![0, (hopPos c k').val * 1024 + (quarter k').val * 256])
    {inb : ∀ a, off a + S2048x256.size a ≤ S2048x8192.size a}
    {d : Dev nD} (hd : d.val = (tgt k' c).val) {ss rs : DmaSem sig} (hss : ss = sndS k') (hrs : rs = rcvS k')
    {hsc : ((Memref.whole main_v17).slice (Rect.unit (s := S2048x8192) off S2048x256.size inb) (fun _ => rfl)).view.ref.isScScratch = false}
    {h₁ : ((Memref.whole main_v17).slice (Rect.unit (s := S2048x8192) off S2048x256.size inb) (fun _ => rfl)).view.WordExact}
    {h₂ : ((Memref.whole main_v17).slice (Rect.unit (s := S2048x8192) off S2048x256.size inb) (fun _ => rfl)).view.WordExact}
    {h₃ : DmaTarget.Typed .hbm (.dma rs) (.remote (Dev.tc d)
      ((Memref.whole main_v17).slice (Rect.unit (s := S2048x8192) off S2048x256.size inb) (fun _ => rfl)) (.dma ss) hsc)}
    {Q : PUnit → sProp 𝕄} (hQ : At pb K c (n + 2) X ⊢ Q ⟨⟩) :
    At pb K c n X
      ⊢ WP c (Prog.lift (.enqueueDma ((Memref.whole main_v17).slice (Rect.unit (s := S2048x8192) off S2048x256.size inb) (fun _ => rfl))
        (.remote (Dev.tc d) ((Memref.whole main_v17).slice (Rect.unit (s := S2048x8192) off S2048x256.size inb) (fun _ => rfl)) (.dma ss) hsc)
        (.dma rs) h₁ h₂ h₃)) Q := by
  have s1 := Sta_pass pb K c (stg n) k h.2.1 X
  rw [← stg_succ h.1, hl] at s1
  exact s1.trans (startR_ (n + 1) k' ⟨h.2.2.1, h.2.2.2.1, h.2.2.2.2⟩ hoff hd hss hrs hQ)

/-- Start the copy of a sum into the result. -/
theorem startS_ {X : sProp 𝕄} (n : ℕ) (cc : Fin 4) (h : evs[n]? = some (.st cc, .sent) ∧ stg n (.st cc) = .pre)
    {ms : Memref sig .tc .vmem S2048x256 .f32} (hms : ms = rxM cc)
    {off : Fin 2 → ℕ} (hoff : off = ![0, (posOf c).val * 1024 + cc.val * 256])
    {inb : ∀ a, off a + S2048x256.size a ≤ S2048x8192.size a} {ss : DmaSem sig} (hss : ss = stoS cc)
    {h₁ : ms.view.WordExact}
    {h₂ : ((Memref.whole main_v17).slice (Rect.unit (s := S2048x8192) off S2048x256.size inb) (fun _ => rfl)).view.WordExact}
    {h₃ : DmaTarget.Typed (nD := nD) (τ := τ) (p := Proc.tc) .vmem (.dma ss)
      (.here ((Memref.whole main_v17).slice (Rect.unit (s := S2048x8192) off S2048x256.size inb) (fun _ => rfl)))}
    {Q : PUnit → sProp 𝕄} (hQ : At pb K c (n + 1) X ⊢ Q ⟨⟩) :
    At pb K c n iprop(rxPt c fullShare cc (sumV pb c) ∗ X)
      ⊢ WP c (Prog.lift (.enqueueDma ms
        (.here ((Memref.whole main_v17).slice (Rect.unit (s := S2048x8192) off S2048x256.size inb) (fun _ => rfl))) (.dma ss) h₁ h₂ h₃)) Q :=
  start_sto pb K c (stg n) cc h.2 ms hms _ (outM_of hoff inb) ss hss (stg_succ h.1 ▸ hQ)

/-- Wait for that copy: the quarter chunk is then in hand for both ring directions. -/
theorem sto_ {X : sProp 𝕄} (n : ℕ) (cc : Fin 4)
    (h : evs[n]? = some (.st cc, .half) ∧ stg n (.st cc) = .sent ∧ evs[n + 1]? = some (.st cc, .passed))
    {sp sp' : Space} {s₁ : Shape} {e₁ : EltTy} {sm : DmaSem sig} (hsm : sm = stoS cc)
    {m₁ : Memref sig .tc sp s₁ e₁} {m₂ : Memref sig .tc sp' S2048x256 .f32}
    {h₁ : m₁.view.WordExact} {h₂ : m₂.view.WordExact}
    {Q : PUnit → sProp 𝕄} (hQ : At pb K c (n + 2) iprop(srcP pb c (.w cc 0) ∗ srcP pb c (.v cc 0) ∗ X) ⊢ Q ⟨⟩) :
    At pb K c n X ⊢ WP c (Prog.lift (.waitDma2 sm m₁ m₂ h₁ h₂)) Q := by
  refine wait_sto pb K c (stg n) cc h.2.1 sm hsm m₁ m₂ h₁ h₂ ?_
  rw [← stg_succ h.1]
  have s1 := Sta_split pb K c (stg (n + 1)) cc (by rw [stg_succ h.1, Function.update_self]) X
  rw [← stg_succ h.2.2] at s1
  exact s1.trans hQ

end Cert.KernelIdeal.Ring

end
-- ==== Proof.Ideal.Memory.lean ====
/-
  The memory beside the copies: the slots of the partial-product buffer, and what loads and stores do to them.
-/
module

public import proofs.«01_k».proof.Proof.Ideal.Plan

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (pb : Parts F)

/-! ## Boxes of a buffer -/

/-- Where an element of a box of a buffer lies. -/
theorem box_emb {b : Ref sig .tc} {off size : Fin b.ty.shape.rank → ℕ} (inb : ∀ a, off a + size a ≤ b.ty.shape.size a)
    (x : (Rect.unit off size inb).shape.Idx) (a : Fin b.ty.shape.rank) :
    (((Memref.whole b).access (Rect.unit off size inb)).emb x a).val = off a + (x a).val := by
  show off a + 1 * (x a).val = _
  rw [Nat.one_mul]

/-- An element a store to a box may change lies in the box. -/
theorem box_mem {b : Ref sig .tc} {off size : Fin b.ty.shape.rank → ℕ} (inb : ∀ a, off a + size a ≤ b.ty.shape.size a)
    {i : b.ty.Idx} (h : i ∈ ((Memref.whole b).access (Rect.unit off size inb)).setOn Finset.univ) :
    ∃ x : (Rect.unit off size inb).shape.Idx, ∀ a, (i a).val = off a + (x a).val := by
  obtain ⟨x, -, e⟩ := Finset.mem_map.mp h
  exact ⟨x, fun a => by rw [← e]; exact box_emb inb x a⟩

/-- An element a load from a box reads lies in the box. -/
theorem box_loads {b : Ref sig .tc} {off size : Fin b.ty.shape.rank → ℕ} (inb : ∀ a, off a + size a ≤ b.ty.shape.size a)
    {i : b.ty.Idx} (h : i ∈ (Memref.whole b).view.setOn (Rect.unit off size inb).toLoadRect.set) :
    ∃ x : (Rect.unit off size inb).shape.Idx, ∀ a, (i a).val = off a + (x a).val := by
  obtain ⟨y, hy, e⟩ := Finset.mem_map.mp h
  obtain ⟨x, rfl⟩ := LoadRect.exists_idx_of_mem _ hy
  exact ⟨x, fun a => by rw [← e]; show off a + 1 * (x a).val = _; rw [Nat.one_mul]⟩

/-- A store to a box: at an element of the box the value stored. -/
theorem box_write {b : Ref sig .tc} {off size : Fin b.ty.shape.rank → ℕ} (inb : ∀ a, off a + size a ≤ b.ty.shape.size a)
    (f : b.ty.Contents (Elt F)) (w : (Rect.unit off size inb).shape.Idx → Elt F b.ty.elt) (x : (Rect.unit off size inb).shape.Idx)
    (i : b.ty.Idx) (h : ∀ a, (i a).val = off a + (x a).val) :
    ((Memref.whole b).access (Rect.unit off size inb)).write (Elt F) f w Finset.univ i = w x := by
  obtain rfl : ((Memref.whole b).access (Rect.unit off size inb)).emb x = i :=
    funext fun a => Fin.ext ((box_emb inb x a).trans (h a).symm)
  rw [View.write_emb_of_mem _ _ (Finset.mem_univ x)]
  rfl

/-- A store to a box: off the box nothing changes. -/
theorem box_keep {b : Ref sig .tc} {off size : Fin b.ty.shape.rank → ℕ} (inb : ∀ a, off a + size a ≤ b.ty.shape.size a)
    (f : b.ty.Contents (Elt F)) (w : (Rect.unit off size inb).shape.Idx → Elt F b.ty.elt)
    (i : b.ty.Idx) (h : ∀ x, (∀ a, (i a).val = off a + ((x : (Rect.unit off size inb).shape.Idx) a).val) → False) :
    ((Memref.whole b).access (Rect.unit off size inb)).write (Elt F) f w Finset.univ i = f i := by
  refine View.write_of_not_mem _ _ _ fun hi => ?_
  obtain ⟨x, -, e⟩ := Finset.mem_map.mp hi
  exact h x fun a => by rw [← e]; exact box_emb inb x a

/-! ## The slots -/

/-- The elements of a slot. -/
def slotS (s : Fin 2) : Finset S2x4096x256.Idx := Finset.univ.filter fun i => (i 0).val = s.val

theorem mem_slotS (s : Fin 2) (i : S2x4096x256.Idx) : i ∈ slotS s ↔ (i 0).val = s.val := by
  unfold slotS; rw [Finset.mem_filter]; exact ⟨fun h => h.2, fun h => ⟨Finset.mem_univ _, h⟩⟩

/-- A slot, held on device `c` with contents `f`. -/
def slotPt (c : Dev nD) (s : Fin 2) (f : S2x4096x256.Idx → F .f32) : sProp 𝕄 :=
  (Memref.whole cc0_scratch0 : Memref sig .tc _ _ _).view.loc (c : Thread nD τ) ↦[slotS s]{fullShare} f

/-- A slot whose contents no longer matter. -/
def Free (c : Dev nD) (s : Fin 2) : sProp 𝕄 := iprop(∃ f, slotPt (F := F) c s f)

/-- A slot whose first `n` rows hold product `cc`. -/
def Fill (c : Dev nD) (s : Fin 2) (cc : Fin 4) (n : ℕ) : sProp 𝕄 :=
  iprop(∃ f, ⌜∀ i : S2x4096x256.Idx, (i 0).val = s.val → (i 1).val < n → f i = slotV pb c cc i⌝ ∗ slotPt (F := F) c s f)

/-- The device's own half of product `cc`. -/
def Half (c : Dev nD) (s : Fin 2) (cc : Fin 4) : sProp 𝕄 := pbPt c s (xOf c) (slotV pb c cc)

/-- The elements of half `b` of a slot. -/
def halfS (s b : Fin 2) : Finset S2x4096x256.Idx :=
  Finset.univ.filter fun i => (i 0).val = s.val ∧ b.val * 2048 ≤ (i 1).val ∧ (i 1).val < b.val * 2048 + 2048

theorem set_pbM (s b : Fin 2) : (pbM s b).view.set = halfS s b := by
  refine Finset.ext fun i => (mem_pbM s b i).trans ?_
  unfold halfS
  exact ⟨fun h => Finset.mem_filter.mpr ⟨Finset.mem_univ _, h⟩, fun h => (Finset.mem_filter.mp h).2⟩

theorem pbPt_eq (c : Dev nD) (s b : Fin 2) (f : S2x4096x256.Idx → F .f32) :
    pbPt c s b f = ((Memref.whole cc0_scratch0 : Memref sig .tc _ _ _).view.loc (c : Thread nD τ) ↦[halfS s b]{fullShare} f : sProp 𝕄) := by
  unfold pbPt
  rw [set_pbM]
  rfl

theorem halves_disjoint (s x : Fin 2) : Disjoint (halfS s (1 - x)) (halfS s x) := by
  have e3 : (1 - x : Fin 2).val = 1 - x.val := by revert x; decide
  unfold halfS
  rw [e3]
  refine Finset.disjoint_filter.mpr fun i _ h1 h2 => ?_
  omega

theorem halves_union (s x : Fin 2) : halfS s (1 - x) ∪ halfS s x = slotS s := by
  have e3 : (1 - x : Fin 2).val = 1 - x.val := by revert x; decide
  have hx := x.isLt
  unfold halfS slotS
  rw [e3, ← Finset.filter_or]
  refine Finset.filter_congr fun i _ => ?_
  have h4 : (i 1).val < 4096 := (i 1).isLt
  constructor
  · rintro (h | h) <;> exact h.1
  · intro h0
    by_cases h : x.val * 2048 ≤ (i 1).val ∧ (i 1).val < x.val * 2048 + 2048
    · exact Or.inr ⟨h0, h⟩
    · exact Or.inl ⟨h0, by omega⟩

theorem slot_split (c : Dev nD) (s x : Fin 2) (f : S2x4096x256.Idx → F .f32) :
    slotPt c s f = (iprop(pbPt c s (1 - x) f ∗ pbPt c s x f) : sProp 𝕄) := by
  unfold slotPt
  rw [pbPt_eq, pbPt_eq, ← halves_union s x]
  exact BI.Entails.antisymm (pointsTo_union (halves_disjoint s x)).1 (pointsTo_union (halves_disjoint s x)).2

/-- A free slot is one that holds nothing yet. -/
theorem Free_Fill (c : Dev nD) (s : Fin 2) (cc : Fin 4) : Free c s ⊢ (Fill pb c s cc 0 : sProp 𝕄) := by
  unfold Free Fill
  iintro ⟨%f, H⟩
  iexists f
  isplitr
  · ipureintro; intro i _ h; exact absurd h (Nat.not_lt_zero _)
  · iexact H

/-- A full slot is the half for the partner beside the own half. -/
theorem Fill_full (c : Dev nD) (s : Fin 2) (cc : Fin 4) (hs : s = ⟨cc.val % 2, by omega⟩) :
    Fill pb c s cc 4096 ⊢ (iprop(srcP pb c (.x cc) ∗ Half pb c s cc) : sProp 𝕄) := by
  subst hs
  unfold Fill
  iintro ⟨%f, %hf, H⟩
  have e : slotPt (F := F) c ⟨cc.val % 2, by omega⟩ f = slotPt c ⟨cc.val % 2, by omega⟩ (slotV pb c cc) := by
    unfold slotPt
    exact pointsTo_congr fun i hi => hf i ((mem_slotS _ i).mp hi) (i 1).isLt
  ihave H' := (Entails.of_eq (e.trans (slot_split c ⟨cc.val % 2, by omega⟩ (xOf c) (slotV pb c cc)))) $$ H
  iexact H'

/-- The two halves together are a slot. -/
theorem halves_Free (c : Dev nD) (s : Fin 2) (cc : Fin 4) (hs : s = ⟨cc.val % 2, by omega⟩) :
    (iprop(srcP pb c (.x cc) ∗ Half pb c s cc) : sProp 𝕄) ⊢ Free c s := by
  subst hs
  unfold Free
  iintro H
  iexists (slotV pb c cc)
  iapply (Entails.of_eq (slot_split c _ (xOf c) (slotV pb c cc)).symm)
  iexact H

/-! ## The loads and stores of the kernel -/

/-- A block of a product stored after the rows before it. -/
theorem Fill_write (c : Dev nD) (s : Fin 2) (cc : Fin 4) (n : ℕ) (hn : n + 512 ≤ 4096) (f : S2x4096x256.Idx → F .f32)
    (hf : ∀ i : S2x4096x256.Idx, (i 0).val = s.val → (i 1).val < n → f i = slotV pb c cc i)
    (w : S1x512x256.Idx → F .f32) (hw : ∀ (r : Fin 512) (j : Fin 256), w (ValueIdx.ix3 0 r j) = pb c cc ⟨n + r.val, by omega⟩ j)
    {off : Fin 3 → ℕ} (hoff : off = ![s.val, n, 0]) (inb : ∀ a, off a + S1x512x256.size a ≤ S2x4096x256.size a)
    (i : S2x4096x256.Idx) (h0 : (i 0).val = s.val) (h1 : (i 1).val < n + 512) :
    ((Memref.whole cc0_scratch0).access (Rect.unit (s := S2x4096x256) off S1x512x256.size inb)).write (Elt F) f w Finset.univ i
      = slotV pb c cc i := by
  subst hoff
  by_cases h : (i 1).val < n
  · exact (box_keep (b := cc0_scratch0) inb f w i fun x hx => by
      have e : (i 1).val = n + (x 1).val := hx 1
      omega).trans (hf i h0 h)
  · refine (box_write (b := cc0_scratch0) inb f w (ValueIdx.ix3 0 ⟨(i 1).val - n, by omega⟩ (i 2)) i fun a => ?_).trans ?_
    · fin_cases a
      · exact h0
      · show (i 1).val = n + ((i 1).val - n); omega
      · show (i 2).val = 0 + (i 2).val; omega
    · refine (hw ⟨(i 1).val - n, by omega⟩ (i 2)).trans ?_
      show pb c cc _ (i 2) = pb c cc (i 1) (i 2)
      refine congrFun ?_ (i 2)
      exact congrArg _ (Fin.ext (by show n + ((i 1).val - n) = (i 1).val; omega))

variable {pb}
variable {K : GSem nD τ sig → ℕ} {c : Dev nD}

/-- A load whose value does not matter. -/
theorem load_any {X : sProp 𝕄} (k : ℕ) {s : Shape} {e : EltTy} {cs : CoreSpace} (m : Memref sig .tc cs s e) (r : LoadRect s)
    (hl : m.view.LoadsAt r) {S : Finset (Idx (m.view.loc (c : Thread nD τ)))} {q : PosShare TreeShare}
    (hS : m.view.setOn r.set ⊆ S)
    (hin : X ⊢ iprop(∃ f : Buf (Elt F) (m.view.loc (c : Thread nD τ)), (m.view.loc (c : Thread nD τ) ↦[S]{q} f)
      ∗ ((m.view.loc (c : Thread nD τ) ↦[S]{q} f) -∗ X)))
    {Q : (r.shape.Idx → Elt F e) → sProp 𝕄} (hQ : ∀ v, At pb K c k X ⊢ Q v) :
    At pb K c k X ⊢ WP c (Prog.lift (.load m r hl)) Q := by
  unfold At Sta
  iintro ⟨#HR, #HL, HI, HO, HX⟩
  ihave HX' := hin $$ HX
  icases HX' with ⟨%f, Hm, Hback⟩
  iapply (wp_load (defs := defs₀ (F := F)) 𝒱₀ (c : Thread nD τ) none Set.univ (k := fun a => .ret a) (m := m) (hl := hl) hS) $$ Hm
  iintro Hm
  rw [wp_ret]
  imodintro
  iapply (hQ _)
  unfold At Sta
  isplitr; · iexact HR
  isplitr; · iexact HL
  isplitl [HI]; · iexact HI
  isplitl [HO]; · iexact HO
  iapply Hback; iexact Hm

/-- The store of a block of a product. -/
theorem fill_ {X : sProp 𝕄} (k : ℕ) (s : Fin 2) (cc : Fin 4) (n : ℕ) (hn : n + 512 ≤ 4096)
    {off : Fin 3 → ℕ} (hoff : off = ![s.val, n, 0]) {inb : ∀ a, off a + S1x512x256.size a ≤ S2x4096x256.size a}
    {w : S1x512x256.Idx → F .f32} (hw : ∀ (r : Fin 512) (j : Fin 256), w (ValueIdx.ix3 0 r j) = pb c cc ⟨n + r.val, by omega⟩ j)
    {hx : ((Memref.whole cc0_scratch0).access (Rect.unit (s := S2x4096x256) off S1x512x256.size inb)).Stores Finset.univ}
    {hm : Finset.univ = Finset.univ ∨ ∀ a, (Rect.unit (s := S2x4096x256) off S1x512x256.size inb).stride a = 1}
    {Q : PUnit → sProp 𝕄} (hQ : At pb K c k iprop(Fill pb c s cc (n + 512) ∗ X) ⊢ Q ⟨⟩) :
    At pb K c k iprop(Fill pb c s cc n ∗ X)
      ⊢ WP c (Prog.lift (.store (Memref.whole cc0_scratch0) (Rect.unit (s := S2x4096x256) off S1x512x256.size inb) w Finset.univ hx hm)) Q := by
  have hS : ((Memref.whole cc0_scratch0).access (Rect.unit (s := S2x4096x256) off S1x512x256.size inb)).setOn Finset.univ ⊆ slotS s := by
    intro i hi
    obtain ⟨x, e⟩ := box_mem (b := cc0_scratch0) inb hi
    refine (mem_slotS s i).mpr ?_
    have e := e 0
    have hx0 : (x 0).val < 1 := (x 0).isLt
    have h0 : off 0 = s.val := by rw [hoff]; rfl
    omega
  refine store_step pb K c (stg k) (X := iprop(Fill pb c s cc n ∗ X)) (Y := iprop(Fill pb c s cc (n + 512) ∗ X)) (s := S2x4096x256) (e := .f32)
    (Memref.whole cc0_scratch0) (Rect.unit (s := S2x4096x256) off S1x512x256.size inb) w (Mk := Finset.univ) hx hm (S := slotS s) hS ?_ hQ
  unfold Fill slotPt
  iintro ⟨⟨%f, %hf, H⟩, HX⟩
  iexists f
  isplitl [H]; · iexact H
  iintro H
  isplitl [H]
  · iexists _
    isplitr
    · ipureintro; exact fun i h0 h1 => Fill_write pb c s cc n hn f hf w hw hoff inb i h0 h1
    · iexact H
  · iexact HX

/-- A load of a slot's rows before such a store, whatever they hold. -/
theorem peek_ {X : sProp 𝕄} (k : ℕ) (s : Fin 2) (cc : Fin 4) (n : ℕ)
    {off : Fin 3 → ℕ} (hoff : off = ![s.val, n, 0]) {inb : ∀ a, off a + S1x512x256.size a ≤ S2x4096x256.size a}
    {hl : (Memref.whole cc0_scratch0 : Memref sig .tc _ _ _).view.LoadsAt (Rect.unit (s := S2x4096x256) off S1x512x256.size inb).toLoadRect}
    {Q : ((Rect.unit (s := S2x4096x256) off S1x512x256.size inb).toLoadRect.shape.Idx → Elt F .f32) → sProp 𝕄}
    (hQ : ∀ v, At pb K c k iprop(Fill pb c s cc n ∗ X) ⊢ Q v) :
    At pb K c k iprop(Fill pb c s cc n ∗ X)
      ⊢ WP c (Prog.lift (.load (Memref.whole cc0_scratch0) (Rect.unit (s := S2x4096x256) off S1x512x256.size inb).toLoadRect hl)) Q := by
  have hS : (Memref.whole cc0_scratch0 : Memref sig .tc _ _ _).view.setOn
      (Rect.unit (s := S2x4096x256) off S1x512x256.size inb).toLoadRect.set ⊆ slotS s := by
    intro i hi
    obtain ⟨x, e⟩ := box_loads (b := cc0_scratch0) inb hi
    refine (mem_slotS s i).mpr ?_
    have e := e 0
    have hx0 : (x 0).val < 1 := (x 0).isLt
    have h0 : off 0 = s.val := by rw [hoff]; rfl
    omega
  refine load_any (pb := pb) (K := K) (c := c) (X := iprop(Fill pb c s cc n ∗ X)) k (s := S2x4096x256) (e := .f32) (Memref.whole cc0_scratch0)
    (Rect.unit (s := S2x4096x256) off S1x512x256.size inb).toLoadRect hl (S := slotS s) (q := fullShare) hS ?_ hQ
  unfold Fill slotPt
  iintro ⟨⟨%f, %hf, H⟩, HX⟩
  iexists f
  isplitl [H]; · iexact H
  iintro H
  isplitl [H]
  · iexists f
    isplitr
    · ipureintro; exact hf
    · iexact H
  · iexact HX

/-! ## The sum -/

/-- A load of a slot of the receive buffer. -/
theorem loadRx_ {X : sProp 𝕄} (k : ℕ) (cc : Fin 4) (f : S4x2048x256.Idx → F .f32)
    {off : Fin 3 → ℕ} (hoff : off = ![cc.val, 0, 0]) {inb : ∀ a, off a + S1x2048x256.size a ≤ S4x2048x256.size a}
    {hl : (Memref.whole cc0_scratch1 : Memref sig .tc _ _ _).view.LoadsAt (Rect.unit (s := S4x2048x256) off S1x2048x256.size inb).toLoadRect}
    {Q : ((Rect.unit (s := S4x2048x256) off S1x2048x256.size inb).toLoadRect.shape.Idx → Elt F .f32) → sProp 𝕄}
    (hQ : At pb K c k iprop(rxPt c fullShare cc f ∗ X) ⊢ Q (fun i : S1x2048x256.Idx => f (ValueIdx.ix3 cc (i 1) (i 2)))) :
    At pb K c k iprop(rxPt c fullShare cc f ∗ X)
      ⊢ WP c (Prog.lift (.load (Memref.whole cc0_scratch1) (Rect.unit (s := S4x2048x256) off S1x2048x256.size inb).toLoadRect hl)) Q := by
  subst hoff
  have hS : (Memref.whole cc0_scratch1 : Memref sig .tc _ _ _).view.setOn
      (Rect.unit (s := S4x2048x256) ![cc.val, 0, 0] S1x2048x256.size inb).toLoadRect.set ⊆ (rxM cc).view.set := by
    intro i hi
    obtain ⟨x, e⟩ := box_loads (b := cc0_scratch1) inb hi
    refine (mem_rxM cc i).mpr ?_
    have e : (i 0).val = cc.val + (x 0).val := e 0
    have hx0 : (x 0).val < 1 := (x 0).isLt
    omega
  have hv : (Memref.whole cc0_scratch1 : Memref sig .tc _ _ _).view.readAt (Elt F)
      (Rect.unit (s := S4x2048x256) ![cc.val, 0, 0] S1x2048x256.size inb).toLoadRect f = fun i : S1x2048x256.Idx => f (ValueIdx.ix3 cc (i 1) (i 2)) := by
    funext x
    refine congrArg f (funext fun a => Fin.ext ?_)
    have hx0 : (x 0).val < 1 := (x 0).isLt
    fin_cases a
    · show cc.val + 1 * (x 0).val = cc.val; omega
    · show 0 + 1 * (x 1).val = (x 1).val; omega
    · show 0 + 1 * (x 2).val = (x 2).val; omega
  refine load_step pb K c (stg k) (X := iprop(rxPt c fullShare cc f ∗ X)) (s := S4x2048x256) (e := .f32) (Memref.whole cc0_scratch1)
    (Rect.unit (s := S4x2048x256) ![cc.val, 0, 0] S1x2048x256.size inb).toLoadRect hl (S := (rxM cc).view.set) (q := fullShare) (f := f) hS ?_ (hv ▸ hQ)
  unfold rxPt
  iintro ⟨H, HX⟩
  isplitl [H]; · iexact H
  iintro H
  isplitl [H]; · iexact H
  iexact HX

/-- A load of the device's own half. -/
theorem loadOwn_ {A X : sProp 𝕄} (k : ℕ) (s : Fin 2) (cc : Fin 4)
    {off : Fin 3 → ℕ} (hoff : off = ![s.val, (xOf c).val * 2048, 0]) {inb : ∀ a, off a + S1x2048x256.size a ≤ S2x4096x256.size a}
    {hl : (Memref.whole cc0_scratch0 : Memref sig .tc _ _ _).view.LoadsAt (Rect.unit (s := S2x4096x256) off S1x2048x256.size inb).toLoadRect}
    {Q : ((Rect.unit (s := S2x4096x256) off S1x2048x256.size inb).toLoadRect.shape.Idx → Elt F .f32) → sProp 𝕄}
    (hQ : At pb K c k iprop(A ∗ Half pb c s cc ∗ X) ⊢ Q (fun i : S1x2048x256.Idx => pb c cc (row (xOf c) (i 1)) (i 2))) :
    At pb K c k iprop(A ∗ Half pb c s cc ∗ X)
      ⊢ WP c (Prog.lift (.load (Memref.whole cc0_scratch0) (Rect.unit (s := S2x4096x256) off S1x2048x256.size inb).toLoadRect hl)) Q := by
  subst hoff
  have hS : (Memref.whole cc0_scratch0 : Memref sig .tc _ _ _).view.setOn
      (Rect.unit (s := S2x4096x256) ![s.val, (xOf c).val * 2048, 0] S1x2048x256.size inb).toLoadRect.set ⊆ halfS s (xOf c) := by
    intro i hi
    obtain ⟨x, e⟩ := box_loads (b := cc0_scratch0) inb hi
    refine Finset.mem_filter.mpr ⟨Finset.mem_univ _, ?_⟩
    have e0 : (i 0).val = s.val + (x 0).val := e 0
    have e1 : (i 1).val = (xOf c).val * 2048 + (x 1).val := e 1
    have hx0 : (x 0).val < 1 := (x 0).isLt
    have hx1 : (x 1).val < 2048 := (x 1).isLt
    omega
  have hv : (Memref.whole cc0_scratch0 : Memref sig .tc _ _ _).view.readAt (Elt F)
      (Rect.unit (s := S2x4096x256) ![s.val, (xOf c).val * 2048, 0] S1x2048x256.size inb).toLoadRect (slotV pb c cc)
      = fun i : S1x2048x256.Idx => pb c cc (row (xOf c) (i 1)) (i 2) := by
    funext x
    have h1 : ∀ (a a' : Fin 4096) (b b' : Fin 256), a = a' → b = b' → pb c cc a b = pb c cc a' b' := by rintro _ _ _ _ rfl rfl; rfl
    refine h1 _ _ _ _ (Fin.ext ?_) (Fin.ext ?_)
    · show (xOf c).val * 2048 + 1 * (x 1).val = (xOf c).val * 2048 + (x 1).val; omega
    · show 0 + 1 * (x 2).val = (x 2).val; omega
  refine load_step pb K c (stg k) (X := iprop(A ∗ Half pb c s cc ∗ X)) (s := S2x4096x256) (e := .f32) (Memref.whole cc0_scratch0)
    (Rect.unit (s := S2x4096x256) ![s.val, (xOf c).val * 2048, 0] S1x2048x256.size inb).toLoadRect hl (S := halfS s (xOf c)) (q := fullShare)
    (f := slotV pb c cc) hS ?_ (hv ▸ hQ)
  have e : Half pb c s cc = _ := pbPt_eq c s (xOf c) (slotV pb c cc)
  rw [e]
  iintro ⟨HA, H, HX⟩
  isplitl [H]; · iexact H
  iintro H
  isplitl [HA]; · iexact HA
  isplitl [H]; · iexact H
  iexact HX

/-- What a device adds up: slot `cc` of the receive buffer and its own half. -/
def sumW (pb : Parts F) (c : Dev nD) (cc : Fin 4) : S1x2048x256.Idx → F .f32 := fun i => sumV pb c (ValueIdx.ix3 cc (i 1) (i 2))

/-- The sum the kernel stores. -/
theorem sum_eq (cc : Fin 4) :
    k0_pay1 (fun i : S1x2048x256.Idx => rxV pb c (ValueIdx.ix3 cc (i 1) (i 2))) (fun i : S1x2048x256.Idx => pb c cc (row (xOf c) (i 1)) (i 2))
      = sumW pb c cc := by
  funext i
  obtain ⟨u, r, j, rfl⟩ : ∃ u r j, i = ValueIdx.ix3 u r j := ⟨i 0, i 1, i 2, by funext a; fin_cases a <;> rfl⟩
  unfold k0_pay1
  refine (ValueIdx.shapeCast_ab_1ab_apply _ shapeCasts_S2048x256_S1x2048x256 u r j).trans ?_
  refine congrArg₂ (FloatOps.addf (F := F) (φ := .f32)) ?_ ?_
  · exact ValueIdx.shapeCast_1ab_ab_apply _ shapeCasts_S1x2048x256_S2048x256 r j
  · exact ValueIdx.shapeCast_1ab_ab_apply _ shapeCasts_S1x2048x256_S2048x256 r j

/-- The store of a sum over what came from the partner. -/
theorem sum_ {X : sProp 𝕄} (k : ℕ) (cc : Fin 4)
    {off : Fin 3 → ℕ} (hoff : off = ![cc.val, 0, 0]) {inb : ∀ a, off a + S1x2048x256.size a ≤ S4x2048x256.size a}
    {w : S1x2048x256.Idx → F .f32} (hw : w = sumW pb c cc)
    {hx : ((Memref.whole cc0_scratch1).access (Rect.unit (s := S4x2048x256) off S1x2048x256.size inb)).Stores Finset.univ}
    {hm : Finset.univ = Finset.univ ∨ ∀ a, (Rect.unit (s := S4x2048x256) off S1x2048x256.size inb).stride a = 1}
    {Q : PUnit → sProp 𝕄} (hQ : At pb K c k iprop(rxPt c fullShare cc (sumV pb c) ∗ X) ⊢ Q ⟨⟩) :
    At pb K c k iprop(rxPt c fullShare cc (rxV pb c) ∗ X)
      ⊢ WP c (Prog.lift (.store (Memref.whole cc0_scratch1) (Rect.unit (s := S4x2048x256) off S1x2048x256.size inb) w Finset.univ hx hm)) Q := by
  subst hoff hw
  have hS : ((Memref.whole cc0_scratch1).access (Rect.unit (s := S4x2048x256) ![cc.val, 0, 0] S1x2048x256.size inb)).setOn Finset.univ
      ⊆ (rxM cc).view.set := by
    intro i hi
    obtain ⟨x, e⟩ := box_mem (b := cc0_scratch1) inb hi
    refine (mem_rxM cc i).mpr ?_
    have e : (i 0).val = cc.val + (x 0).val := e 0
    have hx0 : (x 0).val < 1 := (x 0).isLt
    omega
  have hv : ∀ i : S4x2048x256.Idx, (i 0).val = cc.val → ((Memref.whole cc0_scratch1).access
      (Rect.unit (s := S4x2048x256) ![cc.val, 0, 0] S1x2048x256.size inb)).write (Elt F) (rxV pb c) (sumW pb c cc) Finset.univ i = sumV pb c i := by
    intro i h0
    refine (box_write (b := cc0_scratch1) inb (rxV pb c) (sumW pb c cc) (ValueIdx.ix3 0 (i 1) (i 2)) i fun a => ?_).trans ?_
    · fin_cases a
      · exact h0
      · show (i 1).val = 0 + (i 1).val; omega
      · show (i 2).val = 0 + (i 2).val; omega
    · show sumV pb c (ValueIdx.ix3 cc (i 1) (i 2)) = sumV pb c i
      refine congrArg _ (funext fun a => ?_)
      fin_cases a
      · exact Fin.ext h0.symm
      · rfl
      · rfl
  have hy : (rxPt c fullShare cc (((Memref.whole cc0_scratch1).access (Rect.unit (s := S4x2048x256) ![cc.val, 0, 0] S1x2048x256.size inb)).write
      (Elt F) (rxV pb c) (sumW pb c cc) Finset.univ) : sProp 𝕄) = rxPt c fullShare cc (sumV pb c) := by
    unfold rxPt
    exact pointsTo_congr fun i hi => hv i ((mem_rxM cc i).mp hi)
  unfold rxPt at hy
  refine store_step pb K c (stg k) (X := iprop(rxPt c fullShare cc (rxV pb c) ∗ X)) (Y := iprop(rxPt c fullShare cc (sumV pb c) ∗ X))
    (s := S4x2048x256) (e := .f32) (Memref.whole cc0_scratch1) (Rect.unit (s := S4x2048x256) ![cc.val, 0, 0] S1x2048x256.size inb)
    (sumW pb c cc) (Mk := Finset.univ) hx hm (S := (rxM cc).view.set) hS ?_ hQ
  unfold rxPt
  iintro ⟨H, HX⟩
  iexists (rxV pb c)
  isplitl [H]; · iexact H
  iintro H
  isplitl [H]
  · iapply (Entails.of_eq hy)
    iexact H
  · iexact HX

end Cert.KernelIdeal.Ring

end
-- ==== Proof.Ideal.Front.lean ====
/-
  The beginning of the kernel body.
-/
module

public import proofs.«01_k».proof.Proof.Ideal.Memory
public import Idealize.ShloMosaic.Lib.VecWindow

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## Where each conditional runs -/

theorem cond1 (t : Fin grid0.N) : k0_cond1 (grid0.coords t) = 1#1 ↔ t.val = 0 := by revert t; decide +kernel
theorem cond2 (t : Fin grid0.N) : k0_cond2 (grid0.coords t) = 1#1 ↔ t.val = 7 := by revert t; decide +kernel
theorem cond3 (t : Fin grid0.N) : k0_cond3 (grid0.coords t) = 1#1 ↔ t.val = 15 := by revert t; decide +kernel
theorem cond4 (t : Fin grid0.N) : k0_cond4 (grid0.coords t) = 1#1 ↔ t.val = 23 := by revert t; decide +kernel
theorem cond5 (t : Fin grid0.N) : k0_cond5 (grid0.coords t) = 1#1 ↔ t.val = 31 := by revert t; decide +kernel
theorem cond6 (t : Fin grid0.N) : k0_cond6 (grid0.coords t) = 1#1 ↔ t.val = 11 := by revert t; decide +kernel
theorem cond7 (t : Fin grid0.N) : k0_cond7 (grid0.coords t) = 1#1 ↔ t.val = 15 := by revert t; decide +kernel
theorem cond8 (t : Fin grid0.N) : k0_cond8 (grid0.coords t) = 1#1 ↔ t.val = 19 := by revert t; decide +kernel
theorem cond9 (t : Fin grid0.N) : k0_cond9 (grid0.coords t) = 1#1 ↔ t.val = 23 := by revert t; decide +kernel
theorem cond10 (t : Fin grid0.N) : k0_cond10 (grid0.coords t) = 1#1 ↔ t.val = 27 := by revert t; decide +kernel
theorem cond11 (t : Fin grid0.N) : k0_cond11 (grid0.coords t) = 1#1 ↔ t.val = 31 := by revert t; decide +kernel

/-- The rows of the product a point stores. -/
theorem off1_eq (t : Fin grid0.N) : k0_off1 (grid0.coords t) = ![t.val / 8 % 2, 512 * (t.val % 8), 0] := by
  have hN : grid0.N = 32 := N_0
  have h0 : ((grid0.coords t 0).val : ℕ) = t.val / 8 := by revert t; decide +kernel
  have h1 : ((grid0.coords t 1).val : ℕ) = t.val % 8 := by revert t; decide +kernel
  revert t; decide +kernel

/-! ## Programs -/

variable {pb : Parts F}
variable {K : GSem nD τ sig → ℕ} {c : Dev nD}

/-- A conditional that does not run. -/
theorem skip_ {β : Type} {P : Prop} [Decidable P] (hP : ¬ P) {f : P → Prog (TpuEff nD τ sig (Elt F) Λ₀ .tc) β}
    {g : ¬ P → Prog (TpuEff nD τ sig (Elt F) Λ₀ .tc) β}
    {A : sProp 𝕄} {Q : β → sProp 𝕄} (h : A ⊢ WP c (g hP) Q) : A ⊢ WP c (dite P f g) Q := by
  rw [dif_neg hP]; exact h

/-- A conditional that runs. -/
theorem take_ {β : Type} {P : Prop} [Decidable P] (hP : P) {f : P → Prog (TpuEff nD τ sig (Elt F) Λ₀ .tc) β}
    {g : ¬ P → Prog (TpuEff nD τ sig (Elt F) Λ₀ .tc) β}
    {A : sProp 𝕄} {Q : β → sProp 𝕄} (h : A ⊢ WP c (f hP) Q) : A ⊢ WP c (dite P f g) Q := by
  rw [dif_pos hP]; exact h

/-- The device a core runs on. -/
theorem device_ {A : sProp 𝕄} {Q : Dev nD → sProp 𝕄} (h : A ⊢ Q c) :
    A ⊢ WP c (Prog.lift TpuEff.deviceId : Prog (TpuEff nD τ sig (Elt F) Λ₀ .tc) (Dev nD)) Q := by
  unfold WP
  show A ⊢ wp frame _ Set.univ (Prog.op TpuEff.deviceId (fun d => Prog.ret d) : Prog (TpuEff nD τ sig (Elt F) Λ₀ .tc) (Dev nD)) Q
  rw [wp_deviceId, wp_ret]
  exact h.trans (by iintro H; imodintro; iexact H)

/-! ## The beginning of the kernel's body -/

/-- A load of a whole input block. -/
theorem loadIn_ {X : sProp 𝕄} (k : ℕ) {cs : CoreSpace} {s : Shape} {a : Memref sig .tc cs s .f32} {V : s.Idx → F .f32}
    (hX : X ⊢ iprop(owns (c : Thread nD τ) a fullShare V ∗ (owns (c : Thread nD τ) a fullShare V -∗ X)))
    {off : Fin s.rank → ℕ} {inb : ∀ a, off a + s.size a ≤ s.size a}
    {hl : a.view.LoadsAt (Rect.unit (s := s) off s.size inb).toLoadRect}
    {Q : ((Rect.unit (s := s) off s.size inb).toLoadRect.shape.Idx → Elt F .f32) → sProp 𝕄} (hQ : At pb K c k X ⊢ Q V) :
    At pb K c k X ⊢ WP c (Prog.lift (.load a (Rect.unit (s := s) off s.size inb).toLoadRect hl)) Q := by
  have hv : ∀ f, a.view.read (Elt F) f = V → At pb K c k X ⊢ Q (a.view.readAt (Elt F) (Rect.unit (s := s) off s.size inb).toLoadRect f) := by
    intro f hf
    rw [View.readAt_full, hf]
    exact hQ
  unfold At Sta at hv ⊢
  unfold owns at hX
  iintro ⟨#HR, #HL, HI, HO, HX⟩
  ihave HX' := hX $$ HX
  icases HX' with ⟨⟨%f, %hf, Hm⟩, Hback⟩
  iapply (wp_load (defs := defs₀ (F := F)) 𝒱₀ (c : Thread nD τ) none Set.univ (k := fun a => .ret a) (m := a) (hl := hl)
    (View.setOn_subset_set _ _)) $$ Hm
  iintro Hm
  rw [wp_ret]
  imodintro
  iapply (hv f hf)
  isplitr; · iexact HR
  isplitr; · iexact HL
  isplitl [HI]; · iexact HI
  isplitl [HO]; · iexact HO
  iapply Hback
  iexists f
  isplitr
  · ipureintro; exact hf
  · iexact Hm

/-- The greeting of a device's neighbours, and what follows it. -/
def greet {β : Type} (i : grid0.Coords) (c : Dev nD) (h : k0_cond1 i = 1#1) (p : Prog (TpuEff nD τ sig (Elt F) Λ₀ .tc) β) :
    Prog (TpuEff nD τ sig (Elt F) Λ₀ .tc) β := do
  semSignalWord (⟨k0_dev1 c, k0_dev1_lt i c h⟩ : Dev nD) (SemArray.scalar (sig.barrier 0 rfl) : Sems sig S_).sem 1#32
  semSignalWord (⟨k0_dev2 c, k0_dev2_lt i c h⟩ : Dev nD) (SemArray.scalar (sig.barrier 0 rfl) : Sems sig S_).sem 1#32
  semSignalWord (⟨k0_dev3 c, k0_dev3_lt i c h⟩ : Dev nD) (SemArray.scalar (sig.barrier 0 rfl) : Sems sig S_).sem 1#32
  semWaitWord (SemArray.scalar (sig.barrier 0 rfl) : Sems sig S_).sem 3#32
  p

theorem part50_ {X : sProp 𝕄} {i : grid0.Coords} {a2 h2 a3 h3 a4 h4 a5 h5 a6 h6 a7 a8 a9 a10 a11 a12 a13}
    {Q : (Σ' (arg0 : BitVec 32) (arg1 : BitVec 32) (d0 : Dev nD) (v2 : BitVec 32) (v5 : BitVec 32) (v8 : BitVec 32) (v11 : BitVec 32)
      (v24 : BitVec 32) (v27 : BitVec 32) (v29 : BitVec 32), BitVec 32) → sProp 𝕄}
    (hQ : ∀ r0 r1 v2 v5 v8 v11 v24 v27 v29 v31, X ⊢ Q ⟨r0, r1, c, v2, v5, v8, v11, v24, v27, v29, v31⟩) :
    X ⊢ WP c (k0_part50 (F := F) i a2 h2 a3 h3 a4 h4 a5 h5 a6 h6 a7 a8 a9 a10 a11 a12 a13) Q := by
  rw [k0_part50_eq_skeleton]
  unfold k0_part50_skel
  exact then_ (device_ (done_ (hQ _ _ _ _ _ _ _ _ _ _)))

/-- The input blocks, which a point only reads. -/
def Ins (c : Dev nD) (a2 : Memref sig .tc .vmem S4096x512 .f32) (a3 : Memref sig .tc .vmem S4096x256 .f32)
    (V2 : S4096x512.Idx → F .f32) (V3 : S4096x256.Idx → F .f32) : sProp 𝕄 :=
  iprop(owns (c : Thread nD τ) a2 fullShare V2 ∗ owns (c : Thread nD τ) a3 fullShare V3)

theorem last_ (A B I : sProp 𝕄) : iprop(A ∗ B ∗ I) ⊢ iprop(I ∗ (I -∗ (A ∗ B ∗ I))) := by
  iintro ⟨HA, HB, HI⟩
  isplitl [HI]; · iexact HI
  iintro HI
  isplitl [HA]; · iexact HA
  isplitl [HB]; · iexact HB
  iexact HI

theorem Ins_left (c : Dev nD) (a2 : Memref sig .tc .vmem S4096x512 .f32) (a3 : Memref sig .tc .vmem S4096x256 .f32)
    (V2 : S4096x512.Idx → F .f32) (V3 : S4096x256.Idx → F .f32) (Y : sProp 𝕄)
    (h : Y ⊢ iprop(Ins c a2 a3 V2 V3 ∗ (Ins c a2 a3 V2 V3 -∗ Y))) :
    Y ⊢ iprop(owns (c : Thread nD τ) a2 fullShare V2 ∗ (owns (c : Thread nD τ) a2 fullShare V2 -∗ Y)) := by
  unfold Ins at h
  iintro HY
  ihave H := h $$ HY
  icases H with ⟨⟨H2, H3⟩, Hb⟩
  isplitl [H2]; · iexact H2
  iintro H2
  iapply Hb
  isplitl [H2]; · iexact H2
  iexact H3

theorem Ins_right (c : Dev nD) (a2 : Memref sig .tc .vmem S4096x512 .f32) (a3 : Memref sig .tc .vmem S4096x256 .f32)
    (V2 : S4096x512.Idx → F .f32) (V3 : S4096x256.Idx → F .f32) (Y : sProp 𝕄)
    (h : Y ⊢ iprop(Ins c a2 a3 V2 V3 ∗ (Ins c a2 a3 V2 V3 -∗ Y))) :
    Y ⊢ iprop(owns (c : Thread nD τ) a3 fullShare V3 ∗ (owns (c : Thread nD τ) a3 fullShare V3 -∗ Y)) := by
  unfold Ins at h
  iintro HY
  ihave H := h $$ HY
  icases H with ⟨⟨H2, H3⟩, Hb⟩
  isplitl [H3]; · iexact H3
  iintro H3
  iapply Hb
  isplitl [H2]; · iexact H2
  iexact H3

theorem part51_ {P Y : sProp 𝕄} (n : ℕ) {i : grid0.Coords} {a2 h2 a3 h3 a4 h4 a5 h5 a6 h6 a7 a8 a9 a10 a11 a12 a13}
    {r0 r1 v2 v5 v8 v24 v27 v29 v31} {V2 : S4096x512.Idx → F .f32} {V3 : S4096x256.Idx → F .f32}
    (hin : Y ⊢ iprop(Ins c a2 a3 V2 V3 ∗ (Ins c a2 a3 V2 V3 -∗ Y)))
    (h0 : ¬ k0_cond1 i = 1#1 → P ⊢ At pb K c n Y)
    (h1 : ∀ {β : Type} (h : k0_cond1 i = 1#1) (p : Prog (TpuEff nD τ sig (Elt F) Λ₀ .tc) β) (Q : β → sProp 𝕄),
      (At pb K c n Y ⊢ WP c p Q) → P ⊢ WP c (greet i c h p) Q)
    {Q : (Σ' (v41 : BitVec 32) (v44 : BitVec 32) (v45 : BitVec 32) (v55 : FVec F S512x256 .f32) (v65 : BitVec 32), BitVec 32) → sProp 𝕄}
    (hQ : ∀ v41 v44 v45 v65 v66, At pb K c n Y ⊢ Q ⟨v41, v44, v45, k0_pay5 V2 V3, v65, v66⟩) :
    P ⊢ WP c (k0_part51 (F := F) i a2 h2 a3 h3 a4 h4 a5 h5 a6 h6 a7 a8 a9 a10 a11 a12 a13 r0 r1 c v2 v5 v8 v24 v27 v29 v31) Q := by
  rw [k0_part51_eq_skeleton]
  unfold k0_part51_skel
  refine (?_ : ∀ p, (At pb K c n Y ⊢ WP c p Q) → P ⊢ WP c (dite (k0_cond1 i = 1#1) (fun h => greet i c h p) (fun _ => p)) Q) _ ?_
  · intro p hp
    by_cases h : k0_cond1 i = 1#1
    · exact take_ h (h1 h p Q hp)
    · exact skip_ h ((h0 h).trans hp)
  refine then_ (loadIn_ n (V := V2) (Ins_left _ _ _ _ _ _ hin) ?_)
  refine then_ (loadIn_ n (V := V3) (Ins_right _ _ _ _ _ _ hin) ?_)
  exact done_ (hQ _ _ _ _ _)

/-- The kernel's body at its buffers and semaphores, with the two input blocks left open. -/
abbrev body (i : grid0.Coords) (a2 : Memref sig .tc .vmem S4096x512 .f32) (h2 : a2.IsWhole) (a3 : Memref sig .tc .vmem S4096x256 .f32)
    (h3 : a3.IsWhole) : Prog (TpuEff nD τ sig (Elt F) Λ₀ .tc) PUnit :=
  cc0_body i a2 h2 a3 h3 (Memref.whole main_v17) (Memref.isWhole_whole _) (Memref.whole cc0_scratch0) (Memref.isWhole_whole _)
    (Memref.whole cc0_scratch1) (Memref.isWhole_whole _) cc0_scratch2 cc0_scratch3 cc0_scratch4 cc0_scratch5 cc0_scratch6 cc0_scratch7
    cc0_scratch8

/-- What one point stores in the product: a block of its rows. -/
def Block (pb : Parts F) (c : Dev nD) (t : Fin grid0.N) (V2 : S4096x512.Idx → F .f32) (V3 : S4096x256.Idx → F .f32) : Prop :=
  ∀ (r : Fin 512) (j : Fin 256), k0_pay5 V2 V3 (ValueIdx.ix2 r j)
    = pb c ⟨t.val / 8, by have := t.isLt; have hN : grid0.N = 32 := N_0; omega⟩ ⟨512 * (t.val % 8) + r.val, by omega⟩ j

theorem pay6_eq {pb : Parts F} {c : Dev nD} {t : Fin grid0.N} {V2 : S4096x512.Idx → F .f32} {V3 : S4096x256.Idx → F .f32} {cc : Fin 4}
    (hcc : cc.val = t.val / 8) (h : Block pb c t V2 V3) {n : ℕ} (hn : n = 512 * (t.val % 8)) (r : Fin 512) (j : Fin 256) (hr : n + r.val < 4096) :
    k0_pay6 (k0_pay5 V2 V3) (ValueIdx.ix3 0 r j) = pb c cc ⟨n + r.val, hr⟩ j := by
  subst hn
  unfold k0_pay6
  refine (ValueIdx.shapeCast_ab_1ab_apply _ shapeCasts_S512x256_S1x512x256 0 r j).trans ((h r j).trans ?_)
  have e : (⟨t.val / 8, by have := t.isLt; have hN : grid0.N = 32 := N_0; omega⟩ : Fin 4) = cc := Fin.ext hcc.symm
  rw [e]

/-- A point at which the kernel only stores a block of a product. -/
theorem quiet_ {X : sProp 𝕄} (n : ℕ) (t : Fin grid0.N) (ht : t.val ≠ 0 ∧ (t.val % 8 ≠ 3 ∧ t.val % 8 ≠ 7 ∨ t.val = 3))
    {a2 h2 a3 h3} {V2 : S4096x512.Idx → F .f32} {V3 : S4096x256.Idx → F .f32} (hV : Block pb c t V2 V3)
    (s : Fin 2) (hs : s.val = t.val / 8 % 2) (cc : Fin 4) (hcc : cc.val = t.val / 8) (m : ℕ) (hm : m = 512 * (t.val % 8)) :
    At pb K c n iprop(Fill pb c s cc m ∗ X ∗ Ins c a2 a3 V2 V3)
      ⊢ WP c (body (F := F) (grid0.coords t) a2 h2 a3 h3) fun _ => At pb K c n iprop(Fill pb c s cc (m + 512) ∗ X ∗ Ins c a2 a3 V2 V3) := by
  have hoff : k0_off1 (grid0.coords t) = ![s.val, m, 0] := by rw [off1_eq, hs, hm]
  unfold body
  rw [cc0_body_eq_skeleton]
  unfold cc0_body_skel
  refine then_ (part50_ fun _ _ _ _ _ _ _ _ _ _ => ?_)
  refine then_ (part51_ n (last_ _ _ _) (fun _ => .rfl) (fun h => absurd ((cond1 t).mp h) ht.1) fun _ _ _ _ _ => ?_)
  refine then_ ?_
  rw [k0_part52_eq_skeleton]
  unfold k0_part52_skel
  refine then_ (peek_ n s cc m hoff fun _ => ?_)
  refine then_ (fill_ n s cc m (by omega) hoff (fun r j => pay6_eq hcc hV hm r j _) ?_)
  refine skip_ (by rw [cond2]; omega) (skip_ (by rw [cond3]; omega) (skip_ (by rw [cond4]; omega) (skip_ (by rw [cond5]; omega)
    (skip_ (by rw [cond6]; omega) (done_ ?_)))))
  refine skip_ (by rw [cond7]; omega) (skip_ (by rw [cond8]; omega) (skip_ (by rw [cond9]; omega) (skip_ (by rw [cond10]; omega)
    (skip_ (by rw [cond11]; omega) (done_ .rfl)))))

end Cert.KernelIdeal.Ring

end
-- ==== Proof.Ideal.Barrier.lean ====
/-
  The entry barrier.

  A device pays one unit to its partner and to its two ring neighbours, each with the memory their copies to it will overwrite,
  and waits for the three units that bring it the targets of its own copies.
-/
module

public import proofs.«01_k».proof.Proof.Ideal.Front

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## Who pays a device's barrier, and with what -/

/-- The device that takes duty `d` of device `c`'s barrier payments: the source of the copies of family `d` to `c`. -/
def giv (d : Fin 3) (c : Dev nD) : Dev nD :=
  match d with
  | 0 => par c
  | 1 => prv c
  | 2 => nxt c

/-- The family's copies from that device come to `c`. -/
theorem tgt_giv (k : Cp) (c : Dev nD) : tgt k (giv (fam k) c) = c := by
  cases k <;> exact tgt_src _ c

/-- The target of a copy to device `c`, with its cell in round 0. -/
abbrev handK (c : Dev nD) (k : Cp) : sProp 𝕄 := iprop(dstP (F := F) c k ∗ reached ER (cell c (.rcv k)) 0)

/-- The targets of all copies to device `c`, sorted by the barrier payment that carries them. -/
theorem hand_eq (c : Dev nD) :
    bigSep Finset.univ (fun k => handK (F := F) c k) = bigSep Finset.univ fun d : Fin 3 => barP (F := F) (giv d c) d := by
  rw [BI.bigSep_fiberwise Finset.univ fam, show Finset.univ.image fam = Finset.univ from by decide]
  refine bigSep_congr fun d _ => ?_
  unfold barP
  refine bigSep_congr fun k hk => ?_
  obtain rfl := (Finset.mem_filter.mp hk).2
  rw [tgt_giv]

/-- What the barrier payments of a device bring: the targets of all the copies it issues. -/
theorem gain_eq (c : Dev nD) :
    (bigSep Finset.univ fun d : Fin 3 => barP (F := F) c d) = bigSep Finset.univ fun k => handK (F := F) (tgt k c) k := by
  rw [BI.bigSep_fiberwise Finset.univ fam (fun k => handK (F := F) (tgt k c) k), show Finset.univ.image fam = Finset.univ from by decide]
  rfl

/-! ## The state before the barrier -/

/-- What a device holds for a remote copy before the barrier: all it needs but the target. -/
def cp0 (c : Dev nD) (k : Cp) : sProp 𝕄 :=
  iprop(dutyTok ER (cell c (.snd k)) 0 0 ∗ reached ER (cell c (.snd k)) 0 ∗ dutyTok ER (cell (tgt k c) (.rcv k)) 0 0
    ∗ atPos ER (cell c (.snd k)) 0 ∅ 0 ∗ atPos ER (cell c (.rcv k)) 0 ∅ 0 ∗ cred (tallyAt (cell c (.rcv k)) () N))

variable (pb : Parts F)

/-- With its target the copy is ready to start. -/
theorem cp0_pre (c : Dev nD) (k : Cp) : iprop(cp0 (F := F) c k ∗ handK (F := F) (tgt k c) k) ⊢ cpP pb c k .pre := by
  unfold cp0 cpP
  iintro ⟨⟨H1, H2, H3, H4, H5, H6⟩, H7, H8⟩
  isplitl [H1]; · iexact H1
  isplitl [H2]; · iexact H2
  isplitl [H3]; · iexact H3
  isplitl [H8]; · iexact H8
  isplitl [H7]; · iexact H7
  isplitl [H4]; · iexact H4
  isplitl [H5]; · iexact H5
  iexact H6

/-- All copies, remote and local. -/
theorem items_eq (c : Dev nD) (σ : It → St) : items pb c σ
    = iprop((bigSep Finset.univ fun k => cpP pb c k (σ (.cp k))) ∗ bigSep Finset.univ fun cc => stP pb c cc (σ (.st cc))) := by
  unfold items
  rw [BI.bigSep_univ_equiv itEquiv.symm]
  exact BI.bigSep_univ_sum (fun i : Cp ⊕ Fin 4 => itP pb c (itEquiv.symm i) (σ (itEquiv.symm i)))

/-- What a device owes at the start beside the arrivals of its copies: a unit on three barriers. -/
def O₀ (c : Dev nD) : CellTallies nD τ sig Unit :=
  ((Ow c (stg 0) + tallyAt (cell (giv 2 c) .bar) () 1) + tallyAt (cell (giv 1 c) .bar) () 1) + tallyAt (cell (giv 0 c) .bar) () 1

/-- The token to pay duty `d` of the barrier of device `giv d c`, and what is paid. -/
def pay (c : Dev nD) (d : Fin 3) : sProp 𝕄 := iprop(dutyTok ER (cell (giv d c) .bar) 0 d ∗ reached ER (cell (giv d c) .bar) 0 ∗ barP (F := F) (giv d c) d)

/-- What waits for the barrier. -/
def Wt (c : Dev nD) : sProp 𝕄 :=
  iprop((bigSep Finset.univ fun k => cp0 (F := F) c k) ∗ (bigSep Finset.univ fun cc => stP pb c cc .pre)
    ∗ atPos ER (cell c .bar) 0 ∅ 0 ∗ cred (tallyAt (cell c .bar) () 3))

/-- A device's state before the barrier. -/
def Start (K : GSem nD τ sig → ℕ) (c : Dev nD) (X : sProp 𝕄) : sProp 𝕄 :=
  iprop(Recs pb K ∗ (∃ W, owes (c : Thread nD τ) (O₀ c) W) ∗ pay (F := F) c 0 ∗ pay (F := F) c 1 ∗ pay (F := F) c 2 ∗ levAts L lv ∗ Wt pb c ∗ X)

variable {pb}
variable {K : GSem nD τ sig → ℕ} {c : Dev nD}

theorem last3_ (S A B I : sProp 𝕄) : iprop(S ∗ A ∗ B ∗ I) ⊢ iprop(I ∗ (I -∗ (S ∗ A ∗ B ∗ I))) := by
  iintro ⟨HS, HA, HB, HI⟩
  isplitl [HI]; · iexact HI
  iintro HI
  isplitl [HS]; · iexact HS
  isplitl [HA]; · iexact HA
  isplitl [HB]; · iexact HB
  iexact HI

/-- The first two of three parts change places. -/
theorem rot_ (S A B : sProp 𝕄) : iprop(S ∗ A ∗ B) ⊢ iprop(A ∗ S ∗ B) := by
  iintro ⟨HS, HA, HB⟩
  isplitl [HA]; · iexact HA
  isplitl [HS]; · iexact HS
  iexact HB

/-- One barrier payment. -/
theorem signal_ (d : Fin 3) (O : CellTallies nD τ sig Unit) {dst : Dev nD} (hdst : dst = giv d c) {X : sProp 𝕄} {Q : PUnit → sProp 𝕄}
    (hQ : iprop(Recs pb K ∗ (∃ W, owes (c : Thread nD τ) O W) ∗ X) ⊢ Q ⟨⟩) :
    iprop(Recs pb K ∗ (∃ W, owes (c : Thread nD τ) (O + tallyAt (cell (giv d c) .bar) () 1) W) ∗ pay (F := F) c d ∗ X)
      ⊢ WP c (semSignalWord dst (SemArray.scalar (sig.barrier 0 rfl) : Sems sig S_).sem 1#32) Q := by
  subst hdst
  have rule (W : Waits sig Unit) := Rounds.wp_signal (defs := defs₀ (F := F)) 𝒱₀ ER (Rd pb) (c : Thread nD τ) none (dst := (giv d c : Thread nD τ)) (sem := barrier0) (r := 0)
    (d := d) (κ := K (cell (giv d c) .bar)) (k := fun a => .ret a) (Q := Q) (W := W) (Es := Set.univ) (Γ := .empty)
    (by rw [show (((giv d c : Thread nD τ), SemLoc.reg barrier0) : GSem nD τ sig) = cell (giv d c) .bar from rfl, duties_cell]; exact Finset.mem_univ d)
    (amount_cell pb (giv d c) .bar d) () O rfl
  rw [show (((giv d c : Thread nD τ), SemLoc.reg barrier0) : GSem nD τ sig) = cell (giv d c) .bar from rfl, payload_cell,
    show payP pb (giv d c) d .bar = barP (giv d c) d from rfl] at rule
  unfold pay
  iintro ⟨#HR, ⟨%W, HO⟩, ⟨Ht, Hr, Hp⟩, HX⟩
  iapply (rule W) $$ [HO Ht Hr Hp]
  · isplitr; · iapply (Recs_get pb K (giv d c) .bar); iexact HR
    isplitl [HO]; · iexact HO
    isplitl [Ht]; · iexact Ht
    isplitl [Hp]; · iexact Hp
    iexact Hr
  iintro HO
  rw [wp_ret]
  imodintro
  iapply hQ
  isplitr; · iexact HR
  isplitl [HO]; · iexists W; iexact HO
  iexact HX

/-- The wait for the three payments: the device gets the targets of its copies, and its barrier is closed. -/
theorem meet_ {X : sProp 𝕄} {Q : PUnit → sProp 𝕄}
    (hQ : At pb K c 0 iprop(semVal (cell c .bar) 0 ∗ X) ⊢ Q ⟨⟩) :
    iprop(Recs pb K ∗ (∃ W, owes (c : Thread nD τ) (Ow c (stg 0)) W) ∗ levAts L lv ∗ Wt pb c ∗ X)
      ⊢ WP c (semWaitWord (SemArray.scalar (sig.barrier 0 rfl) : Sems sig S_).sem 3#32) Q := by
  have rule (W : Waits sig Unit) := Rounds.wp_wait_rest_token (defs := defs₀ (F := F)) (Γ := .empty) 𝒱₀ ER (Rd pb) (c : Thread nD τ) none (κ := K (cell c .bar)) (Q := Q)
    (k := fun a => .ret a) (sm := sem .bar) (wpE_semWait_eq 𝒱₀ (c : Thread nD τ) none Set.univ (sem := barrier0) (k := 3)) (Set.mem_univ _) () (O := Ow c (stg 0)) (W := W)
    (R := 0) (m := 0) (T := ∅) (expect_bar pb c).symm
  have hready : iprop((bigSep Finset.univ fun k => cp0 (F := F) c k) ∗ (bigSep Finset.univ fun k => handK (F := F) (tgt k c) k)
      ∗ bigSep Finset.univ fun cc => stP pb c cc .pre) ⊢ items pb c (stg 0) := by
    rw [items_eq]
    have h1 : iprop((bigSep Finset.univ fun k => cp0 (F := F) c k) ∗ (bigSep Finset.univ fun k => handK (F := F) (tgt k c) k))
        ⊢ bigSep Finset.univ fun k => cpP pb c k (stg 0 (.cp k)) := by
      rw [← bigSep_sep']
      exact bigSep_mono fun k _ => cp0_pre pb c k
    iintro ⟨HA, HB, HC⟩
    isplitl [HA HB]
    · iapply h1
      isplitl [HA] <;> iassumption
    · iexact HC
  unfold Wt
  iintro ⟨#HR, ⟨%W, HO⟩, #HL, ⟨Hc0, Hst, Ha, Hc⟩, HX⟩
  iapply (rule W) $$ [HO Ha Hc]
  · isplitr; · iapply (Recs_get pb K c .bar); iexact HR
    isplitl [Hc]; · iexact Hc
    isplitl [HO]; · iexact HO
    isplitr; · iapply (mayWait c (stg 0) .bar fun k' _ => by rw [lv_bar]; omega); iexact HL
    iexact Ha
  iintro ⟨HO, Ha, -, Hpay⟩
  ihave Hp := (Entails.of_eq ((rest_bar pb c).trans (gain_eq c))) $$ Hpay
  rw [wp_ret]
  imod (Rounds.cell_close ER (Rd pb) (g := cell c .bar) (Set.mem_univ (K (cell c .bar))) id (duties_later pb (cell c .bar))) $$ [Ha] with Hs
  · isplitr; · iapply (Recs_get pb K c .bar); iexact HR
    iexact Ha
  imodintro
  iapply hQ
  unfold At Sta
  isplitr; · iexact HR
  isplitr; · iexact HL
  isplitl [Hc0 Hp Hst]
  · iapply hready
    isplitl [Hc0]; · iexact Hc0
    isplitl [Hp]; · iexact Hp
    iexact Hst
  isplitl [HO]; · iexists _; iexact HO
  isplitl [Hs]; · iexact Hs
  iexact HX

/-- The barrier: pay three devices, wait for three. -/
theorem greet_ {X : sProp 𝕄} {β : Type} {i : grid0.Coords} (h : k0_cond1 i = 1#1) {p : Prog (TpuEff nD τ sig (Elt F) Λ₀ .tc) β} {Q : β → sProp 𝕄}
    (hp : At pb K c 0 iprop(semVal (cell c .bar) 0 ∗ X) ⊢ WP c p Q) : Start pb K c X ⊢ WP c (greet i c h p) Q := by
  unfold Start greet O₀
  refine then_ (signal_ 0 _ (Fin.ext (by show k0_dev1 c = _; clear hp; revert c; decide +kernel)) ?_)
  refine then_ (signal_ 1 _ (Fin.ext (by show k0_dev2 c = _; clear hp; revert c; decide +kernel)) ?_)
  refine then_ (signal_ 2 _ (Fin.ext (by show k0_dev3 c = _; clear hp; revert c; decide +kernel)) ?_)
  exact then_ (meet_ hp)

/-- The first point: the barrier, then a block of the first product. -/
theorem point0_ {X : sProp 𝕄} (t : Fin grid0.N) (ht : t.val = 0) {a2 h2 a3 h3} {V2 : S4096x512.Idx → F .f32} {V3 : S4096x256.Idx → F .f32}
    (hV : Block pb c t V2 V3) :
    Start pb K c iprop(Fill pb c 0 0 0 ∗ X ∗ Ins c a2 a3 V2 V3)
      ⊢ WP c (body (F := F) (grid0.coords t) a2 h2 a3 h3)
          fun _ => At pb K c 0 iprop(semVal (cell c .bar) 0 ∗ Fill pb c 0 0 512 ∗ X ∗ Ins c a2 a3 V2 V3) := by
  have hoff : k0_off1 (grid0.coords t) = ![(0 : Fin 2).val, 0, 0] := by rw [off1_eq, ht]; rfl
  have hc1 := (cond1 t).mpr ht
  unfold body
  rw [cc0_body_eq_skeleton]
  unfold cc0_body_skel
  refine then_ (part50_ fun _ _ _ _ _ _ _ _ _ _ => ?_)
  refine then_ (part51_ 0 (Y := iprop(semVal (cell c .bar) 0 ∗ Fill pb c 0 0 0 ∗ X ∗ Ins c a2 a3 V2 V3)) (last3_ _ _ _ _) (fun h => absurd hc1 h)
    (fun h _ _ hp => greet_ h hp) fun _ _ _ _ _ => ?_)
  refine (Sta_mono pb K c _ (rot_ _ _ _)).trans ?_
  refine then_ ?_
  rw [k0_part52_eq_skeleton]
  unfold k0_part52_skel
  refine then_ (peek_ 0 0 0 0 hoff fun _ => ?_)
  refine then_ (fill_ 0 0 0 0 (by omega) hoff (fun r j => pay6_eq (t := t) (by rw [ht]; rfl) hV (by rw [ht]) r j _) ?_)
  refine skip_ (by rw [cond2]; omega) (skip_ (by rw [cond3]; omega) (skip_ (by rw [cond4]; omega) (skip_ (by rw [cond5]; omega)
    (skip_ (by rw [cond6]; omega) (done_ ?_)))))
  refine skip_ (by rw [cond7]; omega) (skip_ (by rw [cond8]; omega) (skip_ (by rw [cond9]; omega) (skip_ (by rw [cond10]; omega)
    (skip_ (by rw [cond11]; omega) (done_ (Sta_mono pb K c _ (rot_ _ _ _)))))))

end Cert.KernelIdeal.Ring

end
-- ==== Proof.Ideal.Moves.lean ====
/-
  How the partial products move between a slot and its halves over the kernel.
-/
module

public import proofs.«01_k».proof.Proof.Ideal.Front

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable {pb : Parts F}
variable {K : GSem nD τ sig → ℕ} {c : Dev nD}

/-- A half of a slot, by its offsets. -/
theorem pbM_of {off : Fin 3 → ℕ} {s : Fin 2} {x : Fin 2} (h : off = ![s.val, x.val * 2048, 0])
    (inb : ∀ a, off a + S1x2048x256.size a ≤ S2x4096x256.size a) :
    ((Memref.whole cc0_scratch0).slice (Rect.unit (s := S2x4096x256) off S1x2048x256.size inb) (fun _ => rfl)).squeeze S2048x256
      squeezes_S1x2048x256_S2048x256 = pbM s x := by
  subst h; rfl

/-- A finished product is the half that leaves and the half that stays. -/
theorem full_ {R G : sProp 𝕄} (n : ℕ) (s : Fin 2) (cc : Fin 4) (hs : s = ⟨cc.val % 2, by omega⟩)
    (hQ : At pb K c n iprop(srcP pb c (.x cc) ∗ Half pb c s cc ∗ R) ⊢ G) : At pb K c n iprop(Fill pb c s cc 4096 ∗ R) ⊢ G := by
  refine (Sta_mono pb K c (stg n) ?_).trans hQ
  iintro ⟨HF, HR⟩
  ihave H := (Fill_full pb c s cc hs) $$ HF
  icases H with ⟨H1, H2⟩
  isplitl [H1]; · iexact H1
  isplitl [H2]; · iexact H2
  iexact HR

/-- The other slot takes the next product. -/
theorem renew_ {H R : sProp 𝕄} (n : ℕ) (s : Fin 2) (cc : Fin 4) :
    At pb K c n iprop(H ∗ Free c s ∗ R) ⊢ At pb K c n iprop(Fill pb c s cc 0 ∗ H ∗ R) := by
  refine Sta_mono pb K c (stg n) ?_
  iintro ⟨HH, HF, HR⟩
  isplitl [HF]; · iapply (Free_Fill pb c s cc); iexact HF
  isplitl [HH]; · iexact HH
  iexact HR

/-- Two things a device holds in the other order. -/
theorem swap_ {A B R G : sProp 𝕄} (n : ℕ) (hQ : At pb K c n iprop(B ∗ A ∗ R) ⊢ G) : At pb K c n iprop(A ∗ B ∗ R) ⊢ G := by
  refine (Sta_mono pb K c (stg n) ?_).trans hQ
  iintro ⟨HA, HB, HR⟩
  isplitl [HB]; · iexact HB
  isplitl [HA]; · iexact HA
  iexact HR

/-- What came from the partner, next to the half it is added to. -/
theorem pull_ {A C H R G : sProp 𝕄} (n : ℕ) (cc : Fin 4)
    (hQ : At pb K c n iprop(rxPt c fullShare cc (rxV pb c) ∗ H ∗ A ∗ C ∗ R) ⊢ G) :
    At pb K c n iprop(A ∗ landP pb c (.x cc) ∗ C ∗ H ∗ R) ⊢ G := by
  refine (Sta_mono pb K c (stg n) ?_).trans hQ
  have e : landP pb c (.x cc) = rxPt c fullShare cc (rxV pb c) := rfl
  rw [e]
  iintro ⟨HA, HB, HC, HH, HR⟩
  isplitl [HB]; · iexact HB
  isplitl [HH]; · iexact HH
  isplitl [HA]; · iexact HA
  isplitl [HC]; · iexact HC
  iexact HR

/-- The two halves of a product that is used up are a free slot. -/
theorem settle_ {C R : sProp 𝕄} (n : ℕ) (s : Fin 2) (cc : Fin 4) (hs : s = ⟨cc.val % 2, by omega⟩) :
    At pb K c n iprop(Half pb c s cc ∗ srcP pb c (.x cc) ∗ C ∗ R) ⊢ At pb K c n iprop(C ∗ Free c s ∗ R) := by
  refine Sta_mono pb K c (stg n) ?_
  iintro ⟨HH, HS, HC, HR⟩
  isplitl [HC]; · iexact HC
  isplitl [HH HS]
  · iapply (halves_Free pb c s cc hs)
    isplitl [HS]; · iexact HS
    iexact HH
  iexact HR

end Cert.KernelIdeal.Ring

end
-- ==== Proof.Ideal.PointsA.lean ====
/-
  The points of the grid at which a product is finished and its half leaves for the partner.
-/
module

public import proofs.«01_k».proof.Proof.Ideal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable {pb : Parts F}
variable {K : GSem nD τ sig → ℕ} {c : Dev nD}

/-- The first product is finished: its half leaves. -/
theorem point7_ (t : Fin grid0.N) (ht : t.val = 7)
    {a2 h2 a3 h3} {V2 : S4096x512.Idx → F .f32} {V3 : S4096x256.Idx → F .f32} (hV : Block pb c t V2 V3) :
    At pb K c 0 iprop(Fill pb c 0 0 3584 ∗ Free c 1 ∗ Ins c a2 a3 V2 V3)
      ⊢ WP c (body (F := F) (grid0.coords t) a2 h2 a3 h3) fun _ =>
        At pb K c 1 iprop(Fill pb c 1 1 0 ∗ Half pb c 0 0 ∗ Ins c a2 a3 V2 V3) := by
  have hoff : k0_off1 (grid0.coords t) = ![(0 : Fin 2).val, 3584, 0] := by rw [off1_eq, ht]; rfl
  unfold body
  rw [cc0_body_eq_skeleton]
  unfold cc0_body_skel
  refine then_ (part50_ fun _ _ _ _ _ _ _ _ _ _ => ?_)
  refine then_ (part51_ 0 (last_ _ _ _) (fun _ => .rfl) (fun h => absurd ((cond1 t).mp h) (by omega)) fun _ _ _ _ _ => ?_)
  refine then_ ?_
  rw [k0_part52_eq_skeleton]
  unfold k0_part52_skel
  refine then_ (peek_ 0 0 0 3584 hoff fun _ => ?_)
  refine then_ (fill_ 0 0 0 3584 (by omega) hoff (fun r j => pay6_eq (by omega) hV (by omega) r j _) ?_)
  refine full_ 0 0 0 rfl ?_
  refine take_ ((cond2 t).mpr ht) ?_
  refine then_ (startX_ 0 0 (by decide +kernel) (pbM_of (by clear hV; revert c; decide +kernel) _) rfl (Fin.ext (by clear hV; show k0_dev4 c = _; revert c; decide +kernel)) (by rfl) (by rfl) ?_)
  refine skip_ (by rw [cond3]; omega) ?_
  refine skip_ (by rw [cond4]; omega) ?_
  refine skip_ (by rw [cond5]; omega) ?_
  refine skip_ (by rw [cond6]; omega) ?_
  refine done_ ?_
  refine skip_ (by rw [cond7]; omega) ?_
  refine skip_ (by rw [cond8]; omega) ?_
  refine skip_ (by rw [cond9]; omega) ?_
  refine skip_ (by rw [cond10]; omega) ?_
  refine skip_ (by rw [cond11]; omega) ?_
  refine done_ ?_
  exact renew_ 1 1 1

/-- The second product is finished: its half leaves, and the first quarter from the neighbours moves on. -/
theorem point15_ (t : Fin grid0.N) (ht : t.val = 15)
    {a2 h2 a3 h3} {V2 : S4096x512.Idx → F .f32} {V3 : S4096x256.Idx → F .f32} (hV : Block pb c t V2 V3) :
    At pb K c 10 iprop(Fill pb c 1 1 3584 ∗ Free c 0 ∗ Ins c a2 a3 V2 V3)
      ⊢ WP c (body (F := F) (grid0.coords t) a2 h2 a3 h3) fun _ =>
        At pb K c 19 iprop(Fill pb c 0 2 0 ∗ Half pb c 1 1 ∗ Ins c a2 a3 V2 V3) := by
  have hoff : k0_off1 (grid0.coords t) = ![(1 : Fin 2).val, 3584, 0] := by rw [off1_eq, ht]; rfl
  unfold body
  rw [cc0_body_eq_skeleton]
  unfold cc0_body_skel
  refine then_ (part50_ fun _ _ _ _ _ _ _ _ _ _ => ?_)
  refine then_ (part51_ 10 (last_ _ _ _) (fun _ => .rfl) (fun h => absurd ((cond1 t).mp h) (by omega)) fun _ _ _ _ _ => ?_)
  refine then_ ?_
  rw [k0_part52_eq_skeleton]
  unfold k0_part52_skel
  refine then_ (peek_ 10 1 1 3584 hoff fun _ => ?_)
  refine then_ (fill_ 10 1 1 3584 (by omega) hoff (fun r j => pay6_eq (by omega) hV (by omega) r j _) ?_)
  refine full_ 10 1 1 rfl ?_
  refine skip_ (by rw [cond2]; omega) ?_
  refine take_ ((cond3 t).mpr ht) ?_
  refine then_ (startX_ 10 1 (by decide +kernel) (pbM_of (by clear hV; revert c; decide +kernel) _) rfl (Fin.ext (by clear hV; show k0_dev5 c = _; revert c; decide +kernel)) (by rfl) (by rfl) ?_)
  refine skip_ (by rw [cond4]; omega) ?_
  refine skip_ (by rw [cond5]; omega) ?_
  refine skip_ (by rw [cond6]; omega) ?_
  refine done_ ?_
  refine take_ ((cond7 t).mpr ht) ?_
  refine then_ ?_
  rw [k0_part3_eq_skeleton]
  unfold k0_part3_skel
  refine then_ (snd_ 11 (.w 0 0) (by decide +kernel) (by rfl) ?_)
  refine then_ (rcv_ 12 (.w 0 0) (by decide +kernel) (by rfl) ?_)
  refine done_ ?_
  refine then_ ?_
  rw [k0_part4_eq_skeleton]
  unfold k0_part4_skel
  refine then_ (next_ 13 (.w 0 0) (.w 0 1) (by decide +kernel) rfl (by clear hV; revert c; decide +kernel) (by clear hV; show k0_dev10 c = _; revert c; decide +kernel) (by rfl) (by rfl) ?_)
  refine done_ ?_
  refine then_ ?_
  rw [k0_part5_eq_skeleton]
  unfold k0_part5_skel
  refine then_ (snd_ 15 (.v 0 0) (by decide +kernel) (by rfl) ?_)
  refine then_ (rcv_ 16 (.v 0 0) (by decide +kernel) (by rfl) ?_)
  refine done_ ?_
  refine then_ (next_ 17 (.v 0 0) (.v 0 1) (by decide +kernel) rfl (by clear hV; revert c; decide +kernel) (by clear hV; show k0_dev11 c = _; revert c; decide +kernel) (by rfl) (by rfl) ?_)
  refine skip_ (by rw [cond8]; omega) ?_
  refine skip_ (by rw [cond9]; omega) ?_
  refine skip_ (by rw [cond10]; omega) ?_
  refine skip_ (by rw [cond11]; omega) ?_
  refine done_ ?_
  exact renew_ 19 0 2

/-- The third product is finished: its half leaves, and quarters from the neighbours move on. -/
theorem point23_ (t : Fin grid0.N) (ht : t.val = 23)
    {a2 h2 a3 h3} {V2 : S4096x512.Idx → F .f32} {V3 : S4096x256.Idx → F .f32} (hV : Block pb c t V2 V3) :
    At pb K c 36 iprop(Fill pb c 0 2 3584 ∗ Free c 1 ∗ Ins c a2 a3 V2 V3)
      ⊢ WP c (body (F := F) (grid0.coords t) a2 h2 a3 h3) fun _ =>
        At pb K c 51 iprop(Fill pb c 1 3 0 ∗ Half pb c 0 2 ∗ Ins c a2 a3 V2 V3) := by
  have hoff : k0_off1 (grid0.coords t) = ![(0 : Fin 2).val, 3584, 0] := by rw [off1_eq, ht]; rfl
  unfold body
  rw [cc0_body_eq_skeleton]
  unfold cc0_body_skel
  refine then_ (part50_ fun _ _ _ _ _ _ _ _ _ _ => ?_)
  refine then_ (part51_ 36 (last_ _ _ _) (fun _ => .rfl) (fun h => absurd ((cond1 t).mp h) (by omega)) fun _ _ _ _ _ => ?_)
  refine then_ ?_
  rw [k0_part52_eq_skeleton]
  unfold k0_part52_skel
  refine then_ (peek_ 36 0 2 3584 hoff fun _ => ?_)
  refine then_ (fill_ 36 0 2 3584 (by omega) hoff (fun r j => pay6_eq (by omega) hV (by omega) r j _) ?_)
  refine full_ 36 0 2 rfl ?_
  refine skip_ (by rw [cond2]; omega) ?_
  refine skip_ (by rw [cond3]; omega) ?_
  refine take_ ((cond4 t).mpr ht) ?_
  refine then_ (startX_ 36 2 (by decide +kernel) (pbM_of (by clear hV; revert c; decide +kernel) _) rfl (Fin.ext (by clear hV; show k0_dev6 c = _; revert c; decide +kernel)) (by rfl) (by rfl) ?_)
  refine skip_ (by rw [cond5]; omega) ?_
  refine skip_ (by rw [cond6]; omega) ?_
  refine done_ ?_
  refine skip_ (by rw [cond7]; omega) ?_
  refine skip_ (by rw [cond8]; omega) ?_
  refine take_ ((cond9 t).mpr ht) ?_
  refine then_ ?_
  rw [k0_part12_eq_skeleton]
  unfold k0_part12_skel
  refine then_ (snd_ 37 (.w 1 0) (by decide +kernel) (by rfl) ?_)
  refine then_ (rcv_ 38 (.w 1 0) (by decide +kernel) (by rfl) ?_)
  refine done_ ?_
  refine then_ ?_
  rw [k0_part13_eq_skeleton]
  unfold k0_part13_skel
  refine then_ (next_ 39 (.w 1 0) (.w 1 1) (by decide +kernel) rfl (by clear hV; revert c; decide +kernel) (by clear hV; show k0_dev16 c = _; revert c; decide +kernel) (by rfl) (by rfl) ?_)
  refine done_ ?_
  refine then_ ?_
  rw [k0_part14_eq_skeleton]
  unfold k0_part14_skel
  refine then_ (snd_ 41 (.v 1 0) (by decide +kernel) (by rfl) ?_)
  refine then_ (rcv_ 42 (.v 1 0) (by decide +kernel) (by rfl) ?_)
  refine done_ ?_
  refine then_ ?_
  rw [k0_part15_eq_skeleton]
  unfold k0_part15_skel
  refine then_ (next_ 43 (.v 1 0) (.v 1 1) (by decide +kernel) rfl (by clear hV; revert c; decide +kernel) (by clear hV; show k0_dev17 c = _; revert c; decide +kernel) (by rfl) (by rfl) ?_)
  refine then_ (snd_ 45 (.w 0 2) (by decide +kernel) (by rfl) ?_)
  refine done_ ?_
  refine then_ ?_
  rw [k0_part16_eq_skeleton]
  unfold k0_part16_skel
  refine then_ (rcv_ 46 (.w 0 2) (by decide +kernel) (by rfl) ?_)
  refine then_ (next_ 47 (.w 0 2) (.w 0 3) (by decide +kernel) rfl (by clear hV; revert c; decide +kernel) (by clear hV; show k0_dev18 c = _; revert c; decide +kernel) (by rfl) (by rfl) ?_)
  refine done_ ?_
  refine then_ (snd_ 49 (.v 0 2) (by decide +kernel) (by rfl) ?_)
  refine then_ (rcv_ 50 (.v 0 2) (by decide +kernel) (by rfl) ?_)
  refine skip_ (by rw [cond10]; omega) ?_
  refine skip_ (by rw [cond11]; omega) ?_
  refine done_ ?_
  exact renew_ 51 1 3

end Cert.KernelIdeal.Ring

end
-- ==== Proof.Ideal.PointsB.lean ====
/-
  The points of the grid at which a sum is stored in the result and sent round the ring.
-/
module

public import proofs.«01_k».proof.Proof.Ideal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable {pb : Parts F}
variable {K : GSem nD τ sig → ℕ} {c : Dev nD}

/-- The first sum: it is stored in the result and sent both ways round the ring. -/
theorem point11_ (t : Fin grid0.N) (ht : t.val = 11)
    {a2 h2 a3 h3} {V2 : S4096x512.Idx → F .f32} {V3 : S4096x256.Idx → F .f32} (hV : Block pb c t V2 V3) :
    At pb K c 1 iprop(Fill pb c 1 1 1536 ∗ Half pb c 0 0 ∗ Ins c a2 a3 V2 V3)
      ⊢ WP c (body (F := F) (grid0.coords t) a2 h2 a3 h3) fun _ =>
        At pb K c 10 iprop(Fill pb c 1 1 2048 ∗ Free c 0 ∗ Ins c a2 a3 V2 V3) := by
  have hoff : k0_off1 (grid0.coords t) = ![(1 : Fin 2).val, 1536, 0] := by rw [off1_eq, ht]; rfl
  unfold body
  rw [cc0_body_eq_skeleton]
  unfold cc0_body_skel
  refine then_ (part50_ fun _ _ _ _ _ _ _ _ _ _ => ?_)
  refine then_ (part51_ 1 (last_ _ _ _) (fun _ => .rfl) (fun h => absurd ((cond1 t).mp h) (by omega)) fun _ _ _ _ _ => ?_)
  refine then_ ?_
  rw [k0_part52_eq_skeleton]
  unfold k0_part52_skel
  refine then_ (peek_ 1 1 1 1536 hoff fun _ => ?_)
  refine then_ (fill_ 1 1 1 1536 (by omega) hoff (fun r j => pay6_eq (by omega) hV (by omega) r j _) ?_)
  refine skip_ (by rw [cond2]; omega) ?_
  refine skip_ (by rw [cond3]; omega) ?_
  refine skip_ (by rw [cond4]; omega) ?_
  refine skip_ (by rw [cond5]; omega) ?_
  refine take_ ((cond6 t).mpr ht) ?_
  refine then_ ?_
  rw [k0_part1_eq_skeleton]
  unfold k0_part1_skel
  refine then_ (snd_ 1 (.x 0) (by decide +kernel) (by rfl) ?_)
  refine then_ (rcvX_ 2 0 (by decide +kernel) (by decide +kernel) (by rfl) ?_)
  refine pull_ 5 0 ?_
  refine then_ (loadRx_ 5 0 (rxV pb c) rfl ?_)
  refine then_ (loadOwn_ 5 0 0 (by clear hV; revert c; decide +kernel) ?_)
  refine then_ (loadRx_ 5 0 (rxV pb c) rfl ?_)
  refine done_ ?_
  refine then_ ?_
  rw [k0_part2_eq_skeleton]
  unfold k0_part2_skel
  refine then_ (sum_ 5 0 rfl (sum_eq 0) ?_)
  refine then_ (startS_ 5 0 (by decide +kernel) rfl (by clear hV; revert c; decide +kernel) (by rfl) ?_)
  refine then_ (sto_ 6 0 (by decide +kernel) (by rfl) ?_)
  refine done_ ?_
  refine then_ (startR_ 8 (.w 0 0) (by decide +kernel) (by clear hV; revert c; decide +kernel) (by clear hV; show k0_dev8 c = _; revert c; decide +kernel) (by rfl) (by rfl) ?_)
  refine then_ (startR_ 9 (.v 0 0) (by decide +kernel) (by clear hV; revert c; decide +kernel) (by clear hV; show k0_dev9 c = _; revert c; decide +kernel) (by rfl) (by rfl) ?_)
  refine done_ ?_
  refine skip_ (by rw [cond7]; omega) ?_
  refine skip_ (by rw [cond8]; omega) ?_
  refine skip_ (by rw [cond9]; omega) ?_
  refine skip_ (by rw [cond10]; omega) ?_
  refine skip_ (by rw [cond11]; omega) ?_
  refine done_ ?_
  exact settle_ 10 0 0 rfl

/-- The second sum, stored and sent; quarters from the neighbours move on. -/
theorem point19_ (t : Fin grid0.N) (ht : t.val = 19)
    {a2 h2 a3 h3} {V2 : S4096x512.Idx → F .f32} {V3 : S4096x256.Idx → F .f32} (hV : Block pb c t V2 V3) :
    At pb K c 19 iprop(Fill pb c 0 2 1536 ∗ Half pb c 1 1 ∗ Ins c a2 a3 V2 V3)
      ⊢ WP c (body (F := F) (grid0.coords t) a2 h2 a3 h3) fun _ =>
        At pb K c 36 iprop(Fill pb c 0 2 2048 ∗ Free c 1 ∗ Ins c a2 a3 V2 V3) := by
  have hoff : k0_off1 (grid0.coords t) = ![(0 : Fin 2).val, 1536, 0] := by rw [off1_eq, ht]; rfl
  unfold body
  rw [cc0_body_eq_skeleton]
  unfold cc0_body_skel
  refine then_ (part50_ fun _ _ _ _ _ _ _ _ _ _ => ?_)
  refine then_ (part51_ 19 (last_ _ _ _) (fun _ => .rfl) (fun h => absurd ((cond1 t).mp h) (by omega)) fun _ _ _ _ _ => ?_)
  refine then_ ?_
  rw [k0_part52_eq_skeleton]
  unfold k0_part52_skel
  refine then_ (peek_ 19 0 2 1536 hoff fun _ => ?_)
  refine then_ (fill_ 19 0 2 1536 (by omega) hoff (fun r j => pay6_eq (by omega) hV (by omega) r j _) ?_)
  refine skip_ (by rw [cond2]; omega) ?_
  refine skip_ (by rw [cond3]; omega) ?_
  refine skip_ (by rw [cond4]; omega) ?_
  refine skip_ (by rw [cond5]; omega) ?_
  refine skip_ (by rw [cond6]; omega) ?_
  refine done_ ?_
  refine skip_ (by rw [cond7]; omega) ?_
  refine take_ ((cond8 t).mpr ht) ?_
  refine then_ ?_
  rw [k0_part6_eq_skeleton]
  unfold k0_part6_skel
  refine then_ (snd_ 19 (.x 1) (by decide +kernel) (by rfl) ?_)
  refine then_ (rcvX_ 20 1 (by decide +kernel) (by decide +kernel) (by rfl) ?_)
  refine pull_ 23 1 ?_
  refine then_ (loadRx_ 23 1 (rxV pb c) rfl ?_)
  refine then_ (loadOwn_ 23 1 1 (by clear hV; revert c; decide +kernel) ?_)
  refine then_ (loadRx_ 23 1 (rxV pb c) rfl ?_)
  refine done_ ?_
  refine then_ ?_
  rw [k0_part7_eq_skeleton]
  unfold k0_part7_skel
  refine then_ (sum_ 23 1 rfl (sum_eq 1) ?_)
  refine then_ (startS_ 23 1 (by decide +kernel) rfl (by clear hV; revert c; decide +kernel) (by rfl) ?_)
  refine then_ (sto_ 24 1 (by decide +kernel) (by rfl) ?_)
  refine done_ ?_
  refine then_ ?_
  rw [k0_part8_eq_skeleton]
  unfold k0_part8_skel
  refine then_ (startR_ 26 (.w 1 0) (by decide +kernel) (by clear hV; revert c; decide +kernel) (by clear hV; show k0_dev12 c = _; revert c; decide +kernel) (by rfl) (by rfl) ?_)
  refine then_ (startR_ 27 (.v 1 0) (by decide +kernel) (by clear hV; revert c; decide +kernel) (by clear hV; show k0_dev13 c = _; revert c; decide +kernel) (by rfl) (by rfl) ?_)
  refine done_ ?_
  refine then_ ?_
  rw [k0_part9_eq_skeleton]
  unfold k0_part9_skel
  refine then_ (snd_ 28 (.w 0 1) (by decide +kernel) (by rfl) ?_)
  refine then_ (rcv_ 29 (.w 0 1) (by decide +kernel) (by rfl) ?_)
  refine done_ ?_
  refine then_ ?_
  rw [k0_part10_eq_skeleton]
  unfold k0_part10_skel
  refine then_ (next_ 30 (.w 0 1) (.w 0 2) (by decide +kernel) rfl (by clear hV; revert c; decide +kernel) (by clear hV; show k0_dev14 c = _; revert c; decide +kernel) (by rfl) (by rfl) ?_)
  refine done_ ?_
  refine then_ ?_
  rw [k0_part11_eq_skeleton]
  unfold k0_part11_skel
  refine then_ (snd_ 32 (.v 0 1) (by decide +kernel) (by rfl) ?_)
  refine then_ (rcv_ 33 (.v 0 1) (by decide +kernel) (by rfl) ?_)
  refine done_ ?_
  refine then_ (next_ 34 (.v 0 1) (.v 0 2) (by decide +kernel) rfl (by clear hV; revert c; decide +kernel) (by clear hV; show k0_dev15 c = _; revert c; decide +kernel) (by rfl) (by rfl) ?_)
  refine skip_ (by rw [cond9]; omega) ?_
  refine skip_ (by rw [cond10]; omega) ?_
  refine skip_ (by rw [cond11]; omega) ?_
  refine done_ ?_
  exact settle_ 36 1 1 rfl

/-- The third sum, stored and sent; quarters from the neighbours move on. -/
theorem point27_ (t : Fin grid0.N) (ht : t.val = 27)
    {a2 h2 a3 h3} {V2 : S4096x512.Idx → F .f32} {V3 : S4096x256.Idx → F .f32} (hV : Block pb c t V2 V3) :
    At pb K c 51 iprop(Fill pb c 1 3 1536 ∗ Half pb c 0 2 ∗ Ins c a2 a3 V2 V3)
      ⊢ WP c (body (F := F) (grid0.coords t) a2 h2 a3 h3) fun _ =>
        At pb K c 70 iprop(Fill pb c 1 3 2048 ∗ Free c 0 ∗ Ins c a2 a3 V2 V3) := by
  have hoff : k0_off1 (grid0.coords t) = ![(1 : Fin 2).val, 1536, 0] := by rw [off1_eq, ht]; rfl
  unfold body
  rw [cc0_body_eq_skeleton]
  unfold cc0_body_skel
  refine then_ (part50_ fun _ _ _ _ _ _ _ _ _ _ => ?_)
  refine then_ (part51_ 51 (last_ _ _ _) (fun _ => .rfl) (fun h => absurd ((cond1 t).mp h) (by omega)) fun _ _ _ _ _ => ?_)
  refine then_ ?_
  rw [k0_part52_eq_skeleton]
  unfold k0_part52_skel
  refine then_ (peek_ 51 1 3 1536 hoff fun _ => ?_)
  refine then_ (fill_ 51 1 3 1536 (by omega) hoff (fun r j => pay6_eq (by omega) hV (by omega) r j _) ?_)
  refine skip_ (by rw [cond2]; omega) ?_
  refine skip_ (by rw [cond3]; omega) ?_
  refine skip_ (by rw [cond4]; omega) ?_
  refine skip_ (by rw [cond5]; omega) ?_
  refine skip_ (by rw [cond6]; omega) ?_
  refine done_ ?_
  refine skip_ (by rw [cond7]; omega) ?_
  refine skip_ (by rw [cond8]; omega) ?_
  refine skip_ (by rw [cond9]; omega) ?_
  refine take_ ((cond10 t).mpr ht) ?_
  refine then_ ?_
  rw [k0_part17_eq_skeleton]
  unfold k0_part17_skel
  refine then_ (snd_ 51 (.x 2) (by decide +kernel) (by rfl) ?_)
  refine then_ (rcvX_ 52 2 (by decide +kernel) (by decide +kernel) (by rfl) ?_)
  refine pull_ 55 2 ?_
  refine then_ (loadRx_ 55 2 (rxV pb c) rfl ?_)
  refine then_ (loadOwn_ 55 0 2 (by clear hV; revert c; decide +kernel) ?_)
  refine then_ (loadRx_ 55 2 (rxV pb c) rfl ?_)
  refine done_ ?_
  refine then_ ?_
  rw [k0_part18_eq_skeleton]
  unfold k0_part18_skel
  refine then_ (sum_ 55 2 rfl (sum_eq 2) ?_)
  refine then_ (startS_ 55 2 (by decide +kernel) rfl (by clear hV; revert c; decide +kernel) (by rfl) ?_)
  refine then_ (sto_ 56 2 (by decide +kernel) (by rfl) ?_)
  refine done_ ?_
  refine then_ ?_
  rw [k0_part19_eq_skeleton]
  unfold k0_part19_skel
  refine then_ (startR_ 58 (.w 2 0) (by decide +kernel) (by clear hV; revert c; decide +kernel) (by clear hV; show k0_dev19 c = _; revert c; decide +kernel) (by rfl) (by rfl) ?_)
  refine then_ (startR_ 59 (.v 2 0) (by decide +kernel) (by clear hV; revert c; decide +kernel) (by clear hV; show k0_dev20 c = _; revert c; decide +kernel) (by rfl) (by rfl) ?_)
  refine done_ ?_
  refine then_ ?_
  rw [k0_part20_eq_skeleton]
  unfold k0_part20_skel
  refine then_ (snd_ 60 (.w 1 1) (by decide +kernel) (by rfl) ?_)
  refine then_ (rcv_ 61 (.w 1 1) (by decide +kernel) (by rfl) ?_)
  refine done_ ?_
  refine then_ ?_
  rw [k0_part21_eq_skeleton]
  unfold k0_part21_skel
  refine then_ (next_ 62 (.w 1 1) (.w 1 2) (by decide +kernel) rfl (by clear hV; revert c; decide +kernel) (by clear hV; show k0_dev21 c = _; revert c; decide +kernel) (by rfl) (by rfl) ?_)
  refine done_ ?_
  refine then_ ?_
  rw [k0_part22_eq_skeleton]
  unfold k0_part22_skel
  refine then_ (snd_ 64 (.v 1 1) (by decide +kernel) (by rfl) ?_)
  refine then_ (rcv_ 65 (.v 1 1) (by decide +kernel) (by rfl) ?_)
  refine done_ ?_
  refine then_ ?_
  rw [k0_part23_eq_skeleton]
  unfold k0_part23_skel
  refine then_ (next_ 66 (.v 1 1) (.v 1 2) (by decide +kernel) rfl (by clear hV; revert c; decide +kernel) (by clear hV; show k0_dev22 c = _; revert c; decide +kernel) (by rfl) (by rfl) ?_)
  refine then_ (snd_ 68 (.w 0 3) (by decide +kernel) (by rfl) ?_)
  refine then_ (rcv_ 69 (.w 0 3) (by decide +kernel) (by rfl) ?_)
  refine done_ ?_
  refine skip_ (by rw [cond11]; omega) ?_
  refine done_ ?_
  exact settle_ 70 0 2 rfl

end Cert.KernelIdeal.Ring

end
-- ==== Proof.Ideal.PointsC.lean ====
/-
  The last point of the grid.
-/
module

public import proofs.«01_k».proof.Proof.Ideal.Moves

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable {pb : Parts F}
variable {K : GSem nD τ sig → ℕ} {c : Dev nD}

/-- The last point: the last half leaves and arrives, the last sum is stored and sent, and every quarter still under way goes round. -/
theorem point31_ (t : Fin grid0.N) (ht : t.val = 31)
    {a2 h2 a3 h3} {V2 : S4096x512.Idx → F .f32} {V3 : S4096x256.Idx → F .f32} (hV : Block pb c t V2 V3) :
    At pb K c 70 iprop(Fill pb c 1 3 3584 ∗ Free c 0 ∗ Ins c a2 a3 V2 V3)
      ⊢ WP c (body (F := F) (grid0.coords t) a2 h2 a3 h3) fun _ =>
        At pb K c 136 iprop(Free c 0 ∗ Free c 1 ∗ Ins c a2 a3 V2 V3) := by
  have hoff : k0_off1 (grid0.coords t) = ![(1 : Fin 2).val, 3584, 0] := by rw [off1_eq, ht]; rfl
  unfold body
  rw [cc0_body_eq_skeleton]
  unfold cc0_body_skel
  refine then_ (part50_ fun _ _ _ _ _ _ _ _ _ _ => ?_)
  refine then_ (part51_ 70 (last_ _ _ _) (fun _ => .rfl) (fun h => absurd ((cond1 t).mp h) (by omega)) fun _ _ _ _ _ => ?_)
  refine then_ ?_
  rw [k0_part52_eq_skeleton]
  unfold k0_part52_skel
  refine then_ (peek_ 70 1 3 3584 hoff fun _ => ?_)
  refine then_ (fill_ 70 1 3 3584 (by omega) hoff (fun r j => pay6_eq (by omega) hV (by omega) r j _) ?_)
  refine full_ 70 1 3 rfl ?_
  refine skip_ (by rw [cond2]; omega) ?_
  refine skip_ (by rw [cond3]; omega) ?_
  refine skip_ (by rw [cond4]; omega) ?_
  refine take_ ((cond5 t).mpr ht) ?_
  refine then_ (startX_ 70 3 (by decide +kernel) (pbM_of (by clear hV; revert c; decide +kernel) _) rfl (Fin.ext (by clear hV; show k0_dev7 c = _; revert c; decide +kernel)) (by rfl) (by rfl) ?_)
  refine swap_ 71 ?_
  refine skip_ (by rw [cond6]; omega) ?_
  refine done_ ?_
  refine skip_ (by rw [cond7]; omega) ?_
  refine skip_ (by rw [cond8]; omega) ?_
  refine skip_ (by rw [cond9]; omega) ?_
  refine skip_ (by rw [cond10]; omega) ?_
  refine take_ ((cond11 t).mpr ht) ?_
  refine then_ ?_
  rw [k0_part49_eq_skeleton]
  unfold k0_part49_skel
  refine then_ ?_
  rw [k0_part24_eq_skeleton]
  unfold k0_part24_skel
  refine then_ (snd_ 71 (.w 2 0) (by decide +kernel) (by rfl) ?_)
  refine then_ (rcv_ 72 (.w 2 0) (by decide +kernel) (by rfl) ?_)
  refine done_ ?_
  refine then_ ?_
  rw [k0_part25_eq_skeleton]
  unfold k0_part25_skel
  refine then_ (next_ 73 (.w 2 0) (.w 2 1) (by decide +kernel) rfl (by clear hV; revert c; decide +kernel) (by clear hV; show k0_dev23 c = _; revert c; decide +kernel) (by rfl) (by rfl) ?_)
  refine done_ ?_
  refine then_ ?_
  rw [k0_part26_eq_skeleton]
  unfold k0_part26_skel
  refine then_ (snd_ 75 (.v 2 0) (by decide +kernel) (by rfl) ?_)
  refine then_ (rcv_ 76 (.v 2 0) (by decide +kernel) (by rfl) ?_)
  refine done_ ?_
  refine then_ ?_
  rw [k0_part27_eq_skeleton]
  unfold k0_part27_skel
  refine then_ (next_ 77 (.v 2 0) (.v 2 1) (by decide +kernel) rfl (by clear hV; revert c; decide +kernel) (by clear hV; show k0_dev24 c = _; revert c; decide +kernel) (by rfl) (by rfl) ?_)
  refine then_ (snd_ 79 (.w 1 2) (by decide +kernel) (by rfl) ?_)
  refine done_ ?_
  refine then_ ?_
  rw [k0_part28_eq_skeleton]
  unfold k0_part28_skel
  refine then_ (rcv_ 80 (.w 1 2) (by decide +kernel) (by rfl) ?_)
  refine then_ (next_ 81 (.w 1 2) (.w 1 3) (by decide +kernel) rfl (by clear hV; revert c; decide +kernel) (by clear hV; show k0_dev25 c = _; revert c; decide +kernel) (by rfl) (by rfl) ?_)
  refine done_ ?_
  refine then_ ?_
  rw [k0_part29_eq_skeleton]
  unfold k0_part29_skel
  refine then_ (snd_ 83 (.v 1 2) (by decide +kernel) (by rfl) ?_)
  refine then_ (rcv_ 84 (.v 1 2) (by decide +kernel) (by rfl) ?_)
  refine then_ (snd_ 85 (.x 3) (by decide +kernel) (by rfl) ?_)
  refine done_ ?_
  refine then_ ?_
  rw [k0_part30_eq_skeleton]
  unfold k0_part30_skel
  refine then_ (rcvX_ 86 3 (by decide +kernel) (by decide +kernel) (by rfl) ?_)
  refine pull_ 89 3 ?_
  refine then_ (loadRx_ 89 3 (rxV pb c) rfl ?_)
  refine then_ (loadOwn_ 89 1 3 (by clear hV; revert c; decide +kernel) ?_)
  refine then_ (loadRx_ 89 3 (rxV pb c) rfl ?_)
  refine then_ (sum_ 89 3 rfl (sum_eq 3) ?_)
  refine then_ (startS_ 89 3 (by decide +kernel) rfl (by clear hV; revert c; decide +kernel) (by rfl) ?_)
  refine done_ ?_
  refine then_ ?_
  rw [k0_part31_eq_skeleton]
  unfold k0_part31_skel
  refine then_ (sto_ 90 3 (by decide +kernel) (by rfl) ?_)
  refine then_ (startR_ 92 (.w 3 0) (by decide +kernel) (by clear hV; revert c; decide +kernel) (by clear hV; show k0_dev26 c = _; revert c; decide +kernel) (by rfl) (by rfl) ?_)
  refine done_ ?_
  refine then_ ?_
  rw [k0_part32_eq_skeleton]
  unfold k0_part32_skel
  refine then_ (startR_ 93 (.v 3 0) (by decide +kernel) (by clear hV; revert c; decide +kernel) (by clear hV; show k0_dev27 c = _; revert c; decide +kernel) (by rfl) (by rfl) ?_)
  refine done_ ?_
  refine then_ ?_
  rw [k0_part33_eq_skeleton]
  unfold k0_part33_skel
  refine then_ (snd_ 94 (.w 2 1) (by decide +kernel) (by rfl) ?_)
  refine then_ (rcv_ 95 (.w 2 1) (by decide +kernel) (by rfl) ?_)
  refine done_ ?_
  refine then_ ?_
  rw [k0_part34_eq_skeleton]
  unfold k0_part34_skel
  refine then_ (next_ 96 (.w 2 1) (.w 2 2) (by decide +kernel) rfl (by clear hV; revert c; decide +kernel) (by clear hV; show k0_dev28 c = _; revert c; decide +kernel) (by rfl) (by rfl) ?_)
  refine then_ (snd_ 98 (.v 2 1) (by decide +kernel) (by rfl) ?_)
  refine done_ ?_
  refine then_ ?_
  rw [k0_part35_eq_skeleton]
  unfold k0_part35_skel
  refine then_ (rcv_ 99 (.v 2 1) (by decide +kernel) (by rfl) ?_)
  refine then_ (next_ 100 (.v 2 1) (.v 2 2) (by decide +kernel) rfl (by clear hV; revert c; decide +kernel) (by clear hV; show k0_dev29 c = _; revert c; decide +kernel) (by rfl) (by rfl) ?_)
  refine done_ ?_
  refine then_ ?_
  rw [k0_part36_eq_skeleton]
  unfold k0_part36_skel
  refine then_ (snd_ 102 (.w 1 3) (by decide +kernel) (by rfl) ?_)
  refine then_ (rcv_ 103 (.w 1 3) (by decide +kernel) (by rfl) ?_)
  refine done_ ?_
  refine then_ ?_
  rw [k0_part37_eq_skeleton]
  unfold k0_part37_skel
  refine then_ (snd_ 104 (.w 3 0) (by decide +kernel) (by rfl) ?_)
  refine then_ (rcv_ 105 (.w 3 0) (by decide +kernel) (by rfl) ?_)
  refine done_ ?_
  refine then_ ?_
  rw [k0_part38_eq_skeleton]
  unfold k0_part38_skel
  refine then_ (next_ 106 (.w 3 0) (.w 3 1) (by decide +kernel) rfl (by clear hV; revert c; decide +kernel) (by clear hV; show k0_dev30 c = _; revert c; decide +kernel) (by rfl) (by rfl) ?_)
  refine then_ (snd_ 108 (.v 3 0) (by decide +kernel) (by rfl) ?_)
  refine done_ ?_
  refine then_ ?_
  rw [k0_part39_eq_skeleton]
  unfold k0_part39_skel
  refine then_ (rcv_ 109 (.v 3 0) (by decide +kernel) (by rfl) ?_)
  refine then_ (next_ 110 (.v 3 0) (.v 3 1) (by decide +kernel) rfl (by clear hV; revert c; decide +kernel) (by clear hV; show k0_dev31 c = _; revert c; decide +kernel) (by rfl) (by rfl) ?_)
  refine done_ ?_
  refine then_ ?_
  rw [k0_part40_eq_skeleton]
  unfold k0_part40_skel
  refine then_ (snd_ 112 (.w 2 2) (by decide +kernel) (by rfl) ?_)
  refine then_ (rcv_ 113 (.w 2 2) (by decide +kernel) (by rfl) ?_)
  refine done_ ?_
  refine then_ ?_
  rw [k0_part41_eq_skeleton]
  unfold k0_part41_skel
  refine then_ (next_ 114 (.w 2 2) (.w 2 3) (by decide +kernel) rfl (by clear hV; revert c; decide +kernel) (by clear hV; show k0_dev32 c = _; revert c; decide +kernel) (by rfl) (by rfl) ?_)
  refine done_ ?_
  refine then_ ?_
  rw [k0_part42_eq_skeleton]
  unfold k0_part42_skel
  refine then_ (snd_ 116 (.v 2 2) (by decide +kernel) (by rfl) ?_)
  refine then_ (rcv_ 117 (.v 2 2) (by decide +kernel) (by rfl) ?_)
  refine then_ (snd_ 118 (.w 3 1) (by decide +kernel) (by rfl) ?_)
  refine done_ ?_
  refine then_ ?_
  rw [k0_part43_eq_skeleton]
  unfold k0_part43_skel
  refine then_ (rcv_ 119 (.w 3 1) (by decide +kernel) (by rfl) ?_)
  refine then_ (next_ 120 (.w 3 1) (.w 3 2) (by decide +kernel) rfl (by clear hV; revert c; decide +kernel) (by clear hV; show k0_dev33 c = _; revert c; decide +kernel) (by rfl) (by rfl) ?_)
  refine done_ ?_
  refine then_ ?_
  rw [k0_part44_eq_skeleton]
  unfold k0_part44_skel
  refine then_ (snd_ 122 (.v 3 1) (by decide +kernel) (by rfl) ?_)
  refine then_ (rcv_ 123 (.v 3 1) (by decide +kernel) (by rfl) ?_)
  refine done_ ?_
  refine then_ ?_
  rw [k0_part45_eq_skeleton]
  unfold k0_part45_skel
  refine then_ (next_ 124 (.v 3 1) (.v 3 2) (by decide +kernel) rfl (by clear hV; revert c; decide +kernel) (by clear hV; show k0_dev34 c = _; revert c; decide +kernel) (by rfl) (by rfl) ?_)
  refine done_ ?_
  refine then_ ?_
  rw [k0_part46_eq_skeleton]
  unfold k0_part46_skel
  refine then_ (snd_ 126 (.w 2 3) (by decide +kernel) (by rfl) ?_)
  refine then_ (rcv_ 127 (.w 2 3) (by decide +kernel) (by rfl) ?_)
  refine done_ ?_
  refine then_ ?_
  rw [k0_part47_eq_skeleton]
  unfold k0_part47_skel
  refine then_ (snd_ 128 (.w 3 2) (by decide +kernel) (by rfl) ?_)
  refine then_ (rcv_ 129 (.w 3 2) (by decide +kernel) (by rfl) ?_)
  refine done_ ?_
  refine then_ ?_
  rw [k0_part48_eq_skeleton]
  unfold k0_part48_skel
  refine then_ (next_ 130 (.w 3 2) (.w 3 3) (by decide +kernel) rfl (by clear hV; revert c; decide +kernel) (by clear hV; show k0_dev35 c = _; revert c; decide +kernel) (by rfl) (by rfl) ?_)
  refine then_ (snd_ 132 (.v 3 2) (by decide +kernel) (by rfl) ?_)
  refine then_ (rcv_ 133 (.v 3 2) (by decide +kernel) (by rfl) ?_)
  refine done_ ?_
  refine then_ (snd_ 134 (.w 3 3) (by decide +kernel) (by rfl) ?_)
  refine done_ ?_
  refine then_ (rcv_ 135 (.w 3 3) (by decide +kernel) (by rfl) ?_)
  refine done_ ?_
  exact settle_ 136 1 3 rfl

end Cert.KernelIdeal.Ring

end
-- ==== Proof.Ideal.Grid.lean ====
/-
  The state of a device before each grid point, and that every point leads to the next.
-/
module

public import proofs.«01_k».proof.Proof.Ideal.Barrier
public import proofs.«01_k».proof.Proof.Ideal.PointsA
public import proofs.«01_k».proof.Proof.Ideal.PointsB
public import proofs.«01_k».proof.Proof.Ideal.PointsC

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## What a device holds before each point -/

/-- How many changes of stage lie before point `t`. -/
def ev (t : ℕ) : ℕ :=
  if t ≤ 7 then 0 else if t ≤ 11 then 1 else if t ≤ 15 then 10 else if t ≤ 19 then 19 else if t ≤ 23 then 36
  else if t ≤ 27 then 51 else if t ≤ 31 then 70 else 136

variable (pb : Parts F)

/-- The slot that is not being filled: the device's own half of the product before, until it is summed. -/
def side (c : Dev nD) (t : ℕ) : sProp 𝕄 :=
  if 8 ≤ t ∧ t % 8 ≤ 3 then Half pb c ⟨(t / 8 + 1) % 2, by omega⟩ ⟨(t / 8 + 3) % 4, by omega⟩ else Free c ⟨(t / 8 + 1) % 2, by omega⟩

/-- The two slots of the partial products before point `t`. -/
def mem (c : Dev nD) (t : ℕ) (I : sProp 𝕄) : sProp 𝕄 :=
  if t = 32 then iprop(Free (F := F) c 0 ∗ Free (F := F) c 1 ∗ I)
  else iprop(Fill pb c ⟨t / 8 % 2, by omega⟩ ⟨t / 8 % 4, by omega⟩ (512 * (t % 8)) ∗ side pb c t ∗ I)

variable {pb}
variable {K : GSem nD τ sig → ℕ} {c : Dev nD}

/-- The slots before a point that is not the last. -/
theorem mem_lt (t : ℕ) (h : t ≠ 32) (I : sProp 𝕄) : mem pb c t I
    = iprop(Fill pb c ⟨t / 8 % 2, by omega⟩ ⟨t / 8 % 4, by omega⟩ (512 * (t % 8)) ∗ side pb c t ∗ I) := if_neg h

/-- Across a point that only stores a block the other slot does not change. -/
theorem side_succ (t : ℕ) (ht : t % 8 ≠ 3 ∧ t % 8 ≠ 7 ∨ t = 3) : side pb c (t + 1) = side pb c t := by
  have e : (t + 1) / 8 = t / 8 := by omega
  have hc : (8 ≤ t + 1 ∧ (t + 1) % 8 ≤ 3) ↔ (8 ≤ t ∧ t % 8 ≤ 3) := by omega
  unfold side
  simp only [e, hc]

/-- Across such a point no copy changes stage. -/
theorem ev_succ (t : ℕ) (h : t < 32) (ht : t % 8 ≠ 3 ∧ t % 8 ≠ 7 ∨ t = 3) : ev (t + 1) = ev t := by
  unfold ev; split_ifs <;> first | rfl | omega

/-- Every point but the first takes a device from its state before the point to its state after. -/
theorem point_ (t : Fin grid0.N) (h0 : t.val ≠ 0) {a2 h2 a3 h3} {V2 : S4096x512.Idx → F .f32} {V3 : S4096x256.Idx → F .f32}
    (hV : Block pb c t V2 V3) :
    At pb K c (ev t.val) (mem pb c t.val (Ins c a2 a3 V2 V3))
      ⊢ WP c (body (F := F) (grid0.coords t) a2 h2 a3 h3)
          fun _ => At pb K c (ev (t.val + 1)) (mem pb c (t.val + 1) (Ins c a2 a3 V2 V3)) := by
  have hN : t.val < 32 := Nat.lt_of_lt_of_eq t.isLt N_0
  by_cases e7 : t.val = 7
  · have h := point7_ (K := K) t e7 (h2 := h2) (h3 := h3) hV
    rw [e7]; exact h
  by_cases e11 : t.val = 11
  · have h := point11_ (K := K) t e11 (h2 := h2) (h3 := h3) hV
    rw [e11]; exact h
  by_cases e15 : t.val = 15
  · have h := point15_ (K := K) t e15 (h2 := h2) (h3 := h3) hV
    rw [e15]; exact h
  by_cases e19 : t.val = 19
  · have h := point19_ (K := K) t e19 (h2 := h2) (h3 := h3) hV
    rw [e19]; exact h
  by_cases e23 : t.val = 23
  · have h := point23_ (K := K) t e23 (h2 := h2) (h3 := h3) hV
    rw [e23]; exact h
  by_cases e27 : t.val = 27
  · have h := point27_ (K := K) t e27 (h2 := h2) (h3 := h3) hV
    rw [e27]; exact h
  by_cases e31 : t.val = 31
  · have h := point31_ (K := K) t e31 (h2 := h2) (h3 := h3) hV
    rw [e31]; exact h
  have hq : t.val % 8 ≠ 3 ∧ t.val % 8 ≠ 7 ∨ t.val = 3 := by omega
  have h := quiet_ (K := K) (X := side pb c t.val) (ev t.val) t ⟨h0, hq⟩ (h2 := h2) (h3 := h3) hV ⟨t.val / 8 % 2, by omega⟩ rfl ⟨t.val / 8 % 4, by omega⟩
    (by show t.val / 8 % 4 = t.val / 8; omega) (512 * (t.val % 8)) rfl
  rw [mem_lt _ (by omega), mem_lt _ (by omega), ev_succ _ hN hq, side_succ _ hq]
  have e : (t.val + 1) / 8 = t.val / 8 := by omega
  have e2 : 512 * ((t.val + 1) % 8) = 512 * (t.val % 8) + 512 := by omega
  simp only [e, e2]
  exact h

end Cert.KernelIdeal.Ring

end
-- ==== Proof.Ideal.Whole.lean ====
/-
  The whole buffers as the pieces the copies move.
-/
module

public import proofs.«01_k».proof.Proof.Ideal.Grid

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## The result as quarter chunks -/

/-- The whole result of device `c` with contents `f`. -/
def OutAll (c : Dev nD) (f : S2048x8192.Idx → F .f32) : sProp 𝕄 :=
  (Memref.whole main_v17 : Memref sig .tc _ _ _).view.loc (c : Thread nD τ) ↦{fullShare} f

theorem out_cover : (Finset.univ : Finset (Fin 4 × Fin 8)).biUnion (fun p => (outM p.2 p.1).view.set) = (Finset.univ : Finset S2048x8192.Idx) := by
  refine Finset.eq_univ_iff_forall.mpr fun i => Finset.mem_biUnion.mpr ?_
  have h : (i 1).val < 8192 := (i 1).isLt
  refine ⟨(⟨(i 1).val % 1024 / 256, by omega⟩, ⟨(i 1).val / 1024, by omega⟩), Finset.mem_univ _, (mem_outM _ _ i).mpr ?_⟩
  dsimp only
  omega

theorem out_apart (p p' : Fin 4 × Fin 8) (h : p ≠ p') : Disjoint (outM p.2 p.1).view.set (outM p'.2 p'.1).view.set := by
  refine Finset.disjoint_left.mpr fun i hi hi' => h ?_
  have h1 := (mem_outM _ _ i).mp hi
  have h2 := (mem_outM _ _ i).mp hi'
  have := p.1.isLt
  have := p'.1.isLt
  exact Prod.ext (Fin.ext (by omega)) (Fin.ext (by omega))

/-- The result is its quarter chunks. -/
theorem OutAll_eq (c : Dev nD) (f : S2048x8192.Idx → F .f32) :
    OutAll c f = bigSep Finset.univ fun cc : Fin 4 => bigSep Finset.univ fun q : Fin 8 => outPt c q cc f := by
  have h := pointsTo_biUnion (ℓ := (Memref.whole main_v17 : Memref sig .tc _ _ _).view.loc (c : Thread nD τ)) (q := fullShare) (f := f)
    (Val := Elt F) (Ix := Unit) (Name := ℕ) (U := UU) (Lvl := ℕ)
    (Finset.univ : Finset (Fin 4 × Fin 8)) (fun p => (outM p.2 p.1).view.set) (fun p _ p' _ hne => out_apart p p' hne)
  rw [out_cover] at h
  exact h.trans (BI.bigSep_univ_prod _)

/-- The chunks as a device at ring position `p` counts them: its own, the four behind, the three ahead. -/
def place (p : Fin 8) : Unit ⊕ (Fin 4 ⊕ Fin 3) → Fin 8
  | .inl _ => p
  | .inr (.inl 0) => p - 1 | .inr (.inl 1) => p - 2 | .inr (.inl 2) => p - 3 | .inr (.inl 3) => p - 4
  | .inr (.inr 0) => p + 1 | .inr (.inr 1) => p + 2 | .inr (.inr 2) => p + 3

theorem place_bij (p : Fin 8) : Function.Bijective (place p) := by revert p; decide

/-- A quarter of every chunk: the device's own, those its forward copies bring and those its backward copies bring. -/
theorem quarters_eq (c : Dev nD) (cc : Fin 4) (f : S2048x8192.Idx → F .f32) :
    (bigSep Finset.univ fun q : Fin 8 => outPt c q cc f)
      = iprop(outPt c (posOf c) cc f ∗ (bigSep Finset.univ fun h : Fin 4 => outPt c (ringPos c (.w cc h)) cc f)
          ∗ bigSep Finset.univ fun h : Fin 3 => outPt c (ringPos c (.v cc h)) cc f) := by
  have hw (h : Fin 4) : place (posOf c) (.inr (.inl h)) = ringPos c (.w cc h) := by fin_cases h <;> rfl
  have hv (h : Fin 3) : place (posOf c) (.inr (.inr h)) = ringPos c (.v cc h) := by fin_cases h <;> rfl
  rw [BI.bigSep_univ_equiv (Equiv.ofBijective _ (place_bij (posOf c)))]
  refine (BI.bigSep_univ_sum _).trans ?_
  refine congrArg₂ (fun A B : sProp 𝕄 => iprop(A ∗ B)) ?_ ?_
  · exact BI.bigSep_singleton
  · refine (BI.bigSep_univ_sum _).trans (congrArg₂ (fun A B : sProp 𝕄 => iprop(A ∗ B)) (bigSep_congr fun h _ => ?_) (bigSep_congr fun h _ => ?_))
    · rw [← hw]; rfl
    · rw [← hv]; rfl

/-- A conjunction over all copies, family by family. -/
theorem bigSep_cp (Φ : Cp → sProp 𝕄) : bigSep Finset.univ Φ
    = iprop((bigSep Finset.univ fun cc : Fin 4 => Φ (.x cc)) ∗ (bigSep Finset.univ fun cc : Fin 4 => bigSep Finset.univ fun h : Fin 4 => Φ (.w cc h))
        ∗ bigSep Finset.univ fun cc : Fin 4 => bigSep Finset.univ fun h : Fin 3 => Φ (.v cc h)) := by
  rw [BI.bigSep_univ_equiv cpEquiv.symm]
  refine (BI.bigSep_univ_sum _).trans (congrArg (fun B : sProp 𝕄 => iprop((bigSep Finset.univ fun cc : Fin 4 => Φ (.x cc)) ∗ B)) ?_)
  refine (BI.bigSep_univ_sum _).trans (congrArg₂ (fun A B : sProp 𝕄 => iprop(A ∗ B)) ?_ ?_)
  · exact BI.bigSep_univ_prod _
  · exact BI.bigSep_univ_prod _

/-! ## The receive buffer as slots, the product buffer as slots -/

/-- The whole receive buffer of device `c`. -/
def RxAll (c : Dev nD) (f : S4x2048x256.Idx → F .f32) : sProp 𝕄 :=
  (Memref.whole cc0_scratch1 : Memref sig .tc _ _ _).view.loc (c : Thread nD τ) ↦{fullShare} f

/-- The receive buffer is its four slots. -/
theorem RxAll_eq (c : Dev nD) (f : S4x2048x256.Idx → F .f32) :
    RxAll c f = bigSep Finset.univ fun cc : Fin 4 => rxPt c fullShare cc f := by
  have h := pointsTo_biUnion (ℓ := (Memref.whole cc0_scratch1 : Memref sig .tc _ _ _).view.loc (c : Thread nD τ)) (q := fullShare) (f := f)
    (Val := Elt F) (Ix := Unit) (Name := ℕ) (U := UU) (Lvl := ℕ)
    (Finset.univ : Finset (Fin 4)) (fun cc => (rxM cc).view.set) (fun p _ p' _ hne => Finset.disjoint_left.mpr fun i hi hi' => hne
      (Fin.ext (((mem_rxM _ i).mp hi).symm.trans ((mem_rxM _ i).mp hi'))))
  rw [show Finset.univ.biUnion (fun cc => (rxM cc).view.set) = (Finset.univ : Finset S4x2048x256.Idx) from
    Finset.eq_univ_iff_forall.mpr fun i => Finset.mem_biUnion.mpr ⟨⟨(i 0).val, (i 0).isLt⟩, Finset.mem_univ _, (mem_rxM _ i).mpr rfl⟩] at h
  exact h

/-- The whole buffer of partial products of device `c`. -/
def PbAll (c : Dev nD) (f : S2x4096x256.Idx → F .f32) : sProp 𝕄 :=
  (Memref.whole cc0_scratch0 : Memref sig .tc _ _ _).view.loc (c : Thread nD τ) ↦{fullShare} f

theorem slots_disjoint : Disjoint (slotS 0) (slotS 1) :=
  Finset.disjoint_left.mpr fun i h h' => by rw [mem_slotS] at h h'; exact absurd (h.symm.trans h') (by decide)

theorem slots_union : slotS 0 ∪ slotS 1 = (Finset.univ : Finset S2x4096x256.Idx) := by
  refine Finset.eq_univ_iff_forall.mpr fun i => Finset.mem_union.mpr ?_
  have h : (i 0).val < 2 := (i 0).isLt
  rw [mem_slotS, mem_slotS]
  show (i 0).val = 0 ∨ (i 0).val = 1
  omega

/-- The buffer of partial products splits into its two slots, -/
theorem PbAll_split (c : Dev nD) (f : S2x4096x256.Idx → F .f32) : PbAll c f ⊢ (iprop(Free c 0 ∗ Free c 1) : sProp 𝕄) := by
  unfold PbAll Free slotPt
  rw [← slots_union]
  iintro H
  ihave ⟨H0, H1⟩ := (pointsTo_union slots_disjoint).1 $$ H
  isplitl [H0]
  · iexists f; iexact H0
  · iexists f; iexact H1

/-- and is made of them again. -/
theorem PbAll_join (c : Dev nD) : iprop(Free c 0 ∗ Free c 1) ⊢ (iprop(∃ f, PbAll (F := F) c f) : sProp 𝕄) := by
  unfold PbAll Free slotPt
  iintro ⟨⟨%f, H0⟩, ⟨%g, H1⟩⟩
  iexists ((slotS 1).piecewise g f)
  iapply (Entails.of_eq (congrArg (fun S => ((Memref.whole cc0_scratch0 : Memref sig .tc _ _ _).view.loc (c : Thread nD τ) ↦[S]{fullShare} ((slotS 1).piecewise g f) : sProp 𝕄)) slots_union))
  iapply (pointsTo_join slots_disjoint)
  isplitl [H0] <;> iassumption

end Cert.KernelIdeal.Ring

end
-- ==== Proof.Ideal.End.lean ====
/-
  The end of the kernel: the allocated semaphores are taken out of the protocol, and the buffers are whole.
-/
module

public import proofs.«01_k».proof.Proof.Ideal.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (pb : Parts F) (K : GSem nD τ sig → ℕ) (c : Dev nD)

/-- The semaphores the kernel allocates: the two of every remote copy and those of the local copies. -/
abbrev Own := Cp ⊕ (Cp ⊕ Fin 4)

/-- The kind of an allocated semaphore. -/
def ownKd : Own → Kd
  | .inl k => .snd k
  | .inr (.inl k) => .rcv k
  | .inr (.inr cc) => .sto cc

/-- A cell whose round is over can be taken out of the protocol, with its counter at zero. -/
theorem close_ (k : Kd) : iprop(Recs pb K ∗ atPos ER (cell c k) (0 + 1) ∅ 0) ⊢ (iprop(|={Set.univ}=> semVal (cell c k) 0) : sProp 𝕄) := by
  iintro ⟨#HR, Ha⟩
  iapply (Rounds.cell_close ER (Rd pb) (Set.mem_univ (K (cell c k))) id (duties_later pb (cell c k)))
  isplitr [Ha]
  · iapply (Recs_get pb K c k) $$ HR
  · iexact Ha

/-- Likewise for a family of cells. -/
theorem close_all {T : Type} [Fintype T] [DecidableEq T] (f : T → Kd) :
    iprop(Recs pb K ∗ bigSep Finset.univ fun t => atPos ER (cell c (f t)) (0 + 1) ∅ 0)
      ⊢ (iprop(|={Set.univ}=> bigSep Finset.univ fun t => semVal (cell c (f t)) 0) : sProp 𝕄) :=
  (BI.bigSep_with_persistent fun t _ => close_ pb K c (f t)).trans (BI.bigSep_fupd _ _)

/-- A conjunction over the allocated semaphores, by kind. -/
theorem own_sums (Φ : Own → sProp 𝕄) : bigSep Finset.univ Φ
    = iprop((bigSep Finset.univ fun k : Cp => Φ (.inl k)) ∗ (bigSep Finset.univ fun k : Cp => Φ (.inr (.inl k)))
        ∗ bigSep Finset.univ fun cc : Fin 4 => Φ (.inr (.inr cc))) :=
  (BI.bigSep_univ_sum _).trans (congrArg (fun B : sProp 𝕄 => iprop((bigSep Finset.univ fun k : Cp => Φ (.inl k)) ∗ B)) (BI.bigSep_univ_sum _))

/-- The stages at the end: the copies whose target is not sent on have arrived, the others are handed on. -/
theorem stg_end_x (cc : Fin 4) : stg 136 (.cp (.x cc)) = .ended := by revert cc; decide +kernel
theorem stg_end_w (cc h : Fin 4) : stg 136 (.cp (.w cc h)) = if h = 3 then .done else .passed := by revert cc h; decide +kernel
theorem stg_end_v (cc : Fin 4) (h : Fin 3) : stg 136 (.cp (.v cc h)) = if h = 2 then .done else .passed := by revert cc h; decide +kernel
theorem stg_end_st (cc : Fin 4) : stg 136 (.st cc) = .passed := by revert cc; decide +kernel

/-- What a device holds of the result with a remote copy at the end. -/
def mine : Cp → sProp 𝕄
  | .x _ => iprop(emp)
  | .w cc 3 => iprop(srcP pb c (.w cc 3) ∗ landP pb c (.w cc 3))
  | .w cc h => srcP pb c (.w cc h)
  | .v cc 2 => iprop(srcP pb c (.v cc 2) ∗ landP pb c (.v cc 2))
  | .v cc h => srcP pb c (.v cc h)

/-- At the end a remote copy's two semaphores are past their round. -/
theorem cp_end (k : Cp) : cpP pb c k (stg 136 (.cp k))
    ⊢ iprop(atPos ER (cell c (.snd k)) (0 + 1) ∅ 0 ∗ atPos ER (cell c (.rcv k)) (0 + 1) ∅ 0 ∗ mine pb c k) := by
  rcases k with cc | ⟨cc, h⟩ | ⟨cc, h⟩
  · rw [stg_end_x]
    unfold cpP mine
    iintro ⟨H1, H2⟩
    isplitl [H1]; · iexact H1
    isplitl [H2]; · iexact H2
    iempintro
  · rw [stg_end_w]
    fin_cases h
    · exact .rfl
    · exact .rfl
    · exact .rfl
    · exact .rfl
  · rw [stg_end_v]
    fin_cases h
    · exact .rfl
    · exact .rfl
    · exact .rfl

/-- One quarter of every chunk is back. -/
theorem quarters_back (cc : Fin 4) : iprop((bigSep Finset.univ fun h : Fin 4 => mine pb c (.w cc h)) ∗ (bigSep Finset.univ fun h : Fin 3 => mine pb c (.v cc h)))
    ⊢ (bigSep Finset.univ fun q : Fin 8 => outPt c q cc (outV pb c) : sProp 𝕄) := by
  rw [quarters_eq]
  rw [bigSep_eq_bigSepL_of_eq (l := [0, 1, 2, 3]) (by decide) (by decide), bigSep_eq_bigSepL_of_eq (l := [0, 1, 2]) (by decide) (by decide),
    bigSep_eq_bigSepL_of_eq (l := [0, 1, 2, 3]) (by decide) (by decide), bigSep_eq_bigSepL_of_eq (l := [0, 1, 2]) (by decide) (by decide)]
  simp only [bigSepL]
  show iprop((outSh c fullShare.left (posOf c) cc (outV pb c) ∗ outPt c (posOf c - 1) cc (outV pb c) ∗ outPt c (posOf c - 2) cc (outV pb c)
      ∗ (outPt c (posOf c - 3) cc (outV pb c) ∗ outPt c (posOf c - 4) cc (outV pb c)))
      ∗ outSh c fullShare.right (posOf c) cc (outV pb c) ∗ outPt c (posOf c + 1) cc (outV pb c)
      ∗ (outPt c (posOf c + 2) cc (outV pb c) ∗ outPt c (posOf c + 3) cc (outV pb c)))
    ⊢ iprop(outPt c (posOf c) cc (outV pb c)
      ∗ (outPt c (posOf c - 1) cc (outV pb c) ∗ outPt c (posOf c - 2) cc (outV pb c) ∗ outPt c (posOf c - 3) cc (outV pb c) ∗ outPt c (posOf c - 4) cc (outV pb c))
      ∗ outPt c (posOf c + 1) cc (outV pb c) ∗ outPt c (posOf c + 2) cc (outV pb c) ∗ outPt c (posOf c + 3) cc (outV pb c))
  iintro ⟨⟨L0, B1, B2, ⟨B3, B4⟩⟩, R0, F1, ⟨F2, F3⟩⟩
  isplitl [L0 R0]
  · unfold outPt outSh
    iapply (pointsTo_share (PosShare.mem_left_op_right fullShare)).2
    isplitl [L0] <;> iassumption
  isplitl [B1 B2 B3 B4]
  · isplitl [B1]; · iexact B1
    isplitl [B2]; · iexact B2
    isplitl [B3]; · iexact B3
    iexact B4
  isplitl [F1]; · iexact F1
  isplitl [F2]; · iexact F2
  iexact F3

/-- The whole result is back. -/
theorem out_back : (bigSep Finset.univ fun k : Cp => mine pb c k) ⊢ OutAll c (outV pb c) := by
  rw [bigSep_cp, OutAll_eq]
  iintro ⟨-, H2, H3⟩
  ihave H := (Entails.of_eq (BI.bigSep_sep' (s := (Finset.univ : Finset (Fin 4))) (Φ := fun cc => bigSep Finset.univ fun h : Fin 4 => mine pb c (.w cc h))
    (Ψ := fun cc => bigSep Finset.univ fun h : Fin 3 => mine pb c (.v cc h))).symm) $$ [H2 H3]
  · isplitl [H2] <;> iassumption
  have h : (bigSep Finset.univ fun cc : Fin 4 => iprop((bigSep Finset.univ fun h : Fin 4 => mine pb c (.w cc h)) ∗ (bigSep Finset.univ fun h : Fin 3 => mine pb c (.v cc h))))
    ⊢ (bigSep Finset.univ fun cc : Fin 4 => bigSep Finset.univ fun q : Fin 8 => outPt c q cc (outV pb c) : sProp 𝕄) :=
    BI.bigSep_mono fun cc _ => quarters_back pb c cc
  iapply h $$ H

/-- At the end of the kernel every allocated counter is zero, nothing is owed and the buffers are whole. -/
theorem finish_ (X : sProp 𝕄) : At pb K c 136 iprop(Free c 0 ∗ Free c 1 ∗ X)
    ⊢ (iprop(|={Set.univ}=> ((bigSep Finset.univ fun o : Own => semVal (cell c (ownKd o)) 0) ∗ (∃ W, owes (c : Thread nD τ) 0 W)
      ∗ OutAll c (outV pb c) ∗ (∃ f, RxAll (F := F) c f) ∗ (∃ f, PbAll (F := F) c f) ∗ X)) : sProp 𝕄) := by
  have hO : Ow c (stg 136) = 0 := Ow_zero c _ fun k => by
    rcases k with cc | ⟨cc, h⟩ | ⟨cc, h⟩
    · rw [stg_end_x]; decide
    · rw [stg_end_w]; split <;> decide
    · rw [stg_end_v]; split <;> decide
  have hcp : (bigSep Finset.univ fun k : Cp => cpP pb c k (stg 136 (.cp k)))
      ⊢ bigSep Finset.univ fun k : Cp => iprop(atPos ER (cell c (.snd k)) (0 + 1) ∅ 0 ∗ atPos ER (cell c (.rcv k)) (0 + 1) ∅ 0 ∗ mine pb c k) :=
    BI.bigSep_mono fun k _ => cp_end pb c k
  have hst : (bigSep Finset.univ fun cc : Fin 4 => stP pb c cc (stg 136 (.st cc)))
      ⊢ bigSep Finset.univ fun cc : Fin 4 => iprop(atPos ER (cell c (.sto cc)) (0 + 1) ∅ 0 ∗ rxPt c fullShare cc (sumV pb c)) :=
    BI.bigSep_mono fun cc _ => by rw [stg_end_st]; exact BI.Entails.refl _
  unfold At Sta
  rw [items_eq, hO]
  iintro ⟨#HR, -, ⟨Hcp, Hst⟩, HO, HF0, HF1, HX⟩
  ihave Hcp' := hcp $$ Hcp
  ihave ⟨Hs, Hcp2⟩ := (Entails.of_eq (BI.bigSep_sep' _ _ _)) $$ Hcp'
  ihave ⟨Hr, Hm⟩ := (Entails.of_eq (BI.bigSep_sep' _ _ _)) $$ Hcp2
  ihave Hst1 := hst $$ Hst
  ihave ⟨Hst', Hrx⟩ := (Entails.of_eq (BI.bigSep_sep' _ _ _)) $$ Hst1
  imod (close_all pb K c Kd.snd) $$ [HR Hs] with Hs
  · isplitr [Hs] <;> iassumption
  imod (close_all pb K c Kd.rcv) $$ [HR Hr] with Hr
  · isplitr [Hr] <;> iassumption
  imod (close_all pb K c Kd.sto) $$ [HR Hst'] with Hst'
  · isplitr [Hst'] <;> iassumption
  imodintro
  isplitl [Hs Hr Hst']
  · iapply (Entails.of_eq (own_sums (fun o => semVal (cell c (ownKd o)) 0)).symm)
    isplitl [Hs]; · iexact Hs
    isplitl [Hr]; · iexact Hr
    iexact Hst'
  isplitl [HO]; · iexact HO
  isplitl [Hm]; · iapply (out_back pb c) $$ Hm
  isplitl [Hrx]
  · iexists (sumV pb c)
    iapply (Entails.of_eq (RxAll_eq c (sumV pb c)).symm) $$ Hrx
  isplitl [HF0 HF1]
  · iapply (PbAll_join c); isplitl [HF0] <;> iassumption
  iexact HX

end Cert.KernelIdeal.Ring

end
-- ==== Proof.Ideal.Entry.lean ====
/-
  The start of the kernel: the allocated cells are opened, and the buffers are cut into the pieces the copies move.
-/
module

public import proofs.«01_k».proof.Proof.Ideal.End

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (pb : Parts F) (K : GSem nD τ sig → ℕ) (c : Dev nD)

/-- The right to pay one duty of three barriers, each in round 0. -/
def bars : sProp 𝕄 :=
  bigSep Finset.univ fun d : Fin 3 => iprop(dutyTok ER (cell (giv d c) .bar) 0 d ∗ reached ER (cell (giv d c) .bar) 0)

/-- What the launch hands a device for the kernel: the invariants of all cells; the rights to pay the duties it pays; the credits of the
    arrivals it waits for; its place in the barrier; and the right to open its allocated cells. -/
def Tk : sProp 𝕄 :=
  iprop(∃ K, Recs pb K ∗ bars c
    ∗ (bigSep Finset.univ fun k : Cp => dutyTok ER (cell c (.snd k)) 0 0)
    ∗ (bigSep Finset.univ fun k : Cp => dutyTok ER (cell (tgt k c) (.rcv k)) 0 0)
    ∗ (bigSep Finset.univ fun k : Cp => cred (tallyAt (cell c (.rcv k)) () N))
    ∗ (bigSep Finset.univ fun cc : Fin 4 => dutyTok ER (cell c (.sto cc)) 0 0)
    ∗ atPos ER (cell c .bar) 0 ∅ 0 ∗ cred (tallyAt (cell c .bar) () 3)
    ∗ bigSep Finset.univ fun o : Own => openTok ER (cell c (ownKd o)))

/-- The same once the allocated cells are open. -/
def Xk : sProp 𝕄 :=
  iprop(∃ K, Recs pb K ∗ levAts L lv ∗ bars c ∗ (bigSep Finset.univ fun k : Cp => cp0 (F := F) c k)
    ∗ (bigSep Finset.univ fun k : Cp => reached ER (cell c (.rcv k)) 0)
    ∗ (bigSep Finset.univ fun cc : Fin 4 => iprop(atPos ER (cell c (.sto cc)) 0 ∅ 0 ∗ dutyTok ER (cell c (.sto cc)) 0 0 ∗ reached ER (cell c (.sto cc)) 0))
    ∗ atPos ER (cell c .bar) 0 ∅ 0 ∗ cred (tallyAt (cell c .bar) () 3))

/-- A cell is put under its protocol. -/
theorem open_ (k : Kd) : iprop(Recs pb K ∗ openTok ER (cell c k) ∗ semVal (cell c k) 0)
    ⊢ (iprop(|={Set.univ}=> (atPos ER (cell c k) 0 ∅ 0 ∗ reached ER (cell c k) 0)) : sProp 𝕄) := by
  iintro ⟨#HR, Ho, Hv⟩
  iapply (Rounds.cell_open ER (Rd pb) (Set.mem_univ (K (cell c k))))
  isplitr [Ho Hv]
  · iapply (Recs_get pb K c k) $$ HR
  isplitl [Ho] <;> iassumption

/-- Likewise for a family of cells. -/
theorem open_all {T : Type} [Fintype T] [DecidableEq T] (f : T → Kd) :
    iprop(Recs pb K ∗ (bigSep Finset.univ fun t => openTok ER (cell c (f t))) ∗ bigSep Finset.univ fun t => semVal (cell c (f t)) 0)
      ⊢ (iprop(|={Set.univ}=> ((bigSep Finset.univ fun t => atPos ER (cell c (f t)) 0 ∅ 0) ∗ bigSep Finset.univ fun t => reached ER (cell c (f t)) 0)) : sProp 𝕄) := by
  rw [← BI.bigSep_sep', ← BI.bigSep_sep']
  exact (BI.bigSep_with_persistent fun t _ => open_ pb K c (f t)).trans (BI.bigSep_fupd _ _)

/-- At the start of the kernel, with all allocated counters at zero, the allocated cells are opened. -/
theorem Tk_open : iprop(Tk pb c ∗ (bigSep Finset.univ fun o : Own => semVal (cell c (ownKd o)) 0) ∗ levAts L lv)
    ⊢ (iprop(|={Set.univ}=> Xk pb c) : sProp 𝕄) := by
  unfold Tk Xk
  rw [own_sums (F := F) (fun o => openTok ER (cell c (ownKd o))), own_sums (F := F) (fun o => semVal (cell c (ownKd o)) 0)]
  iintro ⟨⟨%K, #HR, Hb, Hts, Htr, Hcr, Hto, Hbar, Hcb, ⟨Os, Or, Oo⟩⟩, ⟨Vs, Vr, Vo⟩, #HL⟩
  imod (open_all pb K c Kd.snd) $$ [HR Os Vs] with ⟨As, Rs⟩
  · isplitr [Os Vs]; · iexact HR
    isplitl [Os]; · iexact Os
    iexact Vs
  imod (open_all pb K c Kd.rcv) $$ [HR Or Vr] with ⟨Ar, Rr⟩
  · isplitr [Or Vr]; · iexact HR
    isplitl [Or]; · iexact Or
    iexact Vr
  imod (open_all pb K c Kd.sto) $$ [HR Oo Vo] with ⟨Ao, Ro⟩
  · isplitr [Oo Vo]; · iexact HR
    isplitl [Oo]; · iexact Oo
    iexact Vo
  imodintro
  iexists K
  isplitr; · iexact HR
  isplitr; · iexact HL
  isplitl [Hb]; · iexact Hb
  isplitl [Hts Rs Htr As Ar Hcr]
  · unfold cp0
    rw [BI.bigSep_sep', BI.bigSep_sep', BI.bigSep_sep', BI.bigSep_sep', BI.bigSep_sep']
    isplitl [Hts]; · iexact Hts
    isplitl [Rs]; · iexact Rs
    isplitl [Htr]; · iexact Htr
    isplitl [As]; · iexact As
    isplitl [Ar]; · iexact Ar
    iexact Hcr
  isplitl [Rr]; · iexact Rr
  isplitl [Ao Hto Ro]
  · rw [BI.bigSep_sep', BI.bigSep_sep']
    isplitl [Ao]; · iexact Ao
    isplitl [Hto]; · iexact Hto
    iexact Ro
  isplitl [Hbar]; · iexact Hbar
  iexact Hcb

theorem outPt_some (q : Fin 8) (cc : Fin 4) (f : S2048x8192.Idx → F .f32) : outPt c q cc f ⊢ (iprop(∃ f, outPt c q cc f) : sProp 𝕄) := by
  iintro H; iexists f; iexact H
theorem rxPt_some (cc : Fin 4) (f : S4x2048x256.Idx → F .f32) : rxPt c fullShare cc f ⊢ (iprop(∃ f, rxPt c fullShare cc f) : sProp 𝕄) := by
  iintro H; iexists f; iexact H

/-- A quarter of every chunk, likewise. -/
theorem quarter_targets (cc : Fin 4) (f : S2048x8192.Idx → F .f32) : (bigSep Finset.univ fun q : Fin 8 => outPt c q cc f)
    ⊢ iprop((∃ f, outPt c (posOf c) cc f) ∗ (bigSep Finset.univ fun h : Fin 4 => dstP (F := F) c (.w cc h))
      ∗ bigSep Finset.univ fun h : Fin 3 => dstP (F := F) c (.v cc h)) := by
  rw [quarters_eq]
  have h1 : (bigSep Finset.univ fun h : Fin 4 => outPt c (ringPos c (.w cc h)) cc f) ⊢ bigSep Finset.univ fun h : Fin 4 => dstP (F := F) c (.w cc h) :=
    BI.bigSep_mono fun h _ => outPt_some c _ cc f
  have h2 : (bigSep Finset.univ fun h : Fin 3 => outPt c (ringPos c (.v cc h)) cc f) ⊢ bigSep Finset.univ fun h : Fin 3 => dstP (F := F) c (.v cc h) :=
    BI.bigSep_mono fun h _ => outPt_some c _ cc f
  iintro ⟨H, Hw, Hv⟩
  isplitl [H]; · iexists f; iexact H
  isplitl [Hw]; · iapply h1 $$ Hw
  iapply h2 $$ Hv

/-- The result as the targets of the copies and the device's own quarters. -/
theorem out_targets (f : S2048x8192.Idx → F .f32) : OutAll c f
    ⊢ iprop((bigSep Finset.univ fun cc : Fin 4 => iprop(∃ f, outPt c (posOf c) cc f))
      ∗ (bigSep Finset.univ fun cc : Fin 4 => bigSep Finset.univ fun h : Fin 4 => dstP (F := F) c (.w cc h))
      ∗ bigSep Finset.univ fun cc : Fin 4 => bigSep Finset.univ fun h : Fin 3 => dstP (F := F) c (.v cc h)) := by
  rw [OutAll_eq, ← BI.bigSep_sep', ← BI.bigSep_sep']
  exact BI.bigSep_mono fun cc _ => quarter_targets c cc f

/-- The receive buffer as the targets of the partner's copies. -/
theorem rx_targets (f : S4x2048x256.Idx → F .f32) : RxAll c f ⊢ bigSep Finset.univ fun cc : Fin 4 => dstP (F := F) c (.x cc) := by
  rw [RxAll_eq]
  exact BI.bigSep_mono fun cc _ => rxPt_some c cc f

/-- What a device holds before the first point, beside what it owes. -/
def Ent : sProp 𝕄 :=
  iprop(∃ K, Recs pb K ∗ pay (F := F) c 0 ∗ pay (F := F) c 1 ∗ pay (F := F) c 2 ∗ levAts L lv ∗ Wt pb c ∗ Fill pb c 0 0 0 ∗ Free (F := F) c 1)

/-- With the buffers whole a device is ready for the first point. -/
theorem enter_ (f : S2048x8192.Idx → F .f32) (g : S4x2048x256.Idx → F .f32) (h : S2x4096x256.Idx → F .f32) :
    iprop(PbAll c h ∗ RxAll c g ∗ OutAll c f ∗ Xk pb c) ⊢ Ent pb c := by
  unfold Xk Ent
  iintro ⟨Hp, Hr, Ho, ⟨%K, #HR, #HL, Hb, Hk, Hrr, Hs, Hbar, Hcb⟩⟩
  iexists K
  isplitr; · iexact HR
  ihave ⟨Hown, Hw, Hv⟩ := (out_targets c f) $$ Ho
  ihave Hx := (rx_targets c g) $$ Hr
  ihave Hd := (Entails.of_eq (bigSep_cp (F := F) (fun k => dstP (F := F) c k)).symm) $$ [Hx Hw Hv]
  · isplitl [Hx]; · iexact Hx
    isplitl [Hw] <;> iassumption
  ihave Hh := (Entails.of_eq (BI.bigSep_sep' Finset.univ (fun k : Cp => dstP (F := F) c k) (fun k => reached ER (cell c (.rcv k)) 0)).symm) $$ [Hd Hrr]
  · isplitl [Hd] <;> iassumption
  ihave Hg := (Entails.of_eq (hand_eq (F := F) c)) $$ Hh
  unfold bars
  ihave ⟨Hb1, Hb2⟩ := (Entails.of_eq (BI.bigSep_sep' _ _ _)) $$ Hb
  have hpay : iprop((bigSep Finset.univ fun d : Fin 3 => dutyTok ER (cell (giv d c) .bar) 0 d) ∗ (bigSep Finset.univ fun d : Fin 3 => reached ER (cell (giv d c) .bar) 0)
      ∗ bigSep Finset.univ fun d : Fin 3 => barP (F := F) (giv d c) d) = (iprop(pay (F := F) c 0 ∗ pay (F := F) c 1 ∗ pay (F := F) c 2) : sProp 𝕄) := by
    rw [← BI.bigSep_sep', ← BI.bigSep_sep']
    exact bigSep_univ_eq_bigSepL [0, 1, 2] (by decide) (by decide) (fun d => pay (F := F) c d)
  ihave ⟨P0, P1, P2⟩ := (Entails.of_eq hpay) $$ [Hb1 Hb2 Hg]
  · isplitl [Hb1]; · iexact Hb1
    isplitl [Hb2] <;> iassumption
  isplitl [P0]; · iexact P0
  isplitl [P1]; · iexact P1
  isplitl [P2]; · iexact P2
  isplitr; · iexact HL
  isplitl [Hown Hk Hs Hbar Hcb]
  · unfold Wt
    isplitl [Hk]; · iexact Hk
    isplitl [Hown Hs]
    · ihave H := (Entails.of_eq (BI.bigSep_sep' Finset.univ (fun cc : Fin 4 => (iprop(∃ f, outPt c (posOf c) cc f) : sProp 𝕄))
        (fun cc => iprop(atPos ER (cell c (.sto cc)) 0 ∅ 0 ∗ dutyTok ER (cell c (.sto cc)) 0 0 ∗ reached ER (cell c (.sto cc)) 0))).symm) $$ [Hown Hs]
      · isplitl [Hown] <;> iassumption
      iexact H
    isplitl [Hbar] <;> iassumption
  ihave ⟨F0, F1⟩ := (PbAll_split c h) $$ Hp
  isplitl [F0]; · iapply (Free_Fill pb c 0 0) $$ F0
  iexact F1

end Cert.KernelIdeal.Ring

end
-- ==== Proof.Ideal.Phases.lean ====
/-
  What a device holds between the points of the grid.
-/
module

public import proofs.«01_k».proof.Proof.Ideal.Entry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (pb : Parts F) (c : Dev nD)

/-- What a device owes before point `t`. -/
def owe (t : ℕ) : CellTallies nD τ sig Unit := if t = 0 then O₀ c else Ow c (stg (ev t))

theorem owe_zero : owe c 0 = O₀ c := if_pos rfl
theorem owe_pos (t : ℕ) (h : t ≠ 0) : owe c t = Ow c (stg (ev t)) := if_neg h
theorem owe_end : owe c 32 = 0 := by
  rw [owe_pos c 32 (by decide)]
  exact Ow_zero c _ fun k => by
    show stg 136 (.cp k) ≠ .pre
    rcases k with cc | ⟨cc, h⟩ | ⟨cc, h⟩
    · rw [stg_end_x]; decide
    · rw [stg_end_w]; split <;> decide
    · rw [stg_end_v]; split <;> decide

/-- What a device holds before a point past the first, beside what it owes. -/
def Mid (t : ℕ) : sProp 𝕄 :=
  iprop((∃ K, Recs pb K ∗ levAts L lv ∗ items pb c (stg (ev t)) ∗ mem pb c t iprop(emp)) ∗ semVal (cell c .bar) 0)

/-- What a device holds after the last point: all counters at zero, the result, and the scratch buffers. -/
def Fin_ : sProp 𝕄 :=
  iprop((bigSep Finset.univ fun o : Own => semVal (cell c (ownKd o)) 0) ∗ OutAll c (outV pb c)
    ∗ (∃ f, RxAll (F := F) c f) ∗ (∃ f, PbAll (F := F) c f) ∗ semVal (cell c .bar) 0)

/-- What a device holds before point `t`, the end counted as point 32. -/
def Phi (t : ℕ) : sProp 𝕄 :=
  iprop((if t = 0 then Ent pb c else if t = 32 then Fin_ pb c else Mid pb c t) ∗ ∃ r, prngReg c r)

theorem Phi_zero : Phi pb c 0 = iprop(Ent pb c ∗ ∃ r, prngReg c r) := by unfold Phi; rw [if_pos rfl]
theorem Phi_end : Phi pb c 32 = iprop(Fin_ pb c ∗ ∃ r, prngReg c r) := by unfold Phi; rw [if_neg (by decide), if_pos rfl]
theorem Phi_mid (t : ℕ) (h : t ≠ 0) (h' : t ≠ 32) : Phi pb c t = iprop(Mid pb c t ∗ ∃ r, prngReg c r) := by unfold Phi; rw [if_neg h, if_neg h']

/-- The slots of the partial products beside something else. -/
theorem mem_take (t : ℕ) (I : sProp 𝕄) : mem pb c t I ⊢ iprop(mem pb c t iprop(emp) ∗ I) := by
  unfold mem
  split
  · iintro ⟨H1, H2, H3⟩
    isplitl [H1 H2]
    · isplitl [H1]; · iexact H1
      isplitl [H2]; · iexact H2
      iempintro
    iexact H3
  · iintro ⟨H1, H2, H3⟩
    isplitl [H1 H2]
    · isplitl [H1]; · iexact H1
      isplitl [H2]; · iexact H2
      iempintro
    iexact H3

theorem mem_give (t : ℕ) (I : sProp 𝕄) : iprop(mem pb c t iprop(emp) ∗ I) ⊢ mem pb c t I := by
  unfold mem
  split
  · iintro ⟨⟨H1, H2, -⟩, H3⟩
    isplitl [H1]; · iexact H1
    isplitl [H2]; · iexact H2
    iexact H3
  · iintro ⟨⟨H1, H2, -⟩, H3⟩
    isplitl [H1]; · iexact H1
    isplitl [H2]; · iexact H2
    iexact H3

variable {pb} {c}

/-- The first point takes a device from its start to the next point. -/
theorem body_first (t : Fin grid0.N) (h0 : t.val = 0) {a2 h2 a3 h3} {V2 : S4096x512.Idx → F .f32} {V3 : S4096x256.Idx → F .f32}
    (hV : Block pb c t V2 V3) :
    iprop(Phi pb c t.val ∗ (∃ W, owes (c : Thread nD τ) (owe c t.val) W) ∗ Ins c a2 a3 V2 V3)
      ⊢ WP c (body (F := F) (grid0.coords t) a2 h2 a3 h3)
          fun _ => iprop(Phi pb c (t.val + 1) ∗ (∃ W, owes (c : Thread nD τ) (owe c (t.val + 1)) W) ∗ Ins c a2 a3 V2 V3) := by
  have hpt (K) := point0_ (pb := pb) (K := K) (c := c) (X := iprop(Free (F := F) c 1 ∗ ∃ r, prngReg c r)) t h0 (a2 := a2) (h2 := h2) (a3 := a3) (h3 := h3) hV
  rw [h0, Phi_zero, owe_zero, Phi_mid pb c (0 + 1) (by decide) (by decide), owe_pos c (0 + 1) (by decide)]
  have hpost (K) : At pb K c 0 iprop(semVal (cell c .bar) 0 ∗ Fill pb c 0 0 512 ∗ (Free (F := F) c 1 ∗ ∃ r, prngReg c r) ∗ Ins c a2 a3 V2 V3)
      ⊢ iprop((Mid pb c (0 + 1) ∗ ∃ r, prngReg c r) ∗ (∃ W, owes (c : Thread nD τ) (Ow c (stg (ev (0 + 1)))) W) ∗ Ins c a2 a3 V2 V3) := by
    unfold At Sta Mid
    iintro ⟨#HR, #HL, HI, HO, HB, HF, ⟨HF1, Hp⟩, HIn⟩
    isplitl [HI HB HF HF1 Hp]
    · isplitl [HI HB HF HF1]
      · isplitl [HI HF HF1]
        · iexists K
          isplitr; · iexact HR
          isplitr; · iexact HL
          isplitl [HI]; · iexact HI
          iapply (mem_give pb c (0 + 1) iprop(emp))
          rw [mem_lt (0 + 1) (by decide), show side pb c (0 + 1) = Free c 1 from if_neg (by decide)]
          isplitl [HF HF1]
          · isplitl [HF]; · iexact HF
            isplitl [HF1]; · iexact HF1
            iempintro
          iempintro
        iexact HB
      iexact Hp
    isplitl [HO]; · iexact HO
    iexact HIn
  unfold Ent
  iintro ⟨⟨⟨%K, #HR, P0, P1, P2, #HL, HW, HF, HF1⟩, Hp⟩, HO, HIn⟩
  iapply (wp_mono _ _ _ fun _ => hpost K)
  iapply (hpt K)
  unfold Start
  isplitr; · iexact HR
  isplitl [HO]; · iexact HO
  isplitl [P0]; · iexact P0
  isplitl [P1]; · iexact P1
  isplitl [P2]; · iexact P2
  isplitr; · iexact HL
  isplitl [HW]; · iexact HW
  isplitl [HF]; · iexact HF
  isplitl [HF1 Hp]
  · isplitl [HF1] <;> iassumption
  iexact HIn

/-- Every later point takes a device from before it to after it. -/
theorem body_next (t : Fin grid0.N) (h0 : t.val ≠ 0) {a2 h2 a3 h3} {V2 : S4096x512.Idx → F .f32} {V3 : S4096x256.Idx → F .f32}
    (hV : Block pb c t V2 V3) :
    iprop(Phi pb c t.val ∗ (∃ W, owes (c : Thread nD τ) (owe c t.val) W) ∗ Ins c a2 a3 V2 V3)
      ⊢ WP c (body (F := F) (grid0.coords t) a2 h2 a3 h3)
          fun _ => iprop(Phi pb c (t.val + 1) ∗ (∃ W, owes (c : Thread nD τ) (owe c (t.val + 1)) W) ∗ Ins c a2 a3 V2 V3) := by
  have hN : t.val < 32 := Nat.lt_of_lt_of_eq t.isLt N_0
  have hpost (K) : iprop((semVal (cell c .bar) 0 ∗ ∃ r, prngReg c r) ∗ At pb K c (ev (t.val + 1)) (mem pb c (t.val + 1) (Ins c a2 a3 V2 V3)))
      ⊢ (iprop(|={Set.univ}=> (Phi pb c (t.val + 1) ∗ (∃ W, owes (c : Thread nD τ) (owe c (t.val + 1)) W) ∗ Ins c a2 a3 V2 V3)) : sProp 𝕄) := by
    by_cases h : t.val = 31
    · rw [h, show (31 + 1 : ℕ) = 32 from rfl, Phi_end, owe_end]
      have hf := finish_ pb K c (Ins c a2 a3 V2 V3)
      have hm : mem pb c 32 (Ins c a2 a3 V2 V3) = iprop(Free (F := F) c 0 ∗ Free (F := F) c 1 ∗ Ins c a2 a3 V2 V3) := if_pos rfl
      rw [hm, show ev 32 = 136 from rfl]
      iintro ⟨⟨HB, Hp⟩, HA⟩
      imod hf $$ HA with ⟨Hs, HO, Ho, Hr, Hpb, HIn⟩
      imodintro
      unfold Fin_
      isplitl [HB Hp Hs Ho Hr Hpb]
      · isplitl [HB Hs Ho Hr Hpb]
        · isplitl [Hs]; · iexact Hs
          isplitl [Ho]; · iexact Ho
          isplitl [Hr]; · iexact Hr
          isplitl [Hpb]; · iexact Hpb
          iexact HB
        iexact Hp
      isplitl [HO]; · iexact HO
      iexact HIn
    · rw [Phi_mid pb c (t.val + 1) (by omega) (by omega), owe_pos c (t.val + 1) (by omega)]
      unfold At Sta Mid
      iintro ⟨⟨HB, Hp⟩, #HR, #HL, HI, HO, HM⟩
      imodintro
      ihave ⟨HM, HIn⟩ := (mem_take pb c (t.val + 1) (Ins c a2 a3 V2 V3)) $$ HM
      isplitl [HI HB HM Hp]
      · isplitl [HI HB HM]
        · isplitl [HI HM]
          · iexists K
            isplitr; · iexact HR
            isplitr; · iexact HL
            isplitl [HI]; · iexact HI
            iexact HM
          iexact HB
        iexact Hp
      isplitl [HO]; · iexact HO
      iexact HIn
  have hpt (K) := point_ (pb := pb) (K := K) (c := c) t h0 (a2 := a2) (h2 := h2) (a3 := a3) (h3 := h3) hV
  rw [Phi_mid pb c t.val h0 (by omega), owe_pos c t.val h0]
  unfold Mid
  iintro ⟨⟨⟨⟨%K, #HR, #HL, HI, HM⟩, HB⟩, Hp⟩, HO, HIn⟩
  iapply (wp_fupd _ _ _ _)
  iapply (wp_mono _ _ _ fun _ => hpost K)
  iapply (wp_frame_l _ _ _)
  isplitl [HB Hp]
  · isplitl [HB] <;> iassumption
  iapply (hpt K)
  unfold At Sta
  isplitr; · iexact HR
  isplitr; · iexact HL
  isplitl [HI]; · iexact HI
  isplitl [HO]; · iexact HO
  iapply (mem_give pb c t.val (Ins c a2 a3 V2 V3))
  isplitl [HM] <;> iassumption

/-- Every point takes a device from before it to after it. -/
theorem body_ (t : Fin grid0.N) {a2 h2 a3 h3} {V2 : S4096x512.Idx → F .f32} {V3 : S4096x256.Idx → F .f32}
    (hV : Block pb c t V2 V3) :
    iprop(Phi pb c t.val ∗ (∃ W, owes (c : Thread nD τ) (owe c t.val) W) ∗ Ins c a2 a3 V2 V3)
      ⊢ WP c (body (F := F) (grid0.coords t) a2 h2 a3 h3)
          fun _ => iprop(Phi pb c (t.val + 1) ∗ (∃ W, owes (c : Thread nD τ) (owe c (t.val + 1)) W) ∗ Ins c a2 a3 V2 V3) := by
  by_cases h : t.val = 0
  · exact body_first t h hV
  · exact body_next t h hV

end Cert.KernelIdeal.Ring

end
-- ==== Proof.Ideal.Body.lean ====
/-
  The partial products, and the proof data of the kernel region.
-/
module

public import proofs.«01_k».proof.Proof.Ideal.Phases

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (m : (ℓ : Loc nD τ sig) → Buf (Elt F) ℓ)

/-! ## The partial products -/

/-- Device `c`'s block of the first operand at point `t`. -/
def blkX (c : Dev nD) (t : Fin cfg0.N) : S4096x512.Idx → F .f32 := ((cfg0.win 0).blk t).view.read (Elt F) (V3 m c main_arg0)

/-- Device `c`'s block of its slice of the second operand at point `t`. -/
def blkD (c : Dev nD) (t : Fin cfg0.N) : S4096x256.Idx → F .f32 := ((cfg0.win 1).blk t).view.read (Elt F) (V3 m c main_v16)

/-- The point that computes row `r` of product `cc`. -/
def pt (cc : Fin 4) (r : Fin 4096) : Fin cfg0.N := ⟨8 * cc.val + r.val / 512, by rw [show cfg0.N = 32 from N_0]; omega⟩

/-- The partial products of every device. -/
def prod : Parts F := fun c cc r j => k0_pay5 (blkX m c (pt cc r)) (blkD m c (pt cc r)) (ValueIdx.ix2 ⟨r.val % 512, by omega⟩ j)

/-- Each point computes its block of the products. -/
theorem block_ (c : Dev nD) (t : Fin cfg0.N) : Block (prod m) c t (blkX m c t) (blkD m c t) := by
  intro r j
  have hN : t.val < 32 := Nat.lt_of_lt_of_eq t.isLt N_0
  unfold prod
  have e : pt ⟨t.val / 8, by omega⟩ ⟨512 * (t.val % 8) + r.val, by omega⟩ = t := Fin.ext (by
    show 8 * (t.val / 8) + (512 * (t.val % 8) + r.val) / 512 = t.val
    omega)
  have e' : (⟨(512 * (t.val % 8) + r.val) % 512, by omega⟩ : Fin 512) = r := Fin.ext (by
    show (512 * (t.val % 8) + r.val) % 512 = r.val
    omega)
  rw [e]
  exact congrArg (fun r' => k0_pay5 (blkX m c t) (blkD m c t) (ValueIdx.ix2 r' j)) e'.symm

/-! ## The region's proof data -/

/-- The windows' blocks stay as fetched; between the points a device holds what `Phi` says and owes what `owe` says. -/
def dat0 (c : Dev nD) : Pipeline.Dat τ (Elt F) Unit ℕ UU ℕ cfg0 c where
  A w := match w with
    | ⟨0, _⟩ => V3 m c main_arg0
    | ⟨1, _⟩ => V3 m c main_v16
  after w t := match w with
    | ⟨0, _⟩ => blkX m c t
    | ⟨1, _⟩ => blkD m c t
  Φ t := Phi (prod m) c t.val
  q _ := fullShare
  owed t := owe c t.val

def pdats : (p : Fin 1) → (c : Dev nD) → Pipeline.Dat τ (Elt F) Unit ℕ UU ℕ (Pipeline.pin (pcfgs (F := F)) adm p) c
  | 0 => dat0 m

theorem before0 (c : Dev nD) (t : Fin cfg0.N) (d : (cfg0.win 0).block.Idx → Elt F (cfg0.win 0).elt) : (dat0 m c).before 0 t d = blkX m c t :=
  (Pipeline.Dat.before_in_eq_fetched (dat0 m c) 0 rfl (fun _ => rfl) (fun _ _ _ => rfl) (fun _ => rfl) t d).trans rfl
theorem before1 (c : Dev nD) (t : Fin cfg0.N) (d : (cfg0.win 1).block.Idx → Elt F (cfg0.win 1).elt) : (dat0 m c).before 1 t d = blkD m c t :=
  (Pipeline.Dat.before_in_eq_fetched (dat0 m c) 1 rfl (fun _ => rfl) (fun _ _ _ => rfl) (fun _ => rfl) t d).trans rfl

theorem owesAt_give (c : Dev nD) (t : Fin (cfg0.N + 1)) (n : ℕ) (h : t.val = n) :
    (iprop(∃ W, owes (c : Thread nD τ) (owe c n) W) : sProp 𝕄) ⊢ (dat0 m c).owesAt () t := by
  subst h
  unfold Pipeline.Dat.owesAt Pipeline.owesWithin
  iintro ⟨%W, HO⟩
  iexists W
  isplitr; · ipureintro; exact fun _ _ => Or.inl trivial
  iexact HO
theorem owesAt_take (c : Dev nD) (t : Fin (cfg0.N + 1)) (n : ℕ) (h : t.val = n) :
    (dat0 m c).owesAt () t ⊢ (iprop(∃ W, owes (c : Thread nD τ) (owe c n) W) : sProp 𝕄) := by
  subst h
  unfold Pipeline.Dat.owesAt Pipeline.owesWithin
  iintro ⟨%W, -, HO⟩
  iexists W
  iexact HO

theorem Phi_at (c : Dev nD) (t : Fin (cfg0.N + 1)) (n : ℕ) (h : t.val = n) : (dat0 m c).Φ t = Phi (prod m) c n := by
  subst h; rfl

/-- The body meets its obligation at every point. -/
theorem obligation (c : Dev nD) : Pipeline.BodyObligation (dat0 m c) (defs₀ (F := F)) 𝒱₀ () Set.univ := fun t => by
  rw [bigSep_W0, bigSep_W0]
  rw [Phi_at m c t.castSucc t.val rfl, Phi_at m c t.succ (t.val + 1) rfl]
  have h := body_ (c := c) t (a2 := (cfg0.win 0).stage (cfg0.slots t 0)) (h2 := hstage0_0 ((cfg0.slots t 0).cast nbuf0_0))
    (a3 := (cfg0.win 1).stage (cfg0.slots t 1)) (h3 := hstage0_1 ((cfg0.slots t 1).cast nbuf0_1)) (block_ m c t)
  iintro ⟨HP, HO, ⟨%d0, H0⟩, ⟨%d1, H1⟩⟩
  rw [before0, before1]
  ihave HO' := (owesAt_take m c t.castSucc t.val rfl) $$ HO
  have hpost : iprop(Phi (prod m) c (t.val + 1) ∗ (∃ W, owes (c : Thread nD τ) (owe c (t.val + 1)) W)
        ∗ Ins c ((cfg0.win 0).stage (cfg0.slots t 0)) ((cfg0.win 1).stage (cfg0.slots t 1)) (blkX m c t) (blkD m c t))
      ⊢ (iprop(Phi (prod m) c (t.val + 1) ∗ (dat0 m c).owesAt () t.succ
        ∗ owns (c : Thread nD τ) ((cfg0.win 0).stage (cfg0.slots t 0)) fullShare (blkX m c t)
        ∗ owns (c : Thread nD τ) ((cfg0.win 1).stage (cfg0.slots t 1)) fullShare (blkD m c t)) : sProp 𝕄) := by
    unfold Ins
    iintro ⟨HP, HO, HI⟩
    isplitl [HP]; · iexact HP
    isplitl [HO]; · iapply (owesAt_give m c t.succ (t.val + 1) rfl) $$ HO
    iexact HI
  iapply (wp_mono _ _ _ fun _ => hpost)
  iapply h
  isplitl [HP]; · iexact HP
  isplitl [HO']; · iexact HO'
  unfold Ins
  isplitl [H0] <;> iassumption

end Cert.KernelIdeal.Ring

end
-- ==== Proof.Ideal.Region.lean ====
/-
  The kernel region as a step of the program.
-/
module

public import proofs.«01_k».proof.Proof.Ideal.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (m : (ℓ : Loc nD τ sig) → Buf (Elt F) ℓ)

/-! ## The allocated semaphores -/

/-- The allocated semaphores. -/
def osem (o : Own) : SemLoc sig := sem (ownKd o)

theorem ownKd_inj : Function.Injective ownKd := by
  rintro (k | k | cc) (k' | k' | cc') h <;> simp only [ownKd, Kd.snd.injEq, Kd.rcv.injEq, Kd.sto.injEq, reduceCtorEq] at h <;> rw [h]

theorem osem_facts : Pipeline.OwnSemFacts spec0 osem where
  isScoped := by decide +kernel
  inj o o' h := ownKd_inj (sem_inj h)
  disj := by decide +kernel

/-! ## What is owed lies above the pipeline's own cells -/

theorem lv_pos_rcv (c : Dev nD) (k : Cp) : 0 < lv (cell c (.rcv k)) () := by rw [lv_rcv]; omega
theorem lv_pos_bar (c : Dev nD) : 0 < lv (cell c .bar) () := by rw [lv_bar]; exact Nat.one_pos

theorem cut_Ow (c : Dev nD) (σ : It → St) (g : GSem nD τ sig) (i : Unit) (h : 0 < Ow c σ g i) : i ∈ L g ∧ 0 < lv g i := by
  obtain ⟨k, -, rfl⟩ := Ow_pos c σ g i h
  exact ⟨by rw [L_tc]; exact Finset.mem_singleton_self _, lv_pos_rcv _ _⟩

theorem cut_add (A : CellTallies nD τ sig Unit) (hA : ∀ (g : GSem nD τ sig) (i : Unit), 0 < A g i → i ∈ L g ∧ 0 < lv g i) (d : Dev nD)
    (g : GSem nD τ sig) (i : Unit) (h : 0 < (A + tallyAt (cell d .bar) () 1) g i) : i ∈ L g ∧ 0 < lv g i := by
  rw [Pi.add_apply, Finsupp.add_apply] at h
  rcases Nat.add_pos_iff_pos_or_pos.mp h with h | h
  · exact hA g i h
  · rw [tallyAt_apply] at h
    split at h
    · next hg =>
      obtain ⟨rfl, -⟩ := hg
      exact ⟨by rw [L_tc]; exact Finset.mem_singleton_self _, lv_pos_bar _⟩
    · exact absurd h (Nat.lt_irrefl 0)

theorem cut_owe (c : Dev nD) (t : ℕ) (g : GSem nD τ sig) (i : Unit) (h : 0 < owe c t g i) : i ∈ L g ∧ 0 < lv g i := by
  unfold owe at h
  split at h
  · exact cut_add _ (cut_add _ (cut_add _ (cut_Ow c _) _) _) _ g i h
  · exact cut_Ow c _ g i h

/-- The pipeline's own cells are at level 0. -/
theorem stage_level (w : Fin 2) (s : Fin (win0 w).nbuf) (c : Dev nD) : lv ((c : Thread nD τ), .dma ((win0 w).sem s)) () ≤ 0 := by
  have h : kd (.dma ((win0 w).sem s)) = none := by
    fin_cases w <;> (revert s; decide +kernel)
  show (match kd (.dma ((win0 w).sem s)) with | some .bar => 1 | some (.rcv k) => 2 + ord k | _ => 0) ≤ 0
  rw [h]

/-! ## The region -/

/-- The buffers after the region: the result holds the sum of the halves' products. -/
def VF (c : Dev nD) : Valuation τ sig (Elt F) := Function.update (V3 m c) main_v17 (outV (prod m) c)

theorem VF_of (c : Dev nD) (b : DevRef τ sig) (h : b ≠ Proc.devRef .tc main_v17) : VF m c b = V3 m c b := Function.update_of_ne h _ _
theorem VF_v17 (c : Dev nD) : VF m c main_v17 = outV (prod m) c := Function.update_self _ _ _

/-- The result's buffer. -/
def Hs : Finset (DevRef τ sig) := {Proc.devRef .tc main_v17}
/-- The buffers beside the windows' arrays. -/
def Sr : Finset (DevRef τ sig) := Pipeline.ucRefs τ sig \ Pipeline.arrRefs spec0

theorem Hs_sub : Hs ⊆ Sr := by decide +kernel
theorem arr_sub : Pipeline.arrRefs spec0 ⊆ Pipeline.ucRefs τ sig := by decide +kernel

theorem held_Hs (c : Dev nD) (W : Valuation τ sig (Elt F)) : (StableHlo.held (c.tc : Thread nD τ) Hs W : sProp 𝕄) = OutAll c (W main_v17) := by
  unfold StableHlo.held Hs
  exact BI.bigSep_singleton

/-- The region is entered. -/
theorem region_in (c : Dev nD) : iprop(Pipeline.scopedRest (Pipeline.pin (pcfgs (F := F)) adm 0).spec c ∗ (∃ r, prngReg c r)
      ∗ StableHlo.held (c.tc : Thread nD τ) Hs (V3 m c) ∗ Xk (prod m) c) ⊢ (pdats m 0 c).Φ 0 := by
  rw [show (pdats m 0 c).Φ 0 = iprop(Ent (prod m) c ∗ ∃ r, prngReg c r) from Phi_zero (prod m) c, held_Hs]
  rw [show (Pipeline.scopedRest (Pipeline.pin (pcfgs (F := F)) adm 0).spec c : sProp 𝕄) = iprop((∃ f, PbAll (F := F) c f) ∗ (∃ f, RxAll (F := F) c f))
    from scopedRest0_eq c]
  iintro ⟨⟨⟨%h, Hp⟩, ⟨%g, Hr⟩⟩, Hreg, Ho, HX⟩
  isplitr [Hreg]
  · iapply (enter_ (prod m) c (V3 m c main_v17) g h)
    isplitl [Hp]; · iexact Hp
    isplitl [Hr]; · iexact Hr
    isplitl [Ho] <;> iassumption
  iexact Hreg

theorem own_eq (c : Dev nD) : (bigSep Finset.univ fun o : Own => semVal (cell c (ownKd o)) 0) = (Pipeline.ownSems0 osem c : sProp 𝕄) := rfl

/-- The region is left. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (VF m c) ∗ Pipeline.ownSems0 osem c ∗ semVal (cell c .bar) 0) := by
  rw [show (pdats m 0 c).Φ (Fin.last (Pipeline.pin (pcfgs (F := F)) adm 0).N) = iprop(Fin_ (prod m) c ∗ ∃ r, prngReg c r)
      from (Phi_at m c (Fin.last cfg0.N) 32 N_0).trans (Phi_end (prod m) c), held_Hs, VF_v17]
  rw [show (Pipeline.scopedRest (Pipeline.pin (pcfgs (F := F)) adm 0).spec c : sProp 𝕄) = iprop((∃ f, PbAll (F := F) c f) ∗ (∃ f, RxAll (F := F) c f))
    from scopedRest0_eq c]
  unfold Fin_
  iintro ⟨⟨Hs, Ho, Hr, Hp, Hb⟩, Hreg⟩
  isplitl [Hr Hp]
  · isplitl [Hp]; · iexact Hp
    iexact Hr
  isplitl [Hreg]; · iexact Hreg
  isplitl [Ho]; · iexact Ho
  isplitl [Hs]; · iapply (Entails.of_eq (own_eq c)) $$ Hs
  iexact Hb

theorem region_kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_start (c : Dev nD) (w : Fin 2) : (pdats m 0 c).arrAt w 0 = V3 m c (Proc.devRef .tc (Pipeline.arrRef spec0 w)) := by
  fin_cases w <;> rfl

theorem arr_end (c : Dev nD) (w : Fin 2) : (pdats m 0 c).arrAt w cfg0.N = VF m c (Proc.devRef .tc (Pipeline.arrRef spec0 w)) := by
  fin_cases w
  · exact ((dat0 m c).arrAt_in 0 rfl _).trans (VF_of m c (Proc.devRef .tc main_arg0) (by decide)).symm
  · exact ((dat0 m c).arrAt_in 1 rfl _).trans (VF_of m c (Proc.devRef .tc main_v16) (by decide)).symm

theorem owed_start (c : Dev nD) : (pdats m 0 c).owed 0 = 0 + O₀ c := (owe_zero c).trans (zero_add _).symm
theorem owed_at (c : Dev nD) (t : Fin (cfg0.N + 1)) (n : ℕ) (h : t.val = n) : (dat0 m c).owed t = owe c n := by subst h; rfl
theorem owed_last (c : Dev nD) : (pdats m 0 c).owed (Fin.last _) = 0 :=
  (owed_at m c (Fin.last cfg0.N) 32 N_0).trans (owe_end c)
theorem share_all (c : Dev nD) (w : Fin 2) : (pdats m 0 c).share w = fullShare := (pdats m 0 c).share_full (fun _ => rfl) w
theorem rest_same (c : Dev nD) (b : DevRef τ sig) (hb : b ∈ Sr \ Hs) : VF m c b = V3 m c b :=
  VF_of m c b (fun e => (Finset.mem_sdiff.mp hb).2 (e ▸ Finset.mem_singleton_self _))
theorem cut_all : Pipeline.LevelCutOwed (pcfgs (F := F)) adm (pdats m) () L lv 0 (fun _ => 0) :=
  ⟨fun c w s => by rw [L_tc]; exact Finset.mem_singleton_self _, fun c w s => stage_level w s c, fun c t g i h => cut_owe c t.val g i h⟩
theorem stay (c : Dev nD) : (semVal (cell c .bar) 0 : sProp 𝕄) ⊢ |={Set.univ}=> semVal (cell c .bar) 0 := by
  iintro H; imodintro; iexact H

set_option backward.isDefEq.respectTransparency.types false in
/-- The kernel region: entered from the launch's state, left with the result and the barrier's counter at zero. -/
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr Hs_sub region_kit rfl (fun c => (obligation m c).loose)
    (fun _ => 0) O₀ (owed_start m) (owed_last m) (fun _ => rfl) (share_all m) (V3 m) (VF m) (rest_same m)
    (Tk (prod m)) (fun c => semVal (cell c .bar) 0) (Xk (prod m)) (fun c => semVal (cell c .bar) 0)
    (Tk_open (prod m)) (region_in m) (region_out m) stay (fun _ => 0) (cut_all m) (fun _ => iprop(emp)) (arr_start m) (arr_end m)

end Cert.KernelIdeal.Ring

end
-- ==== Proof.Ideal.Launch.lean ====
/-
  The launch: every device's share of the tokens, credits and cells.
-/
module

public import proofs.«01_k».proof.Proof.Ideal.Region
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

/-! ## The cells and the tokens -/

/-- The barrier cells, which hold their counters throughout. -/
def barEmb : Dev nD ↪ GSem nD τ sig := ⟨fun c => cell c .bar, fun _ _ h => (cell_inj h).1⟩
/-- The cells of the semaphores the kernel allocates. -/
def ownEmb : Dev nD × Own ↪ GSem nD τ sig :=
  ⟨fun p => cell p.1 (ownKd p.2), fun _ _ h => Prod.ext (cell_inj h).1 (ownKd_inj (cell_inj h).2)⟩

/-- The kind and the number of a duty: three for the barrier, one for every allocated semaphore. -/
def dutyKd : Fin 3 ⊕ Own → Kd × Fin 3
  | .inl d => (.bar, d)
  | .inr o => (ownKd o, 0)

theorem ownKd_bar (o : Own) : ownKd o ≠ .bar := by rcases o with k | k | k <;> exact fun h => by cases h

theorem dutyKd_inj : Function.Injective dutyKd := by
  rintro (d | o) (d' | o') h
  · exact congrArg Sum.inl (congrArg Prod.snd h)
  · exact absurd (congrArg Prod.fst h).symm (ownKd_bar o')
  · exact absurd (congrArg Prod.fst h) (ownKd_bar o)
  · exact congrArg Sum.inr (ownKd_inj (congrArg Prod.fst h))

def tokEmb : Dev nD × (Fin 3 ⊕ Own) ↪ GSem nD τ sig × ℕ × Fin 3 :=
  ⟨fun p => (cell p.1 (dutyKd p.2).1, 0, (dutyKd p.2).2), fun _ _ h => by
    have h₁ := cell_inj (congrArg (fun t : GSem nD τ sig × ℕ × Fin 3 => t.1) h)
    exact Prod.ext h₁.1 (dutyKd_inj (Prod.ext h₁.2 (congrArg (fun t : GSem nD τ sig × ℕ × Fin 3 => t.2.2) h)))⟩

abbrev barCells : Finset (GSem nD τ sig) := Finset.univ.map barEmb
abbrev ownCells : Finset (GSem nD τ sig) := Finset.univ.map ownEmb
abbrev toks : Finset (GSem nD τ sig × ℕ × Fin 3) := Finset.univ.map tokEmb

theorem cells_disjoint : Disjoint (barCells : Finset (GSem nD τ sig)) ownCells := by
  rw [Finset.disjoint_left]
  intro g h₁ h₂
  obtain ⟨c, -, rfl⟩ := Finset.mem_map.mp h₁
  obtain ⟨p, -, h⟩ := Finset.mem_map.mp h₂
  exact ownKd_bar p.2 (cell_inj h).2

theorem cell_mem (c : Dev nD) (k : Kd) : cell c k ∈ (barCells ∪ ownCells : Finset (GSem nD τ sig)) := by
  have own (o : Own) : cell c (ownKd o) ∈ (barCells ∪ ownCells : Finset (GSem nD τ sig)) :=
    Finset.mem_union_right _ (Finset.mem_map_of_mem ownEmb (Finset.mem_univ (c, o)))
  rcases k with _ | k | k | cc
  · exact Finset.mem_union_left _ (Finset.mem_map_of_mem barEmb (Finset.mem_univ c))
  · exact own (.inl k)
  · exact own (.inr (.inl k))
  · exact own (.inr (.inr cc))

/-! ## Handing tokens round the mesh -/

/-- The source and the target of a copy undo each other. -/
def tgtE (k : Cp) : Dev nD ≃ Dev nD := ⟨tgt k, src k, src_tgt k, tgt_src k⟩
theorem giv_bij (d : Fin 3) : Function.Bijective (giv d) := by revert d; decide
def givE (d : Fin 3) : Dev nD ≃ Dev nD := Equiv.ofBijective (giv d) (giv_bij d)

/-- Items held one per device and index, each handed to another device along a bijection that depends on the index. -/
theorem around {T : Type} [Fintype T] (e : T → Dev nD ≃ Dev nD) (Φ : Dev nD → T → sProp 𝕄) :
    (bigSep Finset.univ fun c => bigSep Finset.univ fun t => Φ c t) = bigSep Finset.univ fun c => bigSep Finset.univ fun t => Φ (e t c) t := by
  rw [Pipeline.bigSep_univ_comm, Pipeline.bigSep_univ_comm (fun c t => Φ (e t c) t)]
  exact bigSep_congr fun t _ => BI.bigSep_univ_equiv (e t) (fun c => Φ c t)

/-- A device's tokens once handed round: for the duties it pays. -/
def dealt (c : Dev nD) : sProp 𝕄 :=
  iprop((bigSep Finset.univ fun d : Fin 3 => dutyTok ER (cell (giv d c) .bar) 0 d)
    ∗ (bigSep Finset.univ fun k : Cp => dutyTok ER (cell c (.snd k)) 0 0)
    ∗ (bigSep Finset.univ fun k : Cp => dutyTok ER (cell (tgt k c) (.rcv k)) 0 0)
    ∗ bigSep Finset.univ fun cc : Fin 4 => dutyTok ER (cell c (.sto cc)) 0 0)

theorem toks_dealt : bigSep toks (fun x => (dutyTok ER x.1 x.2.1 x.2.2 : sProp 𝕄)) = bigSep Finset.univ fun c => dealt (F := F) c := by
  unfold dealt
  rw [bigSep_map, BI.bigSep_univ_prod]
  have hb : (bigSep Finset.univ fun c : Dev nD => bigSep Finset.univ fun d : Fin 3 => (dutyTok ER (cell c .bar) 0 d : sProp 𝕄))
      = bigSep Finset.univ fun c : Dev nD => bigSep Finset.univ fun d : Fin 3 => dutyTok ER (cell (giv d c) .bar) 0 d :=
    around givE fun c d => dutyTok ER (cell c .bar) 0 d
  have hr : (bigSep Finset.univ fun c : Dev nD => bigSep Finset.univ fun k : Cp => (dutyTok ER (cell c (.rcv k)) 0 0 : sProp 𝕄))
      = bigSep Finset.univ fun c : Dev nD => bigSep Finset.univ fun k : Cp => dutyTok ER (cell (tgt k c) (.rcv k)) 0 0 :=
    around tgtE fun c k => dutyTok ER (cell c (.rcv k)) 0 0
  rw [BI.bigSep_sep', BI.bigSep_sep', BI.bigSep_sep', ← hb, ← hr, ← BI.bigSep_sep', ← BI.bigSep_sep', ← BI.bigSep_sep']
  refine bigSep_congr fun c _ => ?_
  rw [BI.bigSep_univ_sum]
  exact congrArg (fun B : sProp 𝕄 => iprop((bigSep Finset.univ fun d : Fin 3 => dutyTok ER (cell c .bar) 0 d) ∗ B))
    (own_sums (F := F) fun o => dutyTok ER (cell c (ownKd o)) 0 0)

/-! ## The credits -/

/-- The arrivals device `d` owes at a target cell of device `c`. -/
theorem owed_rcv (d c : Dev nD) (k : Cp) : O₀ d (cell c (.rcv k)) () = if d = src k c then N else 0 := by
  have hb (e : Fin 3) : tallyAt (cell (giv e d) .bar) () 1 (cell c (.rcv k)) = (0 : Unit →₀ ℕ) :=
    tallyAt_ne_cell (fun h => by cases (cell_inj h).2) _ _
  have hw : Ow d (stg 0) (cell c (.rcv k)) () = ∑ k' : Cp, tallyAt (cell (tgt k' d) (.rcv k')) () N (cell c (.rcv k)) () := by
    unfold Ow
    rw [Finset.sum_apply, Finsupp.finsetSum_apply, Finset.filter_true_of_mem (p := fun k' : Cp => stg 0 (.cp k') = .pre) fun k' _ => rfl]
  unfold O₀
  simp only [Pi.add_apply, Finsupp.add_apply, hb, Finsupp.zero_apply, Nat.add_zero]
  rw [hw, Finset.sum_eq_single k]
  · rw [tallyAt_apply]
    by_cases h : d = src k c
    · subst h; rw [tgt_src, if_pos ⟨rfl, rfl⟩, if_pos rfl]
    · rw [if_neg h, if_neg (fun h' => h (by rw [(cell_inj h'.1).1, src_tgt]))]
  · intro k' _ hk
    rw [tallyAt_apply, if_neg fun h => hk (Kd.rcv.inj (cell_inj h.1).2).symm]
  · exact fun h => absurd (Finset.mem_univ k) h

/-- The payments device `d` owes the barrier of device `c`. -/
theorem owed_bar (d c : Dev nD) : O₀ d (cell c .bar) ()
    = (if giv 2 d = c then 1 else 0) + (if giv 1 d = c then 1 else 0) + (if giv 0 d = c then 1 else 0) := by
  have hw : Ow d (stg 0) (cell c .bar) () = 0 := by
    by_contra h
    obtain ⟨k, -, e⟩ := Ow_pos d (stg 0) (cell c .bar) () (Nat.pos_of_ne_zero h)
    cases (cell_inj e).2
  have hb (e : Fin 3) : tallyAt (cell (giv e d) .bar) () 1 (cell c .bar) () = if giv e d = c then 1 else 0 := by
    rw [tallyAt_apply]
    exact if_congr ⟨fun h => (cell_inj h.1).1.symm, fun h => ⟨by rw [h], rfl⟩⟩ rfl rfl
  unfold O₀
  simp only [Pi.add_apply, Finsupp.add_apply, hb, hw, Nat.zero_add]

theorem sum_bar (c : Dev nD) : (∑ d : Dev nD, ((if giv 2 d = c then 1 else 0) + (if giv 1 d = c then 1 else 0) + (if giv 0 d = c then 1 else 0))) = 3 := by
  revert c; decide +kernel

theorem credit_rcv (c : Dev nD) (k : Cp) :
    tallyOn (cell c (.rcv k)) (launchCredit (Pipeline.owing O₀) 0 (cell c (.rcv k))) = (tallyAt (cell c (.rcv k)) () N : CellTallies nD τ sig Unit) := by
  unfold tallyAt; refine congrArg _ (Finsupp.ext fun u => ?_); cases u
  rw [Pipeline.launchCredit_owing, Finsupp.single_eq_same, Finset.sum_congr rfl fun d _ => owed_rcv d c k,
    Finset.sum_ite_eq' Finset.univ (src k c) fun _ => N, if_pos (Finset.mem_univ _)]

theorem credit_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]

/-- The semaphores of the barrier and of the copies' targets. -/
def crdEmb : Unit ⊕ Cp ↪ SemLoc sig :=
  ⟨fun | .inl _ => sem .bar | .inr k => sem (.rcv k), by
    rintro (a | k) (b | k') h
    · rfl
    · cases sem_inj h
    · cases sem_inj h
    · exact congrArg Sum.inr (Kd.rcv.inj (sem_inj h))⟩

/-- The launch credit of a device, at its barrier and at the targets of the copies to it. -/
theorem credits (c : Dev nD) : (Pipeline.launchCred O₀ c : sProp 𝕄)
    ⊢ iprop(cred (tallyAt (cell c .bar) () 3) ∗ bigSep Finset.univ fun k : Cp => cred (tallyAt (cell c (.rcv k)) () N)) := by
  unfold Pipeline.launchCred
  rw [BI.bigSep_sdiff_split (Finset.subset_univ (Finset.univ.map crdEmb)), bigSep_map, BI.bigSep_univ_sum]
  have h0 : bigSep Finset.univ (fun a : Unit => (cred (tallyOn ((c.tc : Thread nD τ), crdEmb (.inl a)) (launchCredit (Pipeline.owing O₀) 0 ((c.tc : Thread nD τ), crdEmb (.inl a)))) : sProp 𝕄))
      = cred (tallyAt (cell c .bar) () 3) := by
    rw [show (Finset.univ : Finset Unit) = {()} from rfl, BI.bigSep_singleton, ← credit_bar]; rfl
  have h1 : bigSep Finset.univ (fun k : Cp => (cred (tallyOn ((c.tc : Thread nD τ), crdEmb (.inr k)) (launchCredit (Pipeline.owing O₀) 0 ((c.tc : Thread nD τ), crdEmb (.inr k)))) : sProp 𝕄))
      = bigSep Finset.univ fun k : Cp => cred (tallyAt (cell c (.rcv k)) () N) :=
    bigSep_congr fun k _ => by rw [← credit_rcv]; rfl
  rw [h0, h1]
  show iprop((cred (tallyAt (cell c .bar) () 3) ∗ bigSep Finset.univ fun k : Cp => cred (tallyAt (cell c (.rcv k)) () N))
    ∗ bigSep (Finset.univ \ Finset.univ.map crdEmb) fun sm => cred (tallyOn ((c.tc : Thread nD τ), sm) (launchCredit (Pipeline.owing O₀) 0 ((c.tc : Thread nD τ), sm)))) ⊢ _
  iintro ⟨⟨H1, H2⟩, -⟩
  isplitl [H1] <;> iassumption

/-! ## The launch -/

variable (pb : Parts F)

/-- The launch's ghost state. -/
def u₀ : UU :=
  (initOf (Pipeline.cells cfgs cellOf_inj) (Pipeline.launchToks cfgs cellOf_inj), launchOf barCells ownCells toks)

/-- The protocol's half of it, kept whole on device 0 until the launch. -/
def G (c : Dev nD) : sProp 𝕄 := if c = 0 then BI.own (ER (launchOf barCells ownCells toks)) else iprop(emp)

theorem G_all : bigSep Finset.univ (G (F := F)) = BI.own (ER (launchOf barCells ownCells toks)) := by
  rw [BI.bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem u₀_split : (ownU u₀ : sProp 𝕄) ⊢ |={Set.univ}=> iprop(BI.own (EP (initOf (Pipeline.cells cfgs cellOf_inj) (Pipeline.launchToks cfgs cellOf_inj)))
    ∗ bigSep Finset.univ (G (F := F))) := by
  rw [G_all]
  unfold u₀
  iintro Hu
  ihave H := (ownU_pair _ _) $$ Hu
  icases H with ⟨HP, HX⟩
  imodintro
  isplitl [HP] <;> iassumption

/-- What a device owes at the launch, and the random state. -/
def start (c : Dev nD) : sProp 𝕄 := iprop((∃ W, owes (c : Thread nD τ) (O₀ c) W) ∗ ∃ r, prngReg c r)

/-- The credits of a device: for its barrier and for the arrivals it waits for. -/
def crd (c : Dev nD) : sProp 𝕄 := iprop(cred (tallyAt (cell c .bar) () 3) ∗ (bigSep Finset.univ fun k : Cp => cred (tallyAt (cell c (.rcv k)) () N)))

/-- What a device takes to the kernel: its share of the launch, what it owes and the random state. -/
def Pre (c : Dev nD) : sProp 𝕄 :=
  iprop(Tk pb c ∗ start (F := F) c)

/-- What every device may consult. -/
def shared (K : GSem nD τ sig → ℕ) : sProp 𝕄 := iprop(Recs pb K ∗ bigSep Finset.univ fun c : Dev nD => reached ER (cell c .bar) 0)
instance (K : GSem nD τ sig → ℕ) : BI.Persistent (shared pb K) := by unfold shared; infer_instance

/-- What is a device's own after the launch. -/
def part (c : Dev nD) : sProp 𝕄 :=
  iprop(dealt (F := F) c ∗ crd (F := F) c
    ∗ atPos ER (cell c .bar) 0 ∅ 0 ∗ (bigSep Finset.univ fun o : Own => openTok ER (cell c (ownKd o)))
    ∗ start (F := F) c)

theorem bars_of (c : Dev nD) : iprop((bigSep Finset.univ fun c : Dev nD => reached ER (cell c .bar) 0) ∗ bigSep Finset.univ fun d : Fin 3 => dutyTok ER (cell (giv d c) .bar) 0 d)
    ⊢ (bars c : sProp 𝕄) := by
  unfold bars
  have h (d : Fin 3) : iprop((bigSep Finset.univ fun c : Dev nD => reached ER (cell c .bar) 0) ∗ dutyTok ER (cell (giv d c) .bar) 0 d)
      ⊢ (iprop(dutyTok ER (cell (giv d c) .bar) 0 d ∗ reached ER (cell (giv d c) .bar) 0) : sProp 𝕄) := by
    have he : (bigSep Finset.univ fun c : Dev nD => reached ER (cell c .bar) 0) ⊢ (reached ER (cell (giv d c) .bar) 0 : sProp 𝕄) :=
      BI.bigSep_elim (Finset.mem_univ (giv d c))
    iintro ⟨HR, Ht⟩
    isplitl [Ht]; · iexact Ht
    iapply he $$ HR
  exact BI.bigSep_with_persistent fun d _ => h d

theorem pre_of (K : GSem nD τ sig → ℕ) (c : Dev nD) : iprop(shared pb K ∗ part (F := F) c) ⊢ Pre pb c := by
  unfold shared part dealt crd Pre Tk
  iintro ⟨⟨#HK, #HR⟩, ⟨Hb, Hs, Hr, Ho⟩, ⟨Hcb, Hcr⟩, Hat, Hop, HO⟩
  isplitr [HO]
  · iexists K
    isplitr; · iexact HK
    isplitl [Hb]
    · iapply (bars_of (F := F) c)
      isplitr; · iexact HR
      iexact Hb
    isplitl [Hs]; · iexact Hs
    isplitl [Hr]; · iexact Hr
    isplitl [Hcr]; · iexact Hcr
    isplitl [Ho]; · iexact Ho
    isplitl [Hat]; · iexact Hat
    isplitl [Hcb] <;> iassumption
  iexact HO

theorem unscoped_bar (c : Dev nD) : (unscopedSems0 c : sProp 𝕄) = semVal (cell c .bar) 0 := by
  unfold unscopedSems0
  rw [show (Finset.univ.filter fun sm : SemLoc sig => ¬ sm.isScoped .tc) = {SemLoc.reg barrier0} from by decide, BI.bigSep_singleton]
  rfl

/-- The invariants of all cells, one family over devices and kinds. -/
theorem recs_of (K : GSem nD τ sig → ℕ) : (bigSep (barCells ∪ ownCells) fun g => (cellInv ER (Rd pb) (K g) g : sProp 𝕄)) ⊢ Recs pb K := by
  unfold Recs
  have h (p : Dev nD × Kd) : iprop((bigSep (barCells ∪ ownCells) fun g => (cellInv ER (Rd pb) (K g) g : sProp 𝕄)) ∗ emp)
      ⊢ cellInv ER (Rd pb) (K (cell p.1 p.2)) (cell p.1 p.2) := by
    have he : (bigSep (barCells ∪ ownCells) fun g => (cellInv ER (Rd pb) (K g) g : sProp 𝕄))
        ⊢ cellInv ER (Rd pb) (K (cell p.1 p.2)) (cell p.1 p.2) := BI.bigSep_elim (cell_mem p.1 p.2)
    iintro ⟨H, -⟩
    iapply he $$ H
  have h' := BI.bigSep_with_persistent (R := bigSep (barCells ∪ ownCells) fun g => (cellInv ER (Rd pb) (K g) g : sProp 𝕄)) (S := Finset.univ) (Φ := fun _ : Dev nD × Kd => iprop(emp)) fun p _ => h p
  iintro H
  iapply h'
  isplitl [H]; · iexact H
  rw [show (bigSep Finset.univ fun _ : Dev nD × Kd => (iprop(emp) : sProp 𝕄)) = BI.emp from BI.bigSep_emp_const _]
  iempintro

/-- The launch: from the barrier counters at zero, what each device owes and its credit, and the ghost state, every device's start. -/
theorem launch_ (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (Pre pb) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(semVal (cell c .bar) 0 ∗ G (F := F) c
        ∗ crd (F := F) c
        ∗ start (F := F) c) : sProp 𝕄) := by
    rw [unscoped_bar]
    unfold crd start
    iintro ⟨Hv, HO, Hc, Hp, HG⟩
    isplitl [Hv]; · iexact Hv
    isplitl [HG]; · iexact HG
    isplitl [Hc]; · iapply (credits (F := F) c) $$ Hc
    isplitl [HO]; · iexists ∅; iexact HO
    iexists (ρ c); iexact Hp
  have hall : (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => (iprop(semVal (cell c .bar) 0 ∗ G (F := F) c
        ∗ crd (F := F) c
        ∗ start (F := F) c) : sProp 𝕄)) := bigSep_mono fun c _ => hcore c
  have hsep : (bigSep Finset.univ fun c : Dev nD => (iprop(semVal (cell c .bar) 0 ∗ G (F := F) c
        ∗ crd (F := F) c
        ∗ start (F := F) c) : sProp 𝕄))
      = iprop((bigSep Finset.univ fun c : Dev nD => semVal (cell c .bar) 0) ∗ BI.own (ER (launchOf barCells ownCells toks))
        ∗ (bigSep Finset.univ fun c : Dev nD => crd (F := F) c)
        ∗ bigSep Finset.univ fun c : Dev nD => start (F := F) c) := by
    rw [BI.bigSep_sep', BI.bigSep_sep', BI.bigSep_sep', G_all]
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (cell c .bar) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ fun o : Own => (openTok ER (cell c (ownKd o)) : sProp 𝕄)) :=
    Entails.of_eq ((bigSep_map (s := Finset.univ) ownEmb (Φ := fun g : GSem nD τ sig => (openTok ER g : sProp 𝕄))).trans (BI.bigSep_univ_prod _))
  iintro ⟨H, -⟩
  ihave H' := (hall.trans (Entails.of_eq hsep)) $$ H
  icases H' with ⟨Hv, HG, Hc, HO⟩
  imod (Rounds.fund_launch ER (Rd pb) cells_disjoint (fun g _ h => h) toks) $$ [Hv HG] with ⟨%K, -, #Hinv, #Hr, Hat, Hopen, Htok⟩
  · isplitl [Hv]
    · iapply hv $$ Hv
    · iexact HG
  imodintro
  iapply (BI.bigSep_with_persistent (R := shared pb K) (Φ := fun c => part (F := F) c) fun c _ => pre_of pb K c)
  isplitr
  · unfold shared
    isplitr; · iapply (recs_of pb K) $$ Hinv
    iapply hre $$ Hr
  unfold part
  rw [BI.bigSep_sep', BI.bigSep_sep', BI.bigSep_sep', BI.bigSep_sep']
  isplitl [Htok]; · iapply (Entails.of_eq (toks_dealt (F := F))) $$ Htok
  isplitl [Hc]; · iexact Hc
  isplitl [Hat]; · iapply hat $$ Hat
  isplitl [Hopen]; · iapply hopen $$ Hopen
  iexact HO

end Cert.KernelIdeal.Ring

end
-- ==== Proof.Ideal.Run.lean ====
/-
  The run of the whole program on the mesh.
-/
module

public import proofs.«01_k».proof.Proof.Ideal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (m : (ℓ : Loc nD τ sig) → Buf (Elt F) ℓ) (ρ : Dev nD → PrngReg)

/-- What a device holds beside its memory, before and after the kernel. -/
def Rest : Fin 2 → Dev nD → sProp 𝕄
  | 0, c => Pre (prod m) c
  | 1, c => iprop(semVal (cell c .bar) 0 ∗ ∃ W, owes (c : Thread nD τ) (0 : CellTallies nD τ sig Unit) W)

/-- The memory at the end of the host operations, with the device's share of the launch, is the region's start. -/
theorem region_pre (c : Dev nD) : iprop(StableHlo.held (c : Thread nD τ) (Pipeline.ucRefs τ sig) (V3 m c) ∗ Rest m 0 c) ⊢ (region m).pre c := by
  show _ ⊢ iprop(StableHlo.held (c.tc : Thread nD τ) (Pipeline.arrRefs (τ := τ) (pcfgs (F := F) 0).spec) (V3 m c) ∗ (∃ r, prngReg c r)
    ∗ (StableHlo.held (c.tc : Thread nD τ) Sr (V3 m c) ∗ emp) ∗ Tk (prod m) c ∗ ∃ Wd, owes (c : Thread nD τ) (0 + O₀ c) Wd)
  rw [zero_add, StableHlo.held_sub_split (c.tc : Thread nD τ) arr_sub (V3 m c)]
  unfold Rest Pre start
  iintro ⟨⟨Ha, Hs⟩, Ht, HO, Hp⟩
  isplitl [Ha]; · iexact Ha
  isplitl [Hp]; · iexact Hp
  isplitl [Hs]
  · isplitl [Hs]; · iexact Hs
    iempintro
  isplitl [Ht]; · iexact Ht
  iexact HO

theorem region_post (c : Dev nD) : (region m).post c ⊢ iprop(StableHlo.held (c : Thread nD τ) (Pipeline.ucRefs τ sig) (VF m c) ∗ Rest m 1 c) := by
  show iprop(StableHlo.held (c.tc : Thread nD τ) (Pipeline.arrRefs (τ := τ) (pcfgs (F := F) 0).spec) (VF m c) ∗ (∃ r, prngReg c r)
    ∗ (StableHlo.held (c.tc : Thread nD τ) Sr (VF m c) ∗ emp) ∗ semVal (cell c .bar) 0 ∗ ∃ Wd, owes (c : Thread nD τ) (0 : CellTallies nD τ sig Unit) Wd) ⊢ _
  rw [StableHlo.held_sub_split (c.tc : Thread nD τ) arr_sub (VF m c)]
  unfold Rest
  iintro ⟨Ha, -, ⟨Hs, -⟩, Hb, HO⟩
  isplitl [Ha Hs]
  · isplitl [Ha]; · iexact Ha
    iexact Hs
  isplitl [Hb] <;> iassumption

theorem unscoped_sem : ∀ sm : SemLoc sig, sm.isScoped .tc = false → sm = .reg barrier0 := by decide

theorem VF_arg0 (c : Dev nD) : VF m c (Proc.devRef .tc main_arg0) = m ((c.tc : Thread nD τ).loc main_arg0) :=
  (VF_of m c _ (by decide)).trans ((V3_of m c main_arg0 (by decide)).trans ((V2_of m c main_arg0 (by decide)).trans (V1_of m c main_arg0 (by decide))))
theorem VF_arg1 (c : Dev nD) : VF m c (Proc.devRef .tc main_arg1) = m ((c.tc : Thread nD τ).loc main_arg1) :=
  (VF_of m c _ (by decide)).trans ((V3_of m c main_arg1 (by decide)).trans ((V2_of m c main_arg1 (by decide)).trans (V1_of m c main_arg1 (by decide))))

set_option backward.isDefEq.respectTransparency.types false in
/-- The run: from any memory with all counters at zero every execution ends; the arguments are unchanged, the result of every
    device is the ring's sum of the partial products, and every counter is at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v17) = outV (prod m) c) ∧ r.2.sem = fun _ => 0) := by
  refine Pipeline.θ_run_regions_kit_dev_sems (pcfgs (F := F)) adm (pdats m) () cellOf_inj EP defs₀ 𝒱₀ L lv m ρ main
    (segs m 𝒱₀ L lv (Rest m) () (pdats m) (region m))
    (fun c Q => by
      rewrite [main_chain c, Pipeline.Seg.run_eq_chain,
        show (segs m 𝒱₀ L lv (Rest m) () (pdats m) (region m) c).map Pipeline.Seg.prog = [
          StableHlo.seq (hostOps0 c), StableHlo.seq hostOps0_1, StableHlo.seq hostOps0_2,
          Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) u₀ u₀_split
    (T₀ := fun c => iprop(StableHlo.held (c : Thread nD τ) (Pipeline.ucRefs τ sig) (V0 m c) ∗ Rest m 0 c))
    (Tₙ := fun c => iprop(StableHlo.held (c : Thread nD τ) (Pipeline.ucRefs τ sig) (VF m c) ∗ semVal (cell c .bar) 0))
    (hch := fun c => ⟨.rfl, .rfl, .rfl, region_pre m c, (region_post m c).trans ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v17) = outV (prod m) c) ∧ s.sem (cell c .bar) = 0)
    (hfin := fun c s' => ?_)
    (hQ := fun s h hs => ⟨fun c => (h c).1, sem_eq_zero hs fun c sm hsm => by
      obtain rfl := unscoped_sem sm hsm
      exact (h c).2⟩)
  · unfold Rest
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c)) : sProp 𝕄) := by
      rw [← BI.bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_ (prod m) ρ) $$ [Hr Hla] with HE
    · isplitl [Hr]; · iexact Hr
      iexact Hla
    imodintro
    rw [BI.bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (VF m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (VF_arg0 m c),
        (h (Proc.devRef .tc main_arg1) (Finset.mem_filter.mpr ⟨StableHlo.devRef_mem_tcRefs main_arg1, by decide⟩)).trans (VF_arg1 m c),
        (h (Proc.devRef .tc main_v17) (Finset.mem_filter.mpr ⟨StableHlo.devRef_mem_tcRefs main_v17, by decide⟩)).trans (VF_v17 m c)⟩, by simpa using hb⟩
    · iexact HSI

end Cert.KernelIdeal.Ring

end
-- ==== Proof.Ideal.Blocks.lean ====
/-
  The operands of the partial products, at an index.

  The host operations before the kernel leave the first operand as it was given and cut from the second the 1024 columns
  that belong to the device's ring position. A point of the grid fetches 512 columns of the first operand and 256
  columns of the cut.
-/
module

public import proofs.«01_k».proof.Proof.Ideal.Body
public import Idealize.ShloMosaic.Lib.DynamicIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ UU ℕ

variable (m : (ℓ : Loc nD τ sig) → Buf (Elt F) ℓ)

/-! ## What the host operations leave -/

/-- The first operand is as it was given. -/
theorem V3_arg0 (c : Dev nD) : V3 m c main_arg0 = m ((c.tc : Thread nD τ).loc main_arg0) :=
  (V3_of m c main_arg0 (by decide)).trans ((V2_of m c main_arg0 (by decide)).trans (V1_of m c main_arg0 (by decide)))

/-- The word the host operations compute for the ring position of device `c`. -/
def posW (c : Dev nD) : IVec S_ 32 :=
  select (cmpi .eq (Host.remui (Host.divui (constantI S_ 32 (Dev.word c)) (constantI S_ 32 4#32)) (constantI S_ 32 2#32)) (constantI S_ 32 0#32))
    (Host.remui (Host.divui (constantI S_ 32 (Dev.word c)) (constantI S_ 32 1#32)) (constantI S_ 32 4#32))
    (subi (constantI S_ 32 7#32) (Host.remui (Host.divui (constantI S_ 32 (Dev.word c)) (constantI S_ 32 1#32)) (constantI S_ 32 4#32)))

/-- The word of the first column of the cut. -/
def colW (p : IVec S_ 32) : IVec S_ 32 :=
  select (cmpi .slt (muli p (constantI S_ 32 1024#32)) (constantI S_ 32 0#32))
    (addi (muli p (constantI S_ 32 1024#32)) (constantI S_ 32 8192#32)) (muli p (constantI S_ 32 1024#32))

/-- The cut starts at 1024 times the ring position. -/
theorem colW_toInt (c : Dev nD) (i : S_.Idx) : (colW (posW c) i).toInt = ((1024 * (posOf c).val : ℕ) : Int) := by
  have e : i = fun a => a.elim0 := funext fun a => a.elim0
  subst e
  revert c
  decide

/-- Whether the device is in the row `y = 0`, as the first stretch of host operations computes it. -/
theorem V1_v9 (c : Dev nD) : V1 m c main_v9 = cmpi .eq (Host.remui (Host.divui (constantI S_ 32 (Dev.word c)) (constantI S_ 32 4#32)) (constantI S_ 32 2#32)) (constantI S_ 32 0#32) := by
  show StableHlo.after (hostOps0 c) _ (Proc.devRef .tc main_v9) = _
  after_results
  rfl

/-- The device's `z`, as the first stretch computes it. -/
theorem V1_v8 (c : Dev nD) : V1 m c main_v8 = Host.remui (Host.divui (constantI S_ 32 (Dev.word c)) (constantI S_ 32 1#32)) (constantI S_ 32 4#32) := by
  show StableHlo.after (hostOps0 c) _ (Proc.devRef .tc main_v8) = _
  after_results
  rfl

/-- `7 - z`, as the first stretch computes it. -/
theorem V1_v10 (c : Dev nD) : V1 m c main_v10
    = subi (constantI S_ 32 7#32) (Host.remui (Host.divui (constantI S_ 32 (Dev.word c)) (constantI S_ 32 1#32)) (constantI S_ 32 4#32)) := by
  show StableHlo.after (hostOps0 c) _ (Proc.devRef .tc main_v10) = _
  after_results
  rfl

/-- The second stretch of host operations chooses between the two positions. -/
theorem after_v11 (V : Valuation τ sig (Elt F)) :
    StableHlo.after hostOps0_1 V (Proc.devRef .tc main_v11) = select (V (Proc.devRef .tc main_v9)) (V (Proc.devRef .tc main_v8)) (V (Proc.devRef .tc main_v10)) := by
  after_results
  rfl

/-- After the second stretch the ring position's word is in place. -/
theorem V2_v11 (c : Dev nD) : V2 m c main_v11 = posW c := by
  have h : V2 m c main_v11 = select (V1 m c main_v9) (V1 m c main_v8) (V1 m c main_v10) := after_v11 (V1 m c)
  rw [h, V1_v9, V1_v8, V1_v10]
  rfl

/-- The third stretch cuts the second operand at the column computed from the position. -/
theorem after_v16 (V : Valuation τ sig (Elt F)) (X : S4096x8192.Idx → F .f32) (p : IVec S_ 32)
    (hX : V (Proc.devRef .tc main_arg1) = X) (hp : V (Proc.devRef .tc main_v11) = p) :
    StableHlo.after hostOps0_2 V (Proc.devRef .tc main_v16) = Host.dynamicSlice S4096x1024 X
      (fun k => ((![constantI S_ 32 0#32, colW p] : Fin 2 → IVec S_ 32) k (Shape.Idx.first h_S_)).toInt) sliceFits_S4096x8192_S4096x1024 := by
  subst hX hp
  after_results
  refine congrArg (fun f => Host.dynamicSlice S4096x1024 _ f _) (funext fun k => ?_)
  refine congrArg (fun v : IVec S_ 32 => (v (Shape.Idx.first h_S_)).toInt) ?_
  refine eq_of_heq ((cast_heq _ _).trans ?_)
  fin_cases k
  · refine heq_of_eq ?_
    show HloOp.result _ _ (Proc.devRef .tc main_c_8) = _
    after_results
    rfl
  · refine heq_of_eq ?_
    show HloOp.result _ _ (Proc.devRef .tc main_v15) = _
    after_results
    rfl

/-- The cut, as the host operations make it. -/
theorem V3_v16 (c : Dev nD) : V3 m c main_v16 = Host.dynamicSlice S4096x1024 (m ((c.tc : Thread nD τ).loc main_arg1))
    (fun k => ((![constantI S_ 32 0#32, colW (posW c)] : Fin 2 → IVec S_ 32) k (Shape.Idx.first h_S_)).toInt) sliceFits_S4096x8192_S4096x1024 :=
  after_v16 (V2 m c) _ _ ((V2_of m c main_arg1 (by decide)).trans (V1_of m c main_arg1 (by decide))) (V2_v11 m c)

/-- The cut at an index: the second operand, `1024` times the ring position to the right. -/
theorem V3_v16_apply (c : Dev nD) (k : Fin 4096) (j : Fin 1024) : V3 m c main_v16 (ValueIdx.ix2 k j)
    = m ((c.tc : Thread nD τ).loc main_arg1) (ValueIdx.ix2 k ⟨1024 * (posOf c).val + j.val, by omega⟩) := by
  have hs : S4096x8192.Slices ![0, 1024 * (posOf c).val] S4096x1024 := ⟨rfl, fun a => by
    fin_cases a
    · show 0 + 4096 ≤ 4096
      omega
    · show 1024 * (posOf c).val + 1024 ≤ 8192
      omega⟩
  rw [V3_v16]
  refine (congrFun (Host.dynamicSlice_eq_extractStridedSlice (s := S4096x8192) S4096x1024 _ _ ![0, 1024 * (posOf c).val]
    sliceFits_S4096x8192_S4096x1024 hs fun a => ?_) _).trans ?_
  · fin_cases a
    · rfl
    · exact colW_toInt c _
  show m ((c.tc : Thread nD τ).loc main_arg1) _ = m ((c.tc : Thread nD τ).loc main_arg1) _
  congr 1
  funext a
  fin_cases a
  · exact Fin.ext (Nat.zero_add _)
  · rfl

/-! ## The blocks a point fetches -/

/-- The block number of the first operand at point `t`: row of blocks 0, column of blocks `t mod 8`. -/
theorem index0 (t : Fin grid0.N) : win0_0.index t 0 = 0 ∧ win0_0.index t 1 = t.val % 8 := by revert t; decide +kernel
/-- The block number of the cut at point `t`: row of blocks 0, column of blocks `t / 8`. -/
theorem index1 (t : Fin grid0.N) : win0_1.index t 0 = 0 ∧ win0_1.index t 1 = t.val / 8 := by revert t; decide +kernel

/-- A point's block of the first operand: the columns of its part of the rows of the product. -/
theorem blkX_apply (c : Dev nD) (t : Fin cfg0.N) (k : Fin 4096) (r : Fin 512) : blkX m c t (ValueIdx.ix2 k r)
    = m ((c.tc : Thread nD τ).loc main_arg0) (ValueIdx.ix2 k ⟨512 * (t.val % 8) + r.val, by omega⟩) := by
  rw [← V3_arg0 m c]
  unfold blkX
  show V3 m c main_arg0 ((win0_0.rect t).emb _) = V3 m c main_arg0 _
  congr 1
  funext a
  refine Fin.ext ?_
  refine (Pipeline.Window.rect_emb_val win0_0 t _ a rfl).trans ?_
  fin_cases a
  · show win0_0.index t 0 * 4096 + k.val = k.val
    rw [(index0 t).1]; omega
  · show win0_0.index t 1 * 512 + r.val = 512 * (t.val % 8) + r.val
    rw [(index0 t).2]; omega

/-- A point's block of the cut: the columns of its product. -/
theorem blkD_apply (c : Dev nD) (t : Fin cfg0.N) (k : Fin 4096) (j : Fin 256) : blkD m c t (ValueIdx.ix2 k j)
    = m ((c.tc : Thread nD τ).loc main_arg1) (ValueIdx.ix2 k ⟨1024 * (posOf c).val + (256 * (t.val / 8) + j.val), by
      have : t.val < 32 := Nat.lt_of_lt_of_eq t.isLt N_0
      omega⟩) := by
  have hN : t.val < 32 := Nat.lt_of_lt_of_eq t.isLt N_0
  refine Eq.trans ?_ (V3_v16_apply m c k ⟨256 * (t.val / 8) + j.val, by omega⟩)
  unfold blkD
  show V3 m c main_v16 ((win0_1.rect t).emb _) = V3 m c main_v16 _
  congr 1
  funext a
  refine Fin.ext ?_
  refine (Pipeline.Window.rect_emb_val win0_1 t _ a rfl).trans ?_
  fin_cases a
  · show win0_1.index t 0 * 4096 + k.val = k.val
    rw [(index1 t).1]; omega
  · show win0_1.index t 1 * 256 + j.val = 256 * (t.val / 8) + j.val
    rw [(index1 t).2]; omega

end Cert.KernelIdeal.Ring

end
-- ==== Proof.Ideal.Product.lean ====
/-
  The partial products over the extended reals, as sums.
-/
module

public import proofs.«01_k».proof.Proof.Ideal.Blocks
public import Idealize.ShloMosaic.Lib.Pointwise

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

/-! ## One point's product -/

/-- The product of two blocks at an index: the sum over the 4096 rows of both. -/
theorem pay_apply (x : S4096x512.Idx → Ideal .f32) (d : S4096x256.Idx → Ideal .f32) (r : Fin 512) (j : Fin 256) :
    k0_pay5 (F := Ideal) x d (ValueIdx.ix2 r j) = ∑ k : Fin 4096, x (ValueIdx.ix2 k r) * d (ValueIdx.ix2 k j) := by
  show k0_pay5 (F := Ideal) x d (Idealize.ShloMosaic.ix2 r j) = _
  pointwise [k0_pay5]
  rfl

/-! ## The products of a device -/

variable (m : (ℓ : Loc nD τ sig) → Buf (Elt Ideal) ℓ)

/-- The first operand of device `c`. -/
def argX (c : Dev nD) : S4096x4096.Idx → Ideal .f32 := m ((c.tc : Thread nD τ).loc main_arg0)

/-- The second operand of device `c`. -/
def argD (c : Dev nD) : S4096x8192.Idx → Ideal .f32 := m ((c.tc : Thread nD τ).loc main_arg1)

/-- A device's product number `cc` at row `r` and column `j`: column `r` of its first operand against the column of its second
    operand that belongs to the product. -/
theorem prod_apply (c : Dev nD) (cc : Fin 4) (r : Fin 4096) (j : Fin 256) (C : Fin 8192)
    (hC : C.val = 1024 * (posOf c).val + (256 * cc.val + j.val)) :
    prod m c cc r j = ∑ k : Fin 4096, argX m c (ValueIdx.ix2 k r) * argD m c (ValueIdx.ix2 k C) := by
  unfold prod
  refine (pay_apply _ _ _ _).trans (Finset.sum_congr rfl fun k _ => ?_)
  rw [blkX_apply, blkD_apply]
  refine congrArg₂ (· * ·) (congrArg (argX m c) (congrArg (ValueIdx.ix2 k) (Fin.ext ?_))) (congrArg (argD m c) (congrArg (ValueIdx.ix2 k) (Fin.ext ?_)))
  · show 512 * ((8 * cc.val + r.val / 512) % 8) + r.val % 512 = r.val
    omega
  · show 1024 * (posOf c).val + (256 * ((8 * cc.val + r.val / 512) / 8) + j.val) = C.val
    omega

end Cert.KernelIdeal.Ring

end
-- ==== Proof.Ideal.Equation.lean ====
/-
  The result of the kernel over the extended reals: a sum over the 8192 rows of both whole operands.
-/
module

public import proofs.«01_k».proof.Proof.Ideal.Product

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

/-! ## A sum in two halves -/

/-- A sum over 8192 rows, by halves: first the half that is not `x`, then the half that is. -/
theorem sum_halves {M : Type} [AddCommMonoid M] (f : Fin 8192 → M) (x : Fin 2) :
    ∑ k : Fin 4096, f ⟨(1 - x).val * 4096 + k.val, by omega⟩ + ∑ k : Fin 4096, f ⟨x.val * 4096 + k.val, by omega⟩ = ∑ k : Fin 8192, f k := by
  have h : ∑ k : Fin 8192, f k = ∑ k : Fin 4096, f ⟨0 * 4096 + k.val, by omega⟩ + ∑ k : Fin 4096, f ⟨1 * 4096 + k.val, by omega⟩ := by
    refine (Fin.sum_univ_add (a := 4096) (b := 4096) f).trans (congrArg₂ (· + ·) (Finset.sum_congr rfl fun k _ => congrArg f (Fin.ext ?_))
      (Finset.sum_congr rfl fun k _ => congrArg f (Fin.ext ?_)))
    · show k.val = 0 * 4096 + k.val
      omega
    · show 4096 + k.val = 1 * 4096 + k.val
      omega
  rw [h]
  fin_cases x
  · exact add_comm _ _
  · rfl

/-! ## The result -/

variable (m : (ℓ : Loc nD τ sig) → Buf (Elt Ideal) ℓ)
variable (A : (⟨2, ![8192, 4096]⟩ : Shape).Idx → Ideal .f32) (B : (⟨2, ![8192, 8192]⟩ : Shape).Idx → Ideal .f32)

/-- One device's product, in the whole operands: the sum over the rows the device holds. -/
theorem prod_whole (hA : ∀ c k r, argX m c (ValueIdx.ix2 k r) = A (ValueIdx.ix2 ⟨(xOf c).val * 4096 + k.val, by omega⟩ r))
    (hB : ∀ c k j, argD m c (ValueIdx.ix2 k j) = B (ValueIdx.ix2 ⟨(xOf c).val * 4096 + k.val, by omega⟩ j))
    (x : Fin 2) (c : Dev nD) (cc : Fin 4) (r : Fin 4096) (j : Fin 256) (C : Fin 8192) (hx : xOf c = x)
    (hC : C.val = 1024 * (posOf c).val + (256 * cc.val + j.val)) :
    prod m c cc r j = ∑ k : Fin 4096, A (ValueIdx.ix2 ⟨x.val * 4096 + k.val, by omega⟩ r) * B (ValueIdx.ix2 ⟨x.val * 4096 + k.val, by omega⟩ C) := by
  subst hx
  rw [prod_apply m c cc r j C hC]
  exact Finset.sum_congr rfl fun k _ => by rw [hA, hB]

/-- The result of device `c`: the transpose of the whole first operand times the whole second, at the rows of the device's ring. -/
theorem out_whole (hA : ∀ c k r, argX m c (ValueIdx.ix2 k r) = A (ValueIdx.ix2 ⟨(xOf c).val * 4096 + k.val, by omega⟩ r))
    (hB : ∀ c k j, argD m c (ValueIdx.ix2 k j) = B (ValueIdx.ix2 ⟨(xOf c).val * 4096 + k.val, by omega⟩ j))
    (c : Dev nD) (r : Fin 2048) (C : Fin 8192) :
    outV (prod m) c (ValueIdx.ix2 r C) = ∑ k : Fin 8192, A (ValueIdx.ix2 k (row (xOf c) r)) * B (ValueIdx.ix2 k C) := by
  rw [← sum_halves _ (xOf c)]
  have hq : C.val / 1024 < 8 := by omega
  refine congrArg₂ (fun a b : Ideal .f32 => a + b)
    ((congrArg (fun x => prod m _ _ (row x r) _) (xOf_dev _ ⟨C.val / 1024, hq⟩)).trans (prod_whole m A B hA hB _ _ _ _ _ C ?_ ?_))
    ((congrArg (fun x => prod m _ _ (row x r) _) (xOf_dev _ ⟨C.val / 1024, hq⟩)).trans (prod_whole m A B hA hB _ _ _ _ _ C ?_ ?_))
  · rw [xOf_par, xOf_dev]
  · rw [posOf_par, posOf_dev]
    show C.val = 1024 * (C.val / 1024) + (256 * (C.val % 1024 / 256) + C.val % 256)
    omega
  · exact xOf_dev _ _
  · rw [posOf_dev]
    show C.val = 1024 * (C.val / 1024) + (256 * (C.val % 1024 / 256) + C.val % 256)
    omega

end Cert.KernelIdeal.Ring

end
-- ==== Proof.Ideal.Algebraic.lean ====
/-
  The kernel against the reference over the extended reals.
-/
module

public import proofs.«01_k».proof.Proof.Ideal.Equation
public import proofs.«01_k».proof.Proof.Gen.ReferenceIdeal.Run
public import Idealize.ShloMosaic.Lib.Pointwise

@[expose] public section

noncomputable section

namespace Cert.KernelIdeal.Ring

open Idealize.ShloMosaic Idealize.ShloMosaic.TcCoe Idealize.SL.Sem
open Gen

/-- What the reference computes of two operands. -/
def refV (A : (⟨2, ![8192, 4096]⟩ : Shape).Idx → Ideal .f32) (B : (⟨2, ![8192, 8192]⟩ : Shape).Idx → Ideal .f32) :
    (⟨2, ![4096, 8192]⟩ : Shape).Idx → Ideal .f32 :=
  Host.dotGeneral Cert.ReferenceIdeal.dot_S4096x8192_S8192x8192_S4096x8192_1_0_0_1_n_n none
    (transpose Cert.ReferenceIdeal.S4096x8192 [1, 0] A Cert.ReferenceIdeal.Gen.facts.transposes_S8192x4096_S4096x8192_1_0) B

/-- The reference at an index: column `r` of the first operand against column `C` of the second. -/
theorem refV_apply (A : (⟨2, ![8192, 4096]⟩ : Shape).Idx → Ideal .f32) (B : (⟨2, ![8192, 8192]⟩ : Shape).Idx → Ideal .f32)
    (r : Fin 4096) (C : Fin 8192) : refV A B (ValueIdx.ix2 r C) = ∑ k : Fin 8192, A (ValueIdx.ix2 k r) * B (ValueIdx.ix2 k C) := by
  show refV A B (Idealize.ShloMosaic.ix2 r C) = _
  pointwise [refV]
  rfl

/-! ## The blocks of the whole arrays

Axis 0 is cut in two by the mesh axis `x`; axis 1 is whole. -/

/-- The block number of device `c` on the axis that is cut is its `x`. -/
theorem meshLin_x (c : Dev nD) : Layout.meshLin [2, 2, 4] c.val [0] = (xOf c).val := by revert c; decide

/-- A device's block of the first operand. -/
theorem block_arg0 {α : Type} (c : Dev nD) (X : (⟨2, ![8192, 4096]⟩ : Shape).Idx → α) (k r : Fin 4096) :
    (Layout.blockN ⟨2, ![4096, 4096]⟩ ⟨2, ![8192, 4096]⟩ (Layout.meshBlock [2, 2, 4] ![[0], []] c) X) (ValueIdx.ix2 k r)
      = X (ValueIdx.ix2 ⟨(xOf c).val * 4096 + k.val, by omega⟩ r) := by
  refine congrArg X (funext fun a => Fin.ext ?_)
  fin_cases a
  · show Layout.meshLin [2, 2, 4] c.val [0] * 4096 + k.val = _
    rw [meshLin_x]
  · show 0 * 4096 + r.val = r.val
    omega

/-- A device's block of the second operand. -/
theorem block_arg1 {α : Type} (c : Dev nD) (X : (⟨2, ![8192, 8192]⟩ : Shape).Idx → α) (k : Fin 4096) (j : Fin 8192) :
    (Layout.blockN ⟨2, ![4096, 8192]⟩ ⟨2, ![8192, 8192]⟩ (Layout.meshBlock [2, 2, 4] ![[0], []] c) X) (ValueIdx.ix2 k j)
      = X (ValueIdx.ix2 ⟨(xOf c).val * 4096 + k.val, by omega⟩ j) := by
  refine congrArg X (funext fun a => Fin.ext ?_)
  fin_cases a
  · show Layout.meshLin [2, 2, 4] c.val [0] * 4096 + k.val = _
    rw [meshLin_x]
  · show 0 * 8192 + j.val = j.val
    omega

/-- A device's block of the result. -/
theorem block_res {α : Type} (c : Dev nD) (X : (⟨2, ![4096, 8192]⟩ : Shape).Idx → α) (r : Fin 2048) (j : Fin 8192) :
    (Layout.blockN ⟨2, ![2048, 8192]⟩ ⟨2, ![4096, 8192]⟩ (Layout.meshBlock [2, 2, 4] ![[0], []] c) X) (ValueIdx.ix2 r j)
      = X (ValueIdx.ix2 (row (xOf c) r) j) := by
  refine congrArg X (funext fun a => Fin.ext ?_)
  fin_cases a
  · show Layout.meshLin [2, 2, 4] c.val [0] * 2048 + r.val = (xOf c).val * 2048 + r.val
    rw [meshLin_x]
  · show 0 * 8192 + j.val = j.val
    omega

/-! ## The equation -/

/-- Where every device holds its blocks of `A` and `B`, every device ends with its block of the reference's result. -/
theorem out_eq_ref (m : (ℓ : Loc nD τ sig) → Buf (Elt Ideal) ℓ)
    (A : (⟨2, ![8192, 4096]⟩ : Shape).Idx → Ideal .f32) (B : (⟨2, ![8192, 8192]⟩ : Shape).Idx → Ideal .f32)
    (hA : ∀ c, argX m c = Layout.blockN ⟨2, ![4096, 4096]⟩ ⟨2, ![8192, 4096]⟩ (Layout.meshBlock [2, 2, 4] ![[0], []] c) A)
    (hB : ∀ c, argD m c = Layout.blockN ⟨2, ![4096, 8192]⟩ ⟨2, ![8192, 8192]⟩ (Layout.meshBlock [2, 2, 4] ![[0], []] c) B)
    (c : Dev nD) :
    outV (prod m) c = Layout.blockN ⟨2, ![2048, 8192]⟩ ⟨2, ![4096, 8192]⟩ (Layout.meshBlock [2, 2, 4] ![[0], []] c) (refV A B) := by
  funext i
  rw [ValueIdx.eq_ix2 i]
  refine (out_whole m A B (fun c k r => ?_) (fun c k j => ?_) c _ _).trans
    ((refV_apply A B _ _).symm.trans (block_res c (refV A B) (i 0) (i 1)).symm)
  · rw [hA, block_arg0]
  · rw [hB, block_arg1]

end Cert.KernelIdeal.Ring

end
-- ==== Proof.lean ====
/-
  The claims about the kernel, its idealization and the reference.
-/
module

public import proofs.«01_k».proof.Defs
public import proofs.«01_k».proof.Proof.Bits.Run
public import proofs.«01_k».proof.Proof.Ideal.Run
public import proofs.«01_k».proof.Proof.Ideal.Algebraic
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel runs, its arguments are unchanged and its counters end at zero. -/
theorem quiescent : Cert.quiescent_Kernel (hKernel := Cert.Kernel.Gen.facts) := fun m ρ _ =>
  (θ_run _ _ _).mono (fun _ h => ⟨fun c => ⟨(h.1 c).1, (h.1 c).2.1⟩, h.2⟩) (Cert.Kernel.Ring.run_main (F := Bits) m ρ)

/-- Likewise its idealization. -/
theorem quiescentIdeal : Cert.quiescent_KernelIdeal (hKernelIdeal := Cert.KernelIdeal.Gen.facts) := fun m ρ _ =>
  (θ_run _ _ _).mono (fun _ h => ⟨fun c => ⟨(h.1 c).1, (h.1 c).2.1⟩, h.2⟩) (Cert.KernelIdeal.Ring.run_main (F := Ideal) m ρ)

/-- Likewise the reference, which has no semaphore. -/
theorem quiescentReference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- Over the extended reals every device ends with its block of what the reference computes of the whole arrays. -/
theorem algebraic : Cert.algebraic_KernelIdeal_ReferenceIdeal (hKernelIdeal := Cert.KernelIdeal.Gen.facts)
    (hReferenceIdeal := Cert.ReferenceIdeal.Gen.facts) := fun m ρ m' ρ' _ hb =>
  ⟨Cert.KernelIdeal.Ring.refV _ _,
    (θ_run _ _ _).mono (fun _ h c => ⟨(h.1 c).2.2.trans
      (Cert.KernelIdeal.Ring.out_eq_ref m _ _ (fun c => (hb c).1) (fun c => (hb c).2) c), (h.1 c).1, (h.1 c).2.1⟩)
      (Cert.KernelIdeal.Ring.run_main (F := Ideal) m ρ),
    (θ_run _ _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  quiescent, quiescentIdeal, quiescentReference, trivial, algebraic⟩

end Cert.Proof

end
